-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ preserves_Kernel4_Kernel4Ideal
    ∧ algebraic_Kernel4Ideal_Reference4Ideal (hKernel4Ideal := hKernel4Ideal) (hReference4Ideal := hReference4Ideal)
-- ==== Kernel.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S64x5632 : Shape := ⟨2, ![64, 5632]⟩
abbrev S176x1024 : Shape := ⟨2, ![176, 1024]⟩
abbrev S16x1024 : Shape := ⟨2, ![16, 1024]⟩
abbrev S8x1088x128 : Shape := ⟨3, ![8, 1088, 128]⟩
abbrev S1024x1 : Shape := ⟨2, ![1024, 1]⟩
abbrev S1024x256 : Shape := ⟨2, ![1024, 256]⟩
abbrev S16x256 : Shape := ⟨2, ![16, 256]⟩
abbrev S3x256 : Shape := ⟨2, ![3, 256]⟩
abbrev S1x256 : Shape := ⟨2, ![1, 256]⟩
abbrev S8x256 : Shape := ⟨2, ![8, 256]⟩
abbrev S1016x256 : Shape := ⟨2, ![1016, 256]⟩
abbrev S1008x256 : Shape := ⟨2, ![1008, 256]⟩

abbrev nBuf : Space → Nat
  | .hbm => 17
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024x3072, .bf16⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S16384x1024, .f32⟩
  | .hbm, ⟨15, _⟩ => ⟨S1024x5632, .bf16⟩
  | .hbm, ⟨16, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S64x5632, .f32⟩
  | .local _ .vmem, ⟨9, _⟩ => ⟨S64x5632, .f32⟩
  | .local _ .vmem, ⟨10, _⟩ => ⟨S176x1024, .f32⟩
  | .local _ .vmem, ⟨11, _⟩ => ⟨S176x1024, .f32⟩
  | .local _ .vmem, ⟨12, _⟩ => ⟨S1024x1024, .f32⟩
  | .local _ .vmem, ⟨13, _⟩ => ⟨S1024x1024, .f32⟩
  | .local _ .vmem, ⟨14, _⟩ => ⟨S64x5632, .bf16⟩
  | .local _ .vmem, ⟨15, _⟩ => ⟨S64x5632, .bf16⟩
  | .local _ .vmem, ⟨16, _⟩ => ⟨S176x1024, .bf16⟩
  | .local _ .vmem, ⟨17, _⟩ => ⟨S176x1024, .bf16⟩
  | .local _ .vmem, ⟨18, _⟩ => ⟨S1024x1024, .bf16⟩
  | .local _ .vmem, ⟨19, _⟩ => ⟨S1024x1024, .bf16⟩
  | .local _ .vmem, ⟨20, _⟩ => ⟨S16x1024, .f32⟩
  | .local _ .vmem, ⟨21, _⟩ => ⟨S8x1088x128, .f32⟩
  | .local _ .vmem, ⟨22, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x5632 : Shape := ⟨2, ![1024, 5632]⟩
abbrev S2816x1024 : Shape := ⟨2, ![2816, 1024]⟩
abbrev S16x128x8x1024 : Shape := ⟨4, ![16, 128, 8, 1024]⟩
abbrev S16x8x128x1024 : Shape := ⟨4, ![16, 8, 128, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4098x1024 : Shape := ⟨3, ![4, 4098, 1024]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S16x128x8x1024, .f32⟩
  | .hbm, ⟨10, _⟩ => ⟨S16x8x128x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x3072, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .i32⟩
  | .hbm, ⟨34, _⟩ => ⟨S_, .f32⟩
  | .hbm, ⟨35, _⟩ => ⟨S4x4098x1024, .f32⟩
  | .hbm, ⟨36, _⟩ => ⟨S1x1024, .f32⟩
  | .hbm, ⟨37, _⟩ => ⟨S1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S1x1024, .f32⟩
  | .hbm, ⟨43, _⟩ => ⟨S1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S16x8x128x1024, .f32⟩
  | .hbm, ⟨62, _⟩ => ⟨S16x128x8x1024, .f32⟩
  | .hbm, ⟨63, _⟩ => ⟨S16384x1024, .f32⟩
  | .hbm, ⟨64, _⟩ => ⟨S1024x5632, .bf16⟩
  | .hbm, ⟨65, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x8x128x1024 : Shape := ⟨4, ![16, 8, 128, 1024]⟩
abbrev S16x128x8x1024 : Shape := ⟨4, ![16, 128, 8, 1024]⟩
abbrev S16384x1024 : Shape := ⟨2, ![16384, 1024]⟩
abbrev S1x1024 : Shape := ⟨2, ![1, 1024]⟩
abbrev S1x5632 : Shape := ⟨2, ![1, 5632]⟩
abbrev S1024x1024 : Shape := ⟨2, ![1024, 1024]⟩
abbrev S1024x2816 : Shape := ⟨2, ![1024, 2816]⟩
abbrev S16x5632 : Shape := ⟨2, ![16, 5632]⟩
abbrev S8x1088x128 : Shape := ⟨3, ![8, 1088, 128]⟩
abbrev S1024x1 : Shape := ⟨2, ![1024, 1]⟩
abbrev S1024x256 : Shape := ⟨2, ![1024, 256]⟩
abbrev S16x256 : Shape := ⟨2, ![16, 256]⟩
abbrev S3x256 : Shape := ⟨2, ![3, 256]⟩
abbrev S1x256 : Shape := ⟨2, ![1, 256]⟩
abbrev S8x256 : Shape := ⟨2, ![8, 256]⟩
abbrev S1016x256 : Shape := ⟨2, ![1016, 256]⟩
abbrev S1008x256 : Shape := ⟨2, ![1008, 256]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩

abbrev nBuf : Space → Nat
  | .hbm => 16
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x8x128x1024, .f32⟩
  | .hbm, ⟨8, _⟩ => ⟨S16x128x8x1024, .f32⟩
  | .hbm, ⟨9, _⟩ => ⟨S16384x1024, .f32⟩
  | .hbm, ⟨10, _⟩ => ⟨S1024x5632, .bf16⟩
  | .hbm, ⟨11, _⟩ => ⟨S1x1024, .f32⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x2816, .bf16⟩
  | .local _ .vmem, ⟨12, _⟩ => ⟨S16x5632, .f32⟩
  | .local _ .vmem, ⟨13, _⟩ => ⟨S8x1088x128, .f32⟩
  | .local _ .vmem, ⟨14, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S_, .i32⟩
  | .hbm, ⟨25, _⟩ => ⟨S_, .f32⟩
  | .hbm, ⟨26, _⟩ => ⟨S4x4098x5632, .f32⟩
  | .hbm, ⟨27, _⟩ => ⟨S1x5632, .f32⟩
  | .hbm, ⟨28, _⟩ => ⟨S5632, .f32⟩
  | .hbm, ⟨29, _⟩ => ⟨S4x4096x5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S1x5632, .f32⟩
  | .hbm, ⟨34, _⟩ => ⟨S5632, .f32⟩
  | .hbm, ⟨35, _⟩ => ⟨S4x4096x5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S_, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x3080 : Shape := ⟨2, ![1024, 3080]⟩
abbrev S8 : Shape := ⟨1, ![8]⟩
abbrev S4x256 : Shape := ⟨2, ![4, 256]⟩
abbrev S1024x1024 : Shape := ⟨2, ![1024, 1024]⟩
abbrev S1024x5632 : Shape := ⟨2, ![1024, 5632]⟩
abbrev S2816x1024 : Shape := ⟨2, ![2816, 1024]⟩
abbrev S16384x1024 : Shape := ⟨2, ![16384, 1024]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S1024x3072 : Shape := ⟨2, ![1024, 3072]⟩
abbrev S64x5632 : Shape := ⟨2, ![64, 5632]⟩
abbrev S176x1024 : Shape := ⟨2, ![176, 1024]⟩
abbrev S1024x512 : Shape := ⟨2, ![1024, 512]⟩
abbrev S4x1024x384 : Shape := ⟨3, ![4, 1024, 384]⟩
abbrev S128x1024 : Shape := ⟨2, ![128, 1024]⟩
abbrev S4x128x384 : Shape := ⟨3, ![4, 128, 384]⟩
abbrev S4x8x128 : Shape := ⟨3, ![4, 8, 128]⟩
abbrev S1024x1 : Shape := ⟨2, ![1024, 1]⟩
abbrev S256x128 : Shape := ⟨2, ![256, 128]⟩
abbrev S1024x256 : Shape := ⟨2, ![1024, 256]⟩
abbrev S1x1024x256 : Shape := ⟨3, ![1, 1024, 256]⟩
abbrev S1x1024x128 : Shape := ⟨3, ![1, 1024, 128]⟩
abbrev S256x256 : Shape := ⟨2, ![256, 256]⟩
abbrev S1x256x384 : Shape := ⟨3, ![1, 256, 384]⟩
abbrev S256x384 : Shape := ⟨2, ![256, 384]⟩
abbrev S256x1 : Shape := ⟨2, ![256, 1]⟩
abbrev S1x256 : Shape := ⟨2, ![1, 256]⟩
abbrev S1x1 : Shape := ⟨2, ![1, 1]⟩
abbrev S1x1x1 : Shape := ⟨3, ![1, 1, 1]⟩
abbrev S1x128x384 : Shape := ⟨3, ![1, 128, 384]⟩
abbrev S128x384 : Shape := ⟨2, ![128, 384]⟩
abbrev S256 : Shape := ⟨1, ![256]⟩
abbrev S1 : Shape := ⟨1, ![1]⟩
abbrev S128x256 : Shape := ⟨2, ![128, 256]⟩
abbrev S8x128 : Shape := ⟨2, ![8, 128]⟩
abbrev S1x8x128 : Shape := ⟨3, ![1, 8, 128]⟩

abbrev nBuf : Space → Nat
  | .hbm => 24
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S4x256, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S16384x1024, .f32⟩
  | .hbm, ⟨9, _⟩ => ⟨S1024x3080, .bf16⟩
  | .hbm, ⟨10, _⟩ => ⟨S1024x8, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S16384x1024, .f32⟩
  | .hbm, ⟨22, _⟩ => ⟨S1024x5632, .bf16⟩
  | .hbm, ⟨23, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1x1024, .f32⟩
  | .local _ .vmem, ⟨7, _⟩ => ⟨S1024x1024, .bf16⟩
  | .local _ .vmem, ⟨8, _⟩ => ⟨S64x5632, .f32⟩
  | .local _ .vmem, ⟨9, _⟩ => ⟨S64x5632, .f32⟩
  | .local _ .vmem, ⟨10, _⟩ => ⟨S176x1024, .f32⟩
  | .local _ .vmem, ⟨11, _⟩ => ⟨S176x1024, .f32⟩
  | .local _ .vmem, ⟨12, _⟩ => ⟨S1024x1024, .f32⟩
  | .local _ .vmem, ⟨13, _⟩ => ⟨S1024x1024, .f32⟩
  | .local _ .vmem, ⟨14, _⟩ => ⟨S64x5632, .bf16⟩
  | .local _ .vmem, ⟨15, _⟩ => ⟨S64x5632, .bf16⟩
  | .local _ .vmem, ⟨16, _⟩ => ⟨S176x1024, .bf16⟩
  | .local _ .vmem, ⟨17, _⟩ => ⟨S176x1024, .bf16⟩
  | .local _ .vmem, ⟨18, _⟩ => ⟨S1024x1024, .bf16⟩
  | .local _ .vmem, ⟨19, _⟩ => ⟨S1024x512, .bf16⟩
  | .local _ .vmem, ⟨20, _⟩ => ⟨S1024x512, .bf16⟩
  | .local _ .vmem, ⟨21, _⟩ => ⟨S4x1024x384, .bf16⟩
  | .local _ .vmem, ⟨22, _⟩ => ⟨S1024x1024, .f32⟩
  | .local _ .vmem, ⟨23, _⟩ => ⟨S1024x128, .f32⟩
  | .local _ .vmem, ⟨24, _⟩ => ⟨S128x1024, .f32⟩
  | .local _ .vmem, ⟨25, _⟩ => ⟨S1024x1024, .f32⟩
  | .local _ .vmem, ⟨26, _⟩ => ⟨S1024x1024, .bf16⟩
  | .local _ .vmem, ⟨27, _⟩ => ⟨S4x128x384, .f32⟩
  | .local _ .vmem, ⟨28, _⟩ => ⟨S4x8x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x3072 : Shape := ⟨2, ![1024, 3072]⟩
abbrev S1024x1024 : Shape := ⟨2, ![1024, 1024]⟩
abbrev S16384x1024 : Shape := ⟨2, ![16384, 1024]⟩
abbrev S1x1024 : Shape := ⟨2, ![1, 1024]⟩
abbrev S1x5632 : Shape := ⟨2, ![1, 5632]⟩
abbrev S64x3072 : Shape := ⟨2, ![64, 3072]⟩
abbrev S64x1024 : Shape := ⟨2, ![64, 1024]⟩
abbrev S1024x2816 : Shape := ⟨2, ![1024, 2816]⟩
abbrev S16x5632 : Shape := ⟨2, ![16, 5632]⟩
abbrev S8x1088x128 : Shape := ⟨3, ![8, 1088, 128]⟩
abbrev S128x128 : Shape := ⟨2, ![128, 128]⟩
abbrev S1x128x128 : Shape := ⟨3, ![1, 128, 128]⟩
abbrev S1x8x128 : Shape := ⟨3, ![1, 8, 128]⟩
abbrev S8x128 : Shape := ⟨2, ![8, 128]⟩
abbrev S1024x1 : Shape := ⟨2, ![1024, 1]⟩
abbrev S1024x256 : Shape := ⟨2, ![1024, 256]⟩
abbrev S16x256 : Shape := ⟨2, ![16, 256]⟩
abbrev S3x256 : Shape := ⟨2, ![3, 256]⟩
abbrev S1x256 : Shape := ⟨2, ![1, 256]⟩
abbrev S8x256 : Shape := ⟨2, ![8, 256]⟩
abbrev S1016x256 : Shape := ⟨2, ![1016, 256]⟩
abbrev S1008x256 : Shape := ⟨2, ![1008, 256]⟩

abbrev nBuf : Space → Nat
  | .hbm => 18
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x3072, .f32⟩
  | .hbm, ⟨8, _⟩ => ⟨S1024x1024, .f32⟩
  | .hbm, ⟨9, _⟩ => ⟨S16384x1024, .f32⟩
  | .hbm, ⟨10, _⟩ => ⟨S1024x5632, .bf16⟩
  | .hbm, ⟨11, _⟩ => ⟨S1x1024, .f32⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S16384x1024, .f32⟩
  | .hbm, ⟨16, _⟩ => ⟨S1024x3072, .bf16⟩
  | .hbm, ⟨17, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S64x3072, .f32⟩
  | .local _ .vmem, ⟨9, _⟩ => ⟨S64x3072, .f32⟩
  | .local _ .vmem, ⟨10, _⟩ => ⟨S64x1024, .f32⟩
  | .local _ .vmem, ⟨11, _⟩ => ⟨S64x1024, .f32⟩
  | .local _ .vmem, ⟨12, _⟩ => ⟨S1024x1024, .f32⟩
  | .local _ .vmem, ⟨13, _⟩ => ⟨S1024x1024, .f32⟩
  | .local _ .vmem, ⟨14, _⟩ => ⟨S64x3072, .bf16⟩
  | .local _ .vmem, ⟨15, _⟩ => ⟨S64x3072, .bf16⟩
  | .local _ .vmem, ⟨16, _⟩ => ⟨S64x1024, .bf16⟩
  | .local _ .vmem, ⟨17, _⟩ => ⟨S64x1024, .bf16⟩
  | .local _ .vmem, ⟨18, _⟩ => ⟨S1024x1024, .bf16⟩
  | .local _ .vmem, ⟨19, _⟩ => ⟨S1024x2816, .bf16⟩
  | .local _ .vmem, ⟨20, _⟩ => ⟨S16x5632, .f32⟩
  | .local _ .vmem, ⟨21, _⟩ => ⟨S8x1088x128, .f32⟩
  | .local _ .vmem, ⟨22, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x3072 : Shape := ⟨2, ![1024, 3072]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S16x8x128x1024 : Shape := ⟨4, ![16, 8, 128, 1024]⟩
abbrev S16x128x8x1024 : Shape := ⟨4, ![16, 128, 8, 1024]⟩
abbrev S16384x1024 : Shape := ⟨2, ![16384, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x3072, .f32⟩
  | .hbm, ⟨8, _⟩ => ⟨S1024x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x5632, .f32⟩
  | .hbm, ⟨26, _⟩ => ⟨S_, .i32⟩
  | .hbm, ⟨27, _⟩ => ⟨S_, .f32⟩
  | .hbm, ⟨28, _⟩ => ⟨S4x4098x5632, .f32⟩
  | .hbm, ⟨29, _⟩ => ⟨S1x5632, .f32⟩
  | .hbm, ⟨30, _⟩ => ⟨S5632, .f32⟩
  | .hbm, ⟨31, _⟩ => ⟨S4x4096x5632, .f32⟩
  | .hbm, ⟨32, _⟩ => ⟨S1x1x5632, .f32⟩
  | .hbm, ⟨33, _⟩ => ⟨S4x4096x5632, .f32⟩
  | .hbm, ⟨34, _⟩ => ⟨S4x4096x5632, .f32⟩
  | .hbm, ⟨35, _⟩ => ⟨S1x5632, .f32⟩
  | .hbm, ⟨36, _⟩ => ⟨S5632, .f32⟩
  | .hbm, ⟨37, _⟩ => ⟨S4x4096x5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S1x1x5632, .f32⟩
  | .hbm, ⟨49, _⟩ => ⟨S4x4096x5632, .f32⟩
  | .hbm, ⟨50, _⟩ => ⟨S4x4096x5632, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x1024, .f32⟩
  | .hbm, ⟨64, _⟩ => ⟨S4x4096x1024, .f32⟩
  | .hbm, ⟨65, _⟩ => ⟨S16x8x128x1024, .f32⟩
  | .hbm, ⟨66, _⟩ => ⟨S16x128x8x1024, .f32⟩
  | .hbm, ⟨67, _⟩ => ⟨S16384x1024, .f32⟩
  | .hbm, ⟨68, _⟩ => ⟨S1024x3072, .bf16⟩
  | .hbm, ⟨69, _⟩ => ⟨S1024x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Proof.FrameMix.lean ====
module

public import proofs.«01_k».proof.Defs
public import proofs.«01_k».proof.Proof.Gen.Kernel
public import proofs.«01_k».proof.Proof.Gen.KernelIdeal.Frame

@[expose] public section

set_option maxRecDepth 16384

noncomputable section

namespace Cert.Proof

open Idealize.ShloMosaic Idealize.ShloMosaic.TcCoe Idealize.SL.Sem

/-- The kernels' table of the mixer's program is that of the program read over the extended reals, at the formats' own words: the two have the same text. -/
theorem tableKernel : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- The function definitions that the program runs with. -/
theorem defsKernel : Cert.Kernel.defs (F := Bits) = Cert.KernelIdeal.defs (F := Bits) :=
  congrArg (Pipeline.defs (Cert.KernelIdeal.pcfgs (F := Bits))) tableKernel

/-- The frame of the mixer's program, from the one run of its text. -/
theorem frameKernel : Cert.quiescent_Kernel (hKernel := Cert.Kernel.Gen.facts) := fun m ρ _ => by
  rw [defsKernel]
  exact Cert.KernelIdeal.Gen.frame (F := Bits) m ρ

end Cert.Proof

end
-- ==== Proof.FrameFfn.lean ====
module

public import proofs.«01_k».proof.Defs
public import proofs.«01_k».proof.Proof.Gen.Kernel2
public import proofs.«01_k».proof.Proof.Gen.Kernel2Ideal.Frame

@[expose] public section

set_option maxRecDepth 16384

noncomputable section

namespace Cert.Proof

open Idealize.ShloMosaic Idealize.ShloMosaic.TcCoe Idealize.SL.Sem

/-- The kernels' table of the ConvFFN's program is that of the program read over the extended reals, at the formats' own words: the two have the same text. -/
theorem tableKernel2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

/-- The function definitions that the program runs with. -/
theorem defsKernel2 : Cert.Kernel2.defs (F := Bits) = Cert.Kernel2Ideal.defs (F := Bits) :=
  congrArg (Pipeline.defs (Cert.Kernel2Ideal.pcfgs (F := Bits))) tableKernel2

/-- The frame of the ConvFFN's program, from the one run of its text. -/
theorem frameKernel2 : Cert.quiescent_Kernel2 (hKernel2 := Cert.Kernel2.Gen.facts) := fun m ρ _ => by
  rw [defsKernel2]
  exact Cert.Kernel2Ideal.Gen.frame (F := Bits) m ρ

end Cert.Proof

end
-- ==== Proof.FrameMlstm.lean ====
module

public import proofs.«01_k».proof.Defs
public import proofs.«01_k».proof.Proof.Gen.Kernel3
public import proofs.«01_k».proof.Proof.Gen.Kernel3Ideal.Frame

@[expose] public section

set_option maxRecDepth 16384

noncomputable section

namespace Cert.Proof

open Idealize.ShloMosaic Idealize.ShloMosaic.TcCoe Idealize.SL.Sem

set_option maxHeartbeats 4000000 in
/-- The kernels' table of the mLSTM's program is that of the program read over the extended reals, at the formats' own words: the two have the same text. -/
theorem tableKernel3 : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl

/-- The function definitions that the program runs with. -/
theorem defsKernel3 : Cert.Kernel3.defs (F := Bits) = Cert.Kernel3Ideal.defs (F := Bits) :=
  congrArg (Pipeline.defs (Cert.Kernel3Ideal.pcfgs (F := Bits))) tableKernel3

/-- The frame of the mLSTM's program, from the one run of its text. -/
theorem frameKernel3 : Cert.quiescent_Kernel3 (hKernel3 := Cert.Kernel3.Gen.facts) := fun m ρ _ => by
  rw [defsKernel3]
  exact Cert.Kernel3Ideal.Gen.frame (F := Bits) m ρ

end Cert.Proof

end
-- ==== Proof.First.RunA.lean ====
/-
  The body of the first ConvFFN's call at the first tile of a sequence, where it sets the carry to zero: one run, each printed part proved by itself.
-/
module

public import proofs.«01_k».proof.Proof.Gen.Kernel4Ideal.Frame.Runs

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20172000 in
/-- What the body's stores leave in each output's staging memref, as pieces (last first) IN CASE A (`scf.if` 0 taken: points 0, 4, 8, 12), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) :
    Σ' (L9 : List (View.Piece (Elt F) S1024x1024 .f32)), Σ' (L10 : List (View.Piece (Elt F) S64x3072 .bf16)), Σ' (L11 : List (View.Piece (Elt F) S64x1024 .bf16)), Σ' (LS2 : List (View.Piece (Elt F) S16x5632 .f32)), Σ' (LT0 : List (View.Piece (Elt F) S1024x1024 .bf16)), Σ' (LT1 : List (View.Piece (Elt F) S1024x2816 .bf16)), Σ' (LT3 : List (View.Piece (Elt F) S8x1088x128 .f32)), { LT4 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LT4)) -∗ K ⟨⟩))
          ⊢ wp frame (wpE (defs₀ (F := F)) Variants.none c none) E (cc0_ffn_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_ffn_block_eq_skeleton]; unfold cc0_ffn_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.Kernel4Ideal.Gen

end
-- ==== Proof.First.RunB.lean ====
/-
  The body of the first ConvFFN's call at a later tile of a sequence, where it finds the carry of the tile before: one run, each printed part proved by itself.
-/
module

public import proofs.«01_k».proof.Proof.Gen.Kernel4Ideal.Frame.Runs

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20160000 in
/-- What the body's stores leave in each output's staging memref, as pieces (last first) IN CASE B (`scf.if` 0 not taken: points 1, 2, … 15: 12 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) :
    Σ' (L9 : List (View.Piece (Elt F) S1024x1024 .f32)), Σ' (L10 : List (View.Piece (Elt F) S64x3072 .bf16)), Σ' (L11 : List (View.Piece (Elt F) S64x1024 .bf16)), Σ' (LS2 : List (View.Piece (Elt F) S16x5632 .f32)), Σ' (LT0 : List (View.Piece (Elt F) S1024x1024 .bf16)), Σ' (LT1 : List (View.Piece (Elt F) S1024x2816 .bf16)), Σ' (LT3 : List (View.Piece (Elt F) S8x1088x128 .f32)), { LT4 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LT3) ∗ (∃ f, arg17.view.loc (c : Thread nD τ) ↦[arg17.view.set]{fullShare} arg17.view.writes (Elt F) f LT4)) -∗ K ⟨⟩))
          ⊢ wp frame (wpE (defs₀ (F := F)) Variants.none c none) E (cc0_ffn_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_ffn_block_eq_skeleton]; unfold cc0_ffn_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hfs2
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.Kernel4Ideal.Gen

end
-- ==== Proof.First.Frame.lean ====
/-
  What the first layer's ConvFFN leaves in its outputs and in the rows it carries, point by point, its run and its frame, over the two runs of this directory.
-/
module

public import proofs.«01_k».proof.Proof.First.RunA
public import proofs.«01_k».proof.Proof.First.RunB
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (1 store of `S1024x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1 S1024x1024.size (by sl_kernel_rfl) y

/-- What case A leaves in output 9's staging buffer: its pieces read back over junk. -/
def out0_A_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) : Vec F S1024x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1)

/-- Case A's pieces for output 10 tile its block (1 store of `S64x3072`, checked by the kernel's evaluation: Lib/Ring.lean `Piece.tiledL`, linear in the pieces, through a loop's `@[irreducible]` trip theorem too), so they cover it. -/
theorem cover0_A_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (y : S64x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1 S64x3072.size (by sl_kernel_rfl) y

/-- What case A leaves in output 10's staging buffer: its pieces read back over junk. -/
def out0_A_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) : Vec F S64x3072 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1)

/-- Case A's pieces for output 11 tile its block (1 store of `S64x1024`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1 S64x1024.size (by sl_kernel_rfl) y

/-- What case A leaves in output 11's staging buffer: its pieces read back over junk. -/
def out0_A_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) : Vec F S64x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1)

/-- Case A's pieces for scratch `arg15`, which the kernel carries between points, cover it: one of them a store of the WHOLE buffer (Lib/Ring.lean `sl_whole_mem`). -/
theorem scover0_A_2 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (y : S16x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1 (by sl_whole_mem) y

/-- What case A leaves in scratch `arg15`: its pieces read back over junk. -/
def sout0_A_2 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) : Vec F S16x5632 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1)

/-- Case B's pieces for output 9 tile its block (1 store of `S1024x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).1 S1024x1024.size (by sl_kernel_rfl) y

/-- What case B leaves in output 9's staging buffer: its pieces read back over junk. -/
def out0_B_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) : Vec F S1024x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).1)

/-- Case B's pieces for output 10 tile its block (1 store of `S64x3072`, checked by the kernel's evaluation: Lib/Ring.lean `Piece.tiledL`, linear in the pieces, through a loop's `@[irreducible]` trip theorem too), so they cover it. -/
theorem cover0_B_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) (y : S64x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.1 S64x3072.size (by sl_kernel_rfl) y

/-- What case B leaves in output 10's staging buffer: its pieces read back over junk. -/
def out0_B_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) : Vec F S64x3072 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.1)

/-- Case B's pieces for output 11 tile its block (1 store of `S64x1024`, checked by the kernel's evaluation: Lib/Ring.lean `Piece.tiledL`, linear in the pieces, through a loop's `@[irreducible]` trip theorem too), so they cover it. -/
theorem cover0_B_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.1 S64x1024.size (by sl_kernel_rfl) y

/-- What case B leaves in output 11's staging buffer: its pieces read back over junk. -/
def out0_B_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) : Vec F S64x1024 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.1)

/-- Case B's pieces for scratch `arg15`, which the kernel carries between points, cover it: 22 pieces of `S16x256` tiling it (Lib/Ring.lean `Piece.tiledL`). -/
theorem scover0_B_2 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) (y : S16x5632.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.2.1 S16x256.size (by sl_kernel_rfl) y

/-- What case B leaves in scratch `arg15`: its pieces read back over junk. -/
def sout0_B_2 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec F S1024x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (x7 : Vec F S64x3072 .f32) (x8 : Vec F S64x1024 .f32) (xs2 : Vec F S16x5632 .f32) : Vec F S16x5632 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .f32 × Vec F S64x3072 .bf16 × Vec F S64x1024 .bf16 × Vec F S16x5632 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 4 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2)

/-- `outsAt0` at a point of case A: that case's contents. -/
theorem outsAt0_A (c : Dev nD) (t : Fin cfg0.N) (h0 : t.val % 4 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2.2) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2.2) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2.2) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases hz : t.val = 0
    · rw [PhiS_castSucc m c t, PhiS_zero m c _ _ hz, PhiA0_eq]
      rw [outsAt0_A m c t h0]
      unfold out0_A_9 out0_A_10 out0_A_11 sout0_A_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%e9, H9⟩, ⟨%e10, H10⟩, ⟨%e11, H11⟩, ⟨%fT0, HS0⟩, ⟨%fT1, HS1⟩, ⟨%es2, HS2⟩, ⟨%fT3, HS3⟩, ⟨%fT4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_9 out0_A_10 out0_A_11 sout0_A_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexists _; iexact HS2
      isplitl [HS3]; · iexact HS3
      isplitl [HS4]; · iexact HS4
      iintro ⟨H0, H1, H2, H3, H4, H5, H6, H7, H8, ⟨%e9, H9⟩, ⟨%e10, H10⟩, ⟨%e11, H11⟩, ⟨%fT0, HS0⟩, ⟨%fT1, HS1⟩, ⟨%es2, HS2⟩, ⟨%fT3, HS3⟩, ⟨%fT4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_9 out0_B_10 out0_B_11 sout0_B_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%e9, H9⟩, ⟨%e10, H10⟩, ⟨%e11, H11⟩, ⟨%fT0, HS0⟩, ⟨%fT1, HS1⟩, ⟨%es2, HS2⟩, ⟨%fT3, HS3⟩, ⟨%fT4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexists _; iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel4Ideal.Gen

end
-- ==== Proof.FrameFirst.lean ====
module

public import proofs.«01_k».proof.Defs
public import proofs.«01_k».proof.Proof.Gen.Kernel4
public import proofs.«01_k».proof.Proof.First.Frame

@[expose] public section

set_option maxRecDepth 16384

noncomputable section

namespace Cert.Proof

open Idealize.ShloMosaic Idealize.ShloMosaic.TcCoe Idealize.SL.Sem

/-- The kernels' table of the first ConvFFN's program is that of the program read over the extended reals, at the formats' own words: the two have the same text. -/
theorem tableKernel4 : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl

/-- The function definitions that the program runs with. -/
theorem defsKernel4 : Cert.Kernel4.defs (F := Bits) = Cert.Kernel4Ideal.defs (F := Bits) :=
  congrArg (Pipeline.defs (Cert.Kernel4Ideal.pcfgs (F := Bits))) tableKernel4

/-- The frame of the first ConvFFN's program, from the one run of its text. -/
theorem frameKernel4 : Cert.quiescent_Kernel4 (hKernel4 := Cert.Kernel4.Gen.facts) := fun m ρ _ => by
  rw [defsKernel4]
  exact Cert.Kernel4Ideal.Gen.frame (F := Bits) m ρ

end Cert.Proof

end
-- ==== Proof.Conv.lean ====
module

public import proofs.«01_k».proof.Proof.Gen.KernelIdeal.Value
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Tactic

/-- A column of the short convolution one position back, in the run order of a tile: row `r` follows row `r - 8`; a row of
    the first eight follows the last row of the run before it, and row 0 follows the carried row 15. -/
def back1 (u : Fin 1024 → EReal) (p : Fin 16 → EReal) (r : Fin 1024) : EReal :=
  if h : r.val < 8 then (if r.val = 0 then p 15 else u ⟨1016 + (r.val - 1), by omega⟩) else u ⟨r.val - 8, by omega⟩

/-- The same column two positions back. -/
def back2 (u : Fin 1024 → EReal) (p : Fin 16 → EReal) (r : Fin 1024) : EReal :=
  if h : r.val < 8 then (if r.val = 0 then p 7 else u ⟨1008 + (r.val - 1), by omega⟩)
  else if h' : r.val < 16 then (if r.val = 8 then p 15 else u ⟨1016 + (r.val - 9), by omega⟩)
  else u ⟨r.val - 16, by omega⟩

/-- The gate times the three-tap convolution of a column. -/
def gated (b c0 c1 c2 cb : EReal) (u : Fin 1024 → EReal) (p : Fin 16 → EReal) (r : Fin 1024) : EReal :=
  b * (c0 * back2 u p r + c1 * back1 u p r + c2 * u r + cb)

/-- A choice on the row number, at one row. -/
theorem select_row {α : Type} (n : ℕ) (h : n < 8) (x y : α) :
    Scalar.select (IntOp.cmpi .eq (BitVec.ofNat 32 n) 0#32) x y = if n = 0 then x else y := by
  interval_cases n <;> rfl

/-- The convolution of a tile after its carry, entry by entry. -/
theorem conv_apply (bg u : FVec Ideal S1024x256 .f32) (p : FVec Ideal S16x256 .f32) (cw : FVec Ideal S3x256 .f32) (cb : FVec Ideal S1x256 .f32) (r : Fin 1024) (q : Fin 256) :
    k0_pay22 (F := Ideal) bg u p cw cb (ix2 r q) = gated (bg (ix2 r q)) (cw (ix2 0 q)) (cw (ix2 1 q)) (cw (ix2 2 q)) (cb (ix2 0 q))
      (fun r => u (ix2 r q)) (fun i => p (ix2 i q)) r := by
  pointwise [k0_pay22]
  have hr := r.isLt
  unfold gated back1 back2
  congr 4
  · congr 1
    split
    · rename_i h
      rw [select_row _ h]
      split
      · rename_i h0; congr 2; ext; simp only [h0]; rfl
      · congr 2; ext; show 1008 + (r.val + 8 - 1) % 8 = 1008 + (r.val - 1); omega
    · rename_i h
      by_cases h' : r.val < 16
      · rw [dif_pos (by omega), dif_pos h', select_row _ (by omega)]
        by_cases h8 : r.val = 8
        · rw [if_pos (by omega), if_pos h8]; congr 2; ext; show 8 + (r.val - 8 + 8 - 1) % 8 = 15; omega
        · rw [if_neg (by omega), if_neg h8]; congr 2; ext; show 1016 + (r.val - 8 + 8 - 1) % 8 = 1016 + (r.val - 9); omega
      · rw [dif_neg (by omega), dif_neg h']; congr 2
  · congr 1
    split
    · rename_i h
      rw [select_row _ h]
      split
      · rename_i h0; congr 2; ext; show 8 + (r.val + 8 - 1) % 8 = 15; omega
      · congr 2; ext; show 1016 + (r.val + 8 - 1) % 8 = 1016 + (r.val - 1); omega
    · rfl

/-- The gated product that chunk 0 stores, entry by entry. -/
theorem chunk0_eq (xn : FVec Ideal S1024x1024 .bf16) (wb wc wi : FVec Ideal S1024x256 .bf16) (p : FVec Ideal S16x256 .f32) (cw : FVec Ideal S3x256 .f32) (cb : FVec Ideal S1x256 .f32) :
    k0_pay17 (F := Ideal) (k0_pay9 xn wb) (k0_pay10 xn wc wi) cw (k0_pay12 cb) k0_pay13 (k0_pay14 xn wc wi p) (k0_pay15 xn wc wi) (k0_pay16 p)
      = k0_pay22 (k0_pay18 xn wb) (k0_pay19 xn wc wi) p cw cb := rfl

/-- The gated product that chunk 2 stores, entry by entry. -/
theorem chunk2_eq (xn : FVec Ideal S1024x1024 .bf16) (wb wc wi : FVec Ideal S1024x256 .bf16) (p : FVec Ideal S16x256 .f32) (cw : FVec Ideal S3x256 .f32) (cb : FVec Ideal S1x256 .f32) :
    k0_pay29 (F := Ideal) (k0_pay24 xn (k0_pay23 wb) (constant S1024x256 FTy.f32 0#32)) (k0_pay25 xn wc wi) cw (k0_pay27 cb) (k0_pay28 xn wc wi p cw)
      = k0_pay22 (k0_pay18 xn wb) (k0_pay19 xn wc wi) p cw cb := rfl

/-- The gated product that chunk 3 stores, entry by entry. -/
theorem chunk3_eq (xn : FVec Ideal S1024x1024 .bf16) (wb wc wi : FVec Ideal S1024x256 .bf16) (p : FVec Ideal S16x256 .f32) (cw : FVec Ideal S3x256 .f32) (cb : FVec Ideal S1x256 .f32) :
    k0_pay1 (F := Ideal) (k0_pay30 xn wb) (k0_pay31 xn wc wi) p cw (k0_pay33 cb) k0_pay34 (k0_pay35 xn wc wi) (k0_pay36 p) 1#32
      = k0_pay22 (k0_pay18 xn wb) (k0_pay19 xn wc wi) p cw cb := rfl

/-- Four column chunks of 256 are the columns of one function. -/
theorem canon_cols {n : ℕ} {e : EltTy} (G : (⟨2, ![n, 1024]⟩ : Shape).Idx → Elt Ideal e)
    (P0 P1 P2 P3 : (⟨2, ![n, 256]⟩ : Shape).Idx → Elt Ideal e) (i0 i1 i2 i3) (L : List (View.Piece (Elt Ideal) (⟨2, ![n, 1024]⟩ : Shape) e))
    (h0 : ∀ (r : Fin n) (q : Fin 256), P0 (ix2 r q) = G (ix2 r ⟨q.val, by omega⟩))
    (h1 : ∀ (r : Fin n) (q : Fin 256), P1 (ix2 r q) = G (ix2 r ⟨256 + q.val, by omega⟩))
    (h2 : ∀ (r : Fin n) (q : Fin 256), P2 (ix2 r q) = G (ix2 r ⟨512 + q.val, by omega⟩))
    (h3 : ∀ (r : Fin n) (q : Fin 256), P3 (ix2 r q) = G (ix2 r ⟨768 + q.val, by omega⟩)) (r : Fin n) (k : Fin 1024) :
    View.canon (Val := Elt Ideal) (s := (⟨2, ![n, 1024]⟩ : Shape)) (e := e)
      (⟨Rect.unit ![0, 768] ![n, 256] i3, P3⟩ :: ⟨Rect.unit ![0, 512] ![n, 256] i2, P2⟩
        :: ⟨Rect.unit ![0, 256] ![n, 256] i1, P1⟩ :: ⟨Rect.unit ![0, 0] ![n, 256] i0, P0⟩ :: L) (ix2 r k) = G (ix2 r k) := by
  have hit : ∀ (o : ℕ) (i) (P : (⟨2, ![n, 256]⟩ : Shape).Idx → Elt Ideal e) (L' : List (View.Piece (Elt Ideal) (⟨2, ![n, 1024]⟩ : Shape) e)) (q : Fin 256) (hk : k.val = o + q.val),
      View.canon (Val := Elt Ideal) (s := (⟨2, ![n, 1024]⟩ : Shape)) (e := e) (⟨Rect.unit ![0, o] ![n, 256] i, P⟩ :: L') (ix2 r k) = P (ix2 r q) := by
    intro o i P L' q hk
    have e : (Rect.unit (s := (⟨2, ![n, 1024]⟩ : Shape)) ![0, o] ![n, 256] i).emb (ix2 r q) = ix2 r k := by
      funext a
      refine Fin.ext ?_
      match a with
      | 0 => show 0 + 1 * r.val = r.val; omega
      | 1 => show o + 1 * q.val = k.val; omega
    rw [← e]
    exact View.canon_cons_emb (Rect.unit (s := (⟨2, ![n, 1024]⟩ : Shape)) ![0, o] ![n, 256] i) P L' (ix2 r q)
  have miss : ∀ (o : ℕ) (i) (P : (⟨2, ![n, 256]⟩ : Shape).Idx → Elt Ideal e) (L' : List (View.Piece (Elt Ideal) (⟨2, ![n, 1024]⟩ : Shape) e)) (hk : k.val < o),
      View.canon (Val := Elt Ideal) (s := (⟨2, ![n, 1024]⟩ : Shape)) (e := e) (⟨Rect.unit ![0, o] ![n, 256] i, P⟩ :: L') (ix2 r k) = View.canon L' (ix2 r k) := by
    intro o i P L' hk
    refine View.canon_cons_of_not_mem _ _ fun hm => ?_
    have := ((Rect.mem_set_unit (s := (⟨2, ![n, 1024]⟩ : Shape)) (inb := i)).mp hm 1).1
    change o ≤ k.val at this
    omega
  have hk := k.isLt
  by_cases c3 : 768 ≤ k.val
  · rw [hit 768 i3 P3 _ ⟨k.val - 768, by omega⟩ (by show k.val = 768 + (k.val - 768); omega), h3]
    congr 2; ext; show 768 + (k.val - 768) = k.val; omega
  rw [miss 768 _ _ _ (by omega)]
  by_cases c2 : 512 ≤ k.val
  · rw [hit 512 i2 P2 _ ⟨k.val - 512, by omega⟩ (by show k.val = 512 + (k.val - 512); omega), h2]
    congr 2; ext; show 512 + (k.val - 512) = k.val; omega
  rw [miss 512 _ _ _ (by omega)]
  by_cases c1 : 256 ≤ k.val
  · rw [hit 256 i1 P1 _ ⟨k.val - 256, by omega⟩ (by show k.val = 256 + (k.val - 256); omega), h1]
    congr 2; ext; show 256 + (k.val - 256) = k.val; omega
  rw [miss 256 _ _ _ (by omega)]
  rw [hit 0 i0 P0 _ ⟨k.val, by omega⟩ (by show k.val = 0 + k.val; omega), h0]

end Cert.KernelIdeal.RefValue

end
-- ==== Proof.Tile.lean ====
module

public import proofs.«01_k».proof.Proof.Conv
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Tactic

/-- The normalised tile. -/
def xnT (x0 : FVec Ideal S1024x1024 .f32) (x1 : FVec Ideal S1x1024 .f32) : FVec Ideal S1024x1024 .bf16 := k0_pay8 (F := Ideal) (k0_pay6 x0) (k0_pay7 x1)

/-- The convolution's input of a tile at row `r`, column `q`: the product of the second and third projections. -/
def uT (x0 : FVec Ideal S1024x1024 .f32) (x1 : FVec Ideal S1x1024 .f32) (x2 : FVec Ideal S1024x3072 .bf16) (q r : Fin 1024) : EReal :=
  (∑ k : Fin 1024, xnT x0 x1 (ix2 r k) * x2 (ix2 k ⟨1024 + q.val, by omega⟩)) * (∑ k : Fin 1024, xnT x0 x1 (ix2 r k) * x2 (ix2 k ⟨2048 + q.val, by omega⟩))

/-- The gate of a tile: the first projection. -/
def bT (x0 : FVec Ideal S1024x1024 .f32) (x1 : FVec Ideal S1x1024 .f32) (x2 : FVec Ideal S1024x3072 .bf16) (q r : Fin 1024) : EReal :=
  ∑ k : Fin 1024, xnT x0 x1 (ix2 r k) * x2 (ix2 k ⟨q.val, by omega⟩)

/-- The gated convolution of a tile after a carry `p`. -/
def actT (x0 : FVec Ideal S1024x1024 .f32) (x1 : FVec Ideal S1x1024 .f32) (x2 : FVec Ideal S1024x3072 .bf16) (x3 : FVec Ideal S3x1024 .f32)
    (x4 : FVec Ideal S1x1024 .f32) (p : Fin 16 → Fin 1024 → EReal) (r q : Fin 1024) : EReal :=
  gated (bT x0 x1 x2 q r) (x3 (ix2 0 q)) (x3 (ix2 1 q)) (x3 (ix2 2 q)) (x4 (ix2 0 q)) (uT x0 x1 x2 q) (fun i => p i q) r

/-- The output tile after a carry `p`. -/
def outT (x0 : FVec Ideal S1024x1024 .f32) (x1 : FVec Ideal S1x1024 .f32) (x2 : FVec Ideal S1024x3072 .bf16) (x3 : FVec Ideal S3x1024 .f32)
    (x4 : FVec Ideal S1x1024 .f32) (x5 : FVec Ideal S1024x1024 .bf16) (p : Fin 16 → Fin 1024 → EReal) (r d : Fin 1024) : EReal :=
  x0 (ix2 r d) + ∑ k : Fin 1024, actT x0 x1 x2 x3 x4 p r k * x5 (ix2 k d)

/-- The tile's result in run order, from the gated activations, entry by entry. -/
theorem out_apply (x0 : FVec Ideal S1024x1024 .f32) (a w : FVec Ideal S1024x1024 .bf16) (r d : Fin 1024) :
    k0_pay2 (F := Ideal) x0 a w (ix2 r d) = x0 (ix2 r d) + ∑ k : Fin 1024, a (ix2 r k) * w (ix2 k d) := by
  pointwise [k0_pay2]

/-- The gate of a chunk, entry by entry. -/
theorem bg_apply (xn : FVec Ideal S1024x1024 .bf16) (wb : FVec Ideal S1024x256 .bf16) (r : Fin 1024) (q : Fin 256) :
    k0_pay18 (F := Ideal) xn wb (ix2 r q) = ∑ k : Fin 1024, xn (ix2 r k) * wb (ix2 k q) := by
  pointwise [k0_pay18]

/-- The convolution's input of a chunk, entry by entry. -/
theorem u_apply (xn : FVec Ideal S1024x1024 .bf16) (wc wi : FVec Ideal S1024x256 .bf16) (r : Fin 1024) (q : Fin 256) :
    k0_pay19 (F := Ideal) xn wc wi (ix2 r q) = (∑ k : Fin 1024, xn (ix2 r k) * wc (ix2 k q)) * (∑ k : Fin 1024, xn (ix2 r k) * wi (ix2 k q)) := by
  pointwise [k0_pay19]

/-- A load of a box, read at an index. -/
theorem ld_at {m n m' n' : ℕ} {e : EltTy} (X : (⟨2, ![m, n]⟩ : Shape).Idx → Elt Ideal e) (a b : ℕ) (inb) (r : Fin m') (q : Fin n') (R : Fin m) (Q : Fin n)
    (hR : R.val = a + r.val) (hQ : Q.val = b + q.val) :
    View.ld X (Rect.unit (s := (⟨2, ![m, n]⟩ : Shape)) ![a, b] ![m', n'] inb) (ix2 r q) = X (ix2 R Q) := by
  refine View.ld_unit_apply_of X _ _ inb (ix2 r q) (ix2 R Q) fun x => ?_
  match x with
  | 0 => exact hR
  | 1 => exact hQ

/-- One column chunk of the gated convolution, whose carry reads `p`. -/
theorem chunk_apply (x0 : FVec Ideal S1024x1024 .f32) (x1 : FVec Ideal S1x1024 .f32) (x2 : FVec Ideal S1024x3072 .bf16) (x3 : FVec Ideal S3x1024 .f32)
    (x4 : FVec Ideal S1x1024 .f32) (p : Fin 16 → Fin 1024 → EReal) (o o1 o2 : ℕ) (ho : o + 256 ≤ 1024) (h1 : o1 = 1024 + o) (h2 : o2 = 2048 + o) (ib ic ii i3 i4)
    (pv : FVec Ideal S16x256 .f32) (r : Fin 1024) (q : Fin 256) (hp : ∀ i : Fin 16, pv (ix2 i q) = p i ⟨o + q.val, by omega⟩) :
    k0_pay22 (F := Ideal) (k0_pay18 (k0_pay8 (F := Ideal) (k0_pay6 x0) (k0_pay7 x1)) (View.ld (Val := Elt Ideal) (e' := .bf16) x2 (Rect.unit (s := S1024x3072) ![0, o] ![1024, 256] ib)))
      (k0_pay19 (k0_pay8 (F := Ideal) (k0_pay6 x0) (k0_pay7 x1)) (View.ld (Val := Elt Ideal) (e' := .bf16) x2 (Rect.unit (s := S1024x3072) ![0, o1] ![1024, 256] ic)) (View.ld (Val := Elt Ideal) (e' := .bf16) x2 (Rect.unit (s := S1024x3072) ![0, o2] ![1024, 256] ii)))
      pv (View.ld (Val := Elt Ideal) (e' := .f32) x3 (Rect.unit (s := S3x1024) ![0, o] ![3, 256] i3)) (View.ld (Val := Elt Ideal) (e' := .f32) x4 (Rect.unit (s := S1x1024) ![0, o] ![1, 256] i4)) (ix2 r q)
      = actT x0 x1 x2 x3 x4 p r ⟨o + q.val, by omega⟩ := by
  subst h1 h2
  rw [conv_apply]
  simp only [bg_apply, u_apply]
  unfold actT bT uT xnT
  have hq := q.isLt
  congr 1
  · refine Finset.sum_congr rfl fun k _ => ?_
    rw [ld_at (e := .bf16) x2 0 o ib k q k ⟨o + q.val, by omega⟩ (by omega) rfl]
  · exact ld_at (e := .f32) x3 0 o i3 0 q 0 ⟨o + q.val, by omega⟩ rfl rfl
  · exact ld_at (e := .f32) x3 0 o i3 1 q 1 ⟨o + q.val, by omega⟩ rfl rfl
  · exact ld_at (e := .f32) x3 0 o i3 2 q 2 ⟨o + q.val, by omega⟩ rfl rfl
  · exact ld_at (e := .f32) x4 0 o i4 0 q 0 ⟨o + q.val, by omega⟩ rfl rfl
  · funext r
    congr 1 <;> refine Finset.sum_congr rfl fun k _ => ?_
    · rw [ld_at (e := .bf16) x2 0 (1024 + o) ic k q k ⟨1024 + (o + q.val), by omega⟩ (by omega) (by show 1024 + (o + q.val) = 1024 + o + q.val; omega)]
    · rw [ld_at (e := .bf16) x2 0 (2048 + o) ii k q k ⟨2048 + (o + q.val), by omega⟩ (by omega) (by show 2048 + (o + q.val) = 2048 + o + q.val; omega)]
  · funext i
    exact hp i

/-- One column chunk of the carry: the last sixteen rows of the convolution's input. -/
theorem carry_apply (x0 : FVec Ideal S1024x1024 .f32) (x1 : FVec Ideal S1x1024 .f32) (x2 : FVec Ideal S1024x3072 .bf16)
    (o o1 o2 : ℕ) (ho : o + 256 ≤ 1024) (h1 : o1 = 1024 + o) (h2 : o2 = 2048 + o) (ic ii) (r : Fin 16) (q : Fin 256) :
    k0_pay26 (F := Ideal) (k0_pay8 (F := Ideal) (k0_pay6 x0) (k0_pay7 x1)) (View.ld (Val := Elt Ideal) (e' := .bf16) x2 (Rect.unit (s := S1024x3072) ![0, o1] ![1024, 256] ic)) (View.ld (Val := Elt Ideal) (e' := .bf16) x2 (Rect.unit (s := S1024x3072) ![0, o2] ![1024, 256] ii)) (ix2 r q)
      = uT x0 x1 x2 ⟨o + q.val, by omega⟩ ⟨1008 + r.val, by omega⟩ := by
  subst h1 h2
  have e : k0_pay26 (F := Ideal) (k0_pay8 (F := Ideal) (k0_pay6 x0) (k0_pay7 x1)) (View.ld (Val := Elt Ideal) (e' := .bf16) x2 (Rect.unit (s := S1024x3072) ![0, 1024 + o] ![1024, 256] ic)) (View.ld (Val := Elt Ideal) (e' := .bf16) x2 (Rect.unit (s := S1024x3072) ![0, 2048 + o] ![1024, 256] ii)) (ix2 r q)
      = k0_pay19 (F := Ideal) (k0_pay8 (F := Ideal) (k0_pay6 x0) (k0_pay7 x1)) (View.ld (Val := Elt Ideal) (e' := .bf16) x2 (Rect.unit (s := S1024x3072) ![0, 1024 + o] ![1024, 256] ic)) (View.ld (Val := Elt Ideal) (e' := .bf16) x2 (Rect.unit (s := S1024x3072) ![0, 2048 + o] ![1024, 256] ii)) (ix2 ⟨1008 + r.val, by omega⟩ q) := by
    unfold k0_pay26 k0_pay19
    pointwise [k0_pay25]
  rw [e, u_apply]
  unfold uT xnT
  have hq := q.isLt
  congr 1 <;> refine Finset.sum_congr rfl fun k _ => ?_
  · rw [ld_at (e := .bf16) x2 0 (1024 + o) ic k q k ⟨1024 + (o + q.val), by omega⟩ (by omega) (by show 1024 + (o + q.val) = 1024 + o + q.val; omega)]
  · rw [ld_at (e := .bf16) x2 0 (2048 + o) ii k q k ⟨2048 + (o + q.val), by omega⟩ (by omega) (by show 2048 + (o + q.val) = 2048 + o + q.val; omega)]

/-- The carry that chunk 0 stores, entry by entry. -/
theorem carry0_eq (xn : FVec Ideal S1024x1024 .bf16) (wc wi : FVec Ideal S1024x256 .bf16) : k0_pay11 (F := Ideal) xn wc wi = k0_pay26 xn wc wi := rfl
/-- The carry that chunk 1 stores, entry by entry. -/
theorem carry1_eq (xn : FVec Ideal S1024x1024 .bf16) (wc wi : FVec Ideal S1024x256 .bf16) : k0_pay21 (F := Ideal) (k0_pay20 xn wc wi) = k0_pay26 xn wc wi := rfl
/-- The carry that chunk 3 stores, entry by entry. -/
theorem carry3_eq (xn : FVec Ideal S1024x1024 .bf16) (wc wi : FVec Ideal S1024x256 .bf16) : k0_pay32 (F := Ideal) xn wc wi = k0_pay26 xn wc wi := rfl

/-- The carry's first contents are zero. -/
theorem zero_apply (j : S16x1024.Idx) : k0_pay5 (F := Ideal) j = 0 := by pointwise [k0_pay5]

/-- A whole-row box of an array placed at its own columns. -/
theorem box_idx {m n n' : ℕ} (b : ℕ) (inb) (i : Fin m) (q : Fin n') (hq : b + q.val < n) :
    (Rect.unit (s := (⟨2, ![m, n]⟩ : Shape)) ![0, b] ![m, n'] inb).idx (ix2 i q) = ix2 i ⟨b + q.val, hq⟩ := by
  funext x
  refine Fin.ext ?_
  match x with
  | 0 => show 0 + 1 * i.val = i.val; omega
  | 1 => show b + 1 * q.val = b + q.val; omega

/-- A carry chunk stored to the left of a column does not change it. -/
theorem canon_left {n : ℕ} {e : EltTy} (o o' : ℕ) (i i') (P : (⟨2, ![n, 256]⟩ : Shape).Idx → Elt Ideal e)
    (L : List (View.Piece (Elt Ideal) (⟨2, ![n, 1024]⟩ : Shape) e)) (r : Fin n) (q : Fin 256) (h : o + 256 ≤ o') :
    View.canon (Val := Elt Ideal) (s := (⟨2, ![n, 1024]⟩ : Shape)) (e := e) (⟨Rect.unit ![0, o] ![n, 256] i, P⟩ :: L)
      ((Rect.unit (s := (⟨2, ![n, 1024]⟩ : Shape)) ![0, o'] ![n, 256] i').idx (ix2 r q))
      = View.canon L ((Rect.unit (s := (⟨2, ![n, 1024]⟩ : Shape)) ![0, o'] ![n, 256] i').idx (ix2 r q)) := by
  refine View.canon_cons_of_not_mem _ _ fun hm => ?_
  have := ((Rect.mem_set_unit (s := (⟨2, ![n, 1024]⟩ : Shape)) (inb := i)).mp hm 1).2
  change o' + 1 * q.val < o + 256 at this
  omega

/-- What a point at a sequence's start leaves in the output window. -/
theorem out0_A_9_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) (r d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 r d) = outT x0 x1 x2 x3 x4 x5 (fun _ _ => 0) r d := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, View.ld_unit_lit',
    View.canon_cons_unit_lit', View.readCov_cons_unit_lit']
  simp (disch := decide) only [View.readCov_eq_canon', View.canon_cons_unit_lit', chunk0_eq, chunk2_eq, chunk3_eq]
  rw [out_apply]
  unfold outT
  refine congrArg (x0 (ix2 r d) + ·) (Finset.sum_congr rfl fun k _ => congrArg (· * x5 (ix2 k d)) ?_)
  rw [box_idx 0 _ r k (by omega)]
  refine (canon_cols (n := 1024) (e := .bf16) (fun y => actT x0 x1 x2 x3 x4 (fun _ _ => 0) (y 0) (y 1)) _ _ _ _ _ _ _ _ [] ?_ ?_ ?_ ?_ r ⟨0 + k.val, by omega⟩).trans (congrArg _ (Fin.ext (Nat.zero_add _)))
  · intro r q
    refine (chunk_apply x0 x1 x2 x3 x4 (fun _ _ => 0) 0 1024 2048 (by omega) rfl rfl _ _ _ _ _ _ r q ?_).trans (congrArg _ (Fin.ext (Nat.zero_add _)))
    intro i; exact zero_apply _
  · intro r q
    refine (chunk_apply x0 x1 x2 x3 x4 (fun _ _ => 0) 256 1280 2304 (by omega) rfl rfl _ _ _ _ _ _ r q ?_).trans rfl
    intro i; refine (canon_left (n := 16) (e := .f32) 0 256 _ _ _ _ i q (by omega)).trans ?_; exact (congrFun (View.canon_cons_unit_lit' (Val := Elt Ideal) (S := S16x1024) (e := .f32) (off := ![0, 0]) _ _ _ (by decide)) _).trans (zero_apply _)
  · intro r q
    refine (chunk_apply x0 x1 x2 x3 x4 (fun _ _ => 0) 512 1536 2560 (by omega) rfl rfl _ _ _ _ _ _ r q ?_).trans rfl
    intro i; refine (canon_left (n := 16) (e := .f32) 256 512 _ _ _ _ i q (by omega)).trans ?_; refine (canon_left (n := 16) (e := .f32) 0 512 _ _ _ _ i q (by omega)).trans ?_; exact (congrFun (View.canon_cons_unit_lit' (Val := Elt Ideal) (S := S16x1024) (e := .f32) (off := ![0, 0]) _ _ _ (by decide)) _).trans (zero_apply _)
  · intro r q
    refine (chunk_apply x0 x1 x2 x3 x4 (fun _ _ => 0) 768 1792 2816 (by omega) rfl rfl _ _ _ _ _ _ r q ?_).trans rfl
    intro i; refine (canon_left (n := 16) (e := .f32) 512 768 _ _ _ _ i q (by omega)).trans ?_; refine (canon_left (n := 16) (e := .f32) 256 768 _ _ _ _ i q (by omega)).trans ?_; refine (canon_left (n := 16) (e := .f32) 0 768 _ _ _ _ i q (by omega)).trans ?_; exact (congrFun (View.canon_cons_unit_lit' (Val := Elt Ideal) (S := S16x1024) (e := .f32) (off := ![0, 0]) _ _ _ (by decide)) _).trans (zero_apply _)

/-- What a point at a sequence's start leaves in the carry. -/
theorem sout0_A_2_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) (i' : Fin 16) (q : Fin 1024) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 i' q) = uT x0 x1 x2 q ⟨1008 + i'.val, by omega⟩ := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, View.ld_unit_lit',
    View.canon_cons_unit_lit', View.readCov_cons_unit_lit']
  simp (disch := decide) only [View.readCov_eq_canon', View.canon_cons_unit_lit', carry0_eq, carry1_eq, carry3_eq]
  refine canon_cols (n := 16) (e := .f32) (fun y => uT x0 x1 x2 (y 1) ⟨1008 + (y 0).val, Nat.add_lt_add_left (y 0).isLt 1008⟩) _ _ _ _ _ _ _ _ _ ?_ ?_ ?_ ?_ i' q
  · intro r q
    exact (carry_apply x0 x1 x2 0 1024 2048 (by omega) rfl rfl _ _ r q).trans (congrArg (fun z => uT x0 x1 x2 z _) (Fin.ext (Nat.zero_add _)))
  · intro r q
    exact (carry_apply x0 x1 x2 256 1280 2304 (by omega) rfl rfl _ _ r q).trans rfl
  · intro r q
    exact (carry_apply x0 x1 x2 512 1536 2560 (by omega) rfl rfl _ _ r q).trans rfl
  · intro r q
    exact (carry_apply x0 x1 x2 768 1792 2816 (by omega) rfl rfl _ _ r q).trans rfl

/-- A point's strip of a weight for the next call. -/
theorem out0_A_10_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, View.ld_unit_lit',
    View.canon_cons_unit_lit', View.readCov_cons_unit_lit']
  rfl

/-- A point's strip of a weight for the next call. -/
theorem out0_A_11_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, View.ld_unit_lit',
    View.canon_cons_unit_lit', View.readCov_cons_unit_lit']
  rfl

/-- What a point inside a sequence leaves in the output window. -/
theorem out0_B_9_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) (xs2 : Vec Ideal S16x1024 .f32) (r d : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 (ix2 r d) = outT x0 x1 x2 x3 x4 x5 (fun i q => xs2 (ix2 i q)) r d := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  unfold kernelRun0_B
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, harg15.read_unread, View.ld_unit_lit',
    View.canon_cons_unit_lit', View.readCov_cons_unit_lit']
  simp (disch := decide) only [View.readCov_eq_canon', View.canon_cons_unit_lit', chunk0_eq, chunk2_eq, chunk3_eq]
  rw [out_apply]
  unfold outT
  refine congrArg (x0 (ix2 r d) + ·) (Finset.sum_congr rfl fun k _ => congrArg (· * x5 (ix2 k d)) ?_)
  rw [box_idx 0 _ r k (by omega)]
  refine (canon_cols (n := 1024) (e := .bf16) (fun y => actT x0 x1 x2 x3 x4 (fun i q => xs2 (ix2 i q)) (y 0) (y 1)) _ _ _ _ _ _ _ _ [] ?_ ?_ ?_ ?_ r ⟨0 + k.val, by omega⟩).trans (congrArg _ (Fin.ext (Nat.zero_add _)))
  · intro r q
    refine (chunk_apply x0 x1 x2 x3 x4 (fun i q => xs2 (ix2 i q)) 0 1024 2048 (by omega) rfl rfl _ _ _ _ _ _ r q ?_).trans (congrArg _ (Fin.ext (Nat.zero_add _)))
    intro i; exact ld_at (e := .f32) xs2 0 0 _ i q i ⟨0 + q.val, by omega⟩ (by omega) rfl
  · intro r q
    refine (chunk_apply x0 x1 x2 x3 x4 (fun i q => xs2 (ix2 i q)) 256 1280 2304 (by omega) rfl rfl _ _ _ _ _ _ r q ?_).trans rfl
    intro i; exact ld_at (e := .f32) xs2 0 256 _ i q i ⟨256 + q.val, by omega⟩ (by omega) rfl
  · intro r q
    refine (chunk_apply x0 x1 x2 x3 x4 (fun i q => xs2 (ix2 i q)) 512 1536 2560 (by omega) rfl rfl _ _ _ _ _ _ r q ?_).trans rfl
    intro i; exact ld_at (e := .f32) xs2 0 512 _ i q i ⟨512 + q.val, by omega⟩ (by omega) rfl
  · intro r q
    refine (chunk_apply x0 x1 x2 x3 x4 (fun i q => xs2 (ix2 i q)) 768 1792 2816 (by omega) rfl rfl _ _ _ _ _ _ r q ?_).trans rfl
    intro i; exact ld_at (e := .f32) xs2 0 768 _ i q i ⟨768 + q.val, by omega⟩ (by omega) rfl

/-- What a point inside a sequence leaves in the carry. -/
theorem sout0_B_2_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) (xs2 : Vec Ideal S16x1024 .f32) (i' : Fin 16) (q : Fin 1024) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 (ix2 i' q) = uT x0 x1 x2 q ⟨1008 + i'.val, by omega⟩ := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  unfold kernelRun0_B
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, harg15.read_unread, View.ld_unit_lit',
    View.canon_cons_unit_lit', View.readCov_cons_unit_lit']
  simp (disch := decide) only [View.readCov_eq_canon', View.canon_cons_unit_lit', carry0_eq, carry1_eq, carry3_eq]
  refine canon_cols (n := 16) (e := .f32) (fun y => uT x0 x1 x2 (y 1) ⟨1008 + (y 0).val, Nat.add_lt_add_left (y 0).isLt 1008⟩) _ _ _ _ _ _ _ _ _ ?_ ?_ ?_ ?_ i' q
  · intro r q
    exact (carry_apply x0 x1 x2 0 1024 2048 (by omega) rfl rfl _ _ r q).trans (congrArg (fun z => uT x0 x1 x2 z _) (Fin.ext (Nat.zero_add _)))
  · intro r q
    exact (carry_apply x0 x1 x2 256 1280 2304 (by omega) rfl rfl _ _ r q).trans rfl
  · intro r q
    exact (carry_apply x0 x1 x2 512 1536 2560 (by omega) rfl rfl _ _ r q).trans rfl
  · intro r q
    exact (carry_apply x0 x1 x2 768 1792 2816 (by omega) rfl rfl _ _ r q).trans rfl

/-- A point's strip of a weight for the next call. -/
theorem out0_B_10_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) (xs2 : Vec Ideal S16x1024 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 = x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  unfold kernelRun0_B
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, harg15.read_unread, View.ld_unit_lit',
    View.canon_cons_unit_lit', View.readCov_cons_unit_lit']
  rfl

/-- A point's strip of a weight for the next call. -/
theorem out0_B_11_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S64x5632 .f32) (harg8 : arg8.IsWhole) (arg9 : Memref sig .tc .vmem S176x1024 .f32) (harg9 : arg9.IsWhole) (arg10 : Memref sig .tc .vmem S1024x1024 .f32) (harg10 : arg10.IsWhole) (arg11 : Memref sig .tc .vmem S64x5632 .bf16) (harg11 : arg11.IsWhole) (arg12 : Memref sig .tc .vmem S176x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S16x1024 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x3072 .bf16) (x3 : Vec Ideal S3x1024 .f32) (x4 : Vec Ideal S1x1024 .f32) (x5 : Vec Ideal S1024x1024 .bf16) (x6 : Vec Ideal S1x1024 .f32) (x7 : Vec Ideal S64x5632 .f32) (x8 : Vec Ideal S176x1024 .f32) (xs2 : Vec Ideal S16x1024 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 = x8 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  unfold kernelRun0_B
  dsimp only
  sl_unfold_words
  simp (disch := decide) only [View.readAt_eq_ld, harg1.read_unread, harg2.read_unread, harg3.read_unread, harg4.read_unread,
    harg5.read_unread, harg6.read_unread, harg7.read_unread, harg8.read_unread, harg9.read_unread, harg15.read_unread, View.ld_unit_lit',
    View.canon_cons_unit_lit', View.readCov_cons_unit_lit']
  rfl

end Cert.KernelIdeal.RefValue

end
-- ==== Proof.Blocks.lean ====
module

public import proofs.«01_k».proof.Proof.Gen.KernelIdeal.Value
public import proofs.«01_k».proof.Proof.Tile
public import Idealize.ShloMosaic.Lib.Pointwise
public import Idealize.ShloMosaic.Lib.StableHlo.ReadAt
public import Idealize.ShloMosaic.Lib.Pipeline.ValueKit.Acc
public import Idealize.ShloMosaic.Lib.Pipeline.ValueKit.Tiles

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Tactic

section
variable (m : (ℓ : Loc nD τ sig) → Buf (Elt Ideal) ℓ)

/-- The grid has sixteen points. -/
theorem ptN (t : Fin cfg0.N) : t.val < 16 := lt_of_lt_of_eq t.isLt (show cfg0.N = 16 from N_0)

/-- Which block of window 0 a grid point takes. -/
theorem idx0 : ∀ t : Fin cfg0.N, win0_0.index t (0 : Fin 2) = t.val ∧ win0_0.index t (1 : Fin 2) = 0 :=
  (by decide +kernel : ∀ t : Fin grid0.N, _)

/-- Which block of window 1 a grid point takes. -/
theorem idx1 : ∀ t : Fin cfg0.N, win0_1.index t (0 : Fin 2) = 0 ∧ win0_1.index t (1 : Fin 2) = 0 :=
  (by decide +kernel : ∀ t : Fin grid0.N, _)

/-- Which block of window 2 a grid point takes. -/
theorem idx2 : ∀ t : Fin cfg0.N, win0_2.index t (0 : Fin 2) = 0 ∧ win0_2.index t (1 : Fin 2) = 0 :=
  (by decide +kernel : ∀ t : Fin grid0.N, _)

/-- Which block of window 3 a grid point takes. -/
theorem idx3 : ∀ t : Fin cfg0.N, win0_3.index t (0 : Fin 2) = 0 ∧ win0_3.index t (1 : Fin 2) = 0 :=
  (by decide +kernel : ∀ t : Fin grid0.N, _)

/-- Which block of window 4 a grid point takes. -/
theorem idx4 : ∀ t : Fin cfg0.N, win0_4.index t (0 : Fin 2) = 0 ∧ win0_4.index t (1 : Fin 2) = 0 :=
  (by decide +kernel : ∀ t : Fin grid0.N, _)

/-- Which block of window 5 a grid point takes. -/
theorem idx5 : ∀ t : Fin cfg0.N, win0_5.index t (0 : Fin 2) = 0 ∧ win0_5.index t (1 : Fin 2) = 0 :=
  (by decide +kernel : ∀ t : Fin grid0.N, _)

/-- Which block of window 6 a grid point takes. -/
theorem idx6 : ∀ t : Fin cfg0.N, win0_6.index t (0 : Fin 2) = 0 ∧ win0_6.index t (1 : Fin 2) = 0 :=
  (by decide +kernel : ∀ t : Fin grid0.N, _)

/-- Which block of window 7 a grid point takes. -/
theorem idx7 : ∀ t : Fin cfg0.N, win0_7.index t (0 : Fin 2) = t.val ∧ win0_7.index t (1 : Fin 2) = 0 :=
  (by decide +kernel : ∀ t : Fin grid0.N, _)

/-- Which block of window 8 a grid point takes. -/
theorem idx8 : ∀ t : Fin cfg0.N, win0_8.index t (0 : Fin 2) = t.val ∧ win0_8.index t (1 : Fin 2) = 0 :=
  (by decide +kernel : ∀ t : Fin grid0.N, _)

/-- Where the entries of window 0's block lie in the whole array. -/
theorem emb0 (t : Fin cfg0.N) (r : Fin 1024) (q : Fin 1024) : ((cfg0.win 0).blk t).view.emb (ix2 r q) = ix2 ⟨1024 * t.val + r.val, by have := ptN t; omega⟩ q := by
  obtain ⟨e0, e1⟩ := idx0 t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * q.val = q.val; omega

/-- The block of window 0 at a grid point, read in the whole array. -/
theorem iblk0_at (c : Dev nD) (t : Fin cfg0.N) (r : Fin 1024) (q : Fin 1024) : iblk (F := Ideal) m c 0 t (ix2 r q) = V (F := Ideal) m c main_arg0 (ix2 ⟨1024 * t.val + r.val, by have := ptN t; omega⟩ q) := by
  show V (F := Ideal) m c main_arg0 (((cfg0.win 0).blk t).view.emb (ix2 r q)) = _; rw [emb0]

/-- Where the entries of window 1's block lie in the whole array. -/
theorem emb1 (t : Fin cfg0.N) (r : Fin 1) (q : Fin 1024) : ((cfg0.win 1).blk t).view.emb (ix2 r q) = ix2 r q := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 1024 + 1 * q.val = q.val; omega

/-- The block of window 1 at a grid point, read in the whole array. -/
theorem iblk1_at (c : Dev nD) (t : Fin cfg0.N) (r : Fin 1) (q : Fin 1024) : iblk (F := Ideal) m c 1 t (ix2 r q) = V (F := Ideal) m c main_v1 (ix2 r q) := by
  show V (F := Ideal) m c main_v1 (((cfg0.win 1).blk t).view.emb (ix2 r q)) = _; rw [emb1]

/-- Where the entries of window 2's block lie in the whole array. -/
theorem emb2 (t : Fin cfg0.N) (r : Fin 1024) (q : Fin 3072) : ((cfg0.win 2).blk t).view.emb (ix2 r q) = ix2 r q := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 3072 + 1 * q.val = q.val; omega

/-- The block of window 2 at a grid point, read in the whole array. -/
theorem iblk2_at (c : Dev nD) (t : Fin cfg0.N) (r : Fin 1024) (q : Fin 3072) : iblk (F := Ideal) m c 2 t (ix2 r q) = V (F := Ideal) m c main_v0 (ix2 r q) := by
  show V (F := Ideal) m c main_v0 (((cfg0.win 2).blk t).view.emb (ix2 r q)) = _; rw [emb2]

/-- Where the entries of window 3's block lie in the whole array. -/
theorem emb3 (t : Fin cfg0.N) (r : Fin 3) (q : Fin 1024) : ((cfg0.win 3).blk t).view.emb (ix2 r q) = ix2 r q := by
  obtain ⟨e0, e1⟩ := idx3 t
  funext a; apply Fin.ext
  match a with
  | ⟨0, _⟩ => show win0_3.index t (0 : Fin 2) * 3 + 1 * r.val = r.val; omega
  | ⟨1, _⟩ => show win0_3.index t (1 : Fin 2) * 1024 + 1 * q.val = q.val; omega

/-- The block of window 3 at a grid point, read in the whole array. -/
theorem iblk3_at (c : Dev nD) (t : Fin cfg0.N) (r : Fin 3) (q : Fin 1024) : iblk (F := Ideal) m c 3 t (ix2 r q) = V (F := Ideal) m c main_arg3 (ix2 r q) := by
  show V (F := Ideal) m c main_arg3 (((cfg0.win 3).blk t).view.emb (ix2 r q)) = _; rw [emb3]

/-- Where the entries of window 4's block lie in the whole array. -/
theorem emb4 (t : Fin cfg0.N) (r : Fin 1) (q : Fin 1024) : ((cfg0.win 4).blk t).view.emb (ix2 r q) = ix2 r q := by
  obtain ⟨e0, e1⟩ := idx4 t
  funext a; apply Fin.ext
  match a with
  | ⟨0, _⟩ => show win0_4.index t (0 : Fin 2) * 1 + 1 * r.val = r.val; omega
  | ⟨1, _⟩ => show win0_4.index t (1 : Fin 2) * 1024 + 1 * q.val = q.val; omega

/-- The block of window 4 at a grid point, read in the whole array. -/
theorem iblk4_at (c : Dev nD) (t : Fin cfg0.N) (r : Fin 1) (q : Fin 1024) : iblk (F := Ideal) m c 4 t (ix2 r q) = V (F := Ideal) m c main_v2 (ix2 r q) := by
  show V (F := Ideal) m c main_v2 (((cfg0.win 4).blk t).view.emb (ix2 r q)) = _; rw [emb4]

/-- Where the entries of window 5's block lie in the whole array. -/
theorem emb5 (t : Fin cfg0.N) (r : Fin 1024) (q : Fin 1024) : ((cfg0.win 5).blk t).view.emb (ix2 r q) = ix2 r q := by
  obtain ⟨e0, e1⟩ := idx5 t
  funext a; apply Fin.ext
  match a with
  | ⟨0, _⟩ => show win0_5.index t (0 : Fin 2) * 1024 + 1 * r.val = r.val; omega
  | ⟨1, _⟩ => show win0_5.index t (1 : Fin 2) * 1024 + 1 * q.val = q.val; omega

/-- The block of window 5 at a grid point, read in the whole array. -/
theorem iblk5_at (c : Dev nD) (t : Fin cfg0.N) (r : Fin 1024) (q : Fin 1024) : iblk (F := Ideal) m c 5 t (ix2 r q) = V (F := Ideal) m c main_v3 (ix2 r q) := by
  show V (F := Ideal) m c main_v3 (((cfg0.win 5).blk t).view.emb (ix2 r q)) = _; rw [emb5]

/-- Where the entries of window 7's block lie in the whole array. -/
theorem emb7 (t : Fin cfg0.N) (r : Fin 64) (q : Fin 5632) : ((cfg0.win 7).blk t).view.emb (ix2 r q) = ix2 ⟨64 * t.val + r.val, by have := ptN t; omega⟩ q := by
  obtain ⟨e0, e1⟩ := idx7 t
  funext a; apply Fin.ext
  match a with
  | ⟨0, _⟩ => show win0_7.index t (0 : Fin 2) * 64 + 1 * r.val = 64 * t.val + r.val; omega
  | ⟨1, _⟩ => show win0_7.index t (1 : Fin 2) * 5632 + 1 * q.val = q.val; omega

/-- The block of window 7 at a grid point, read in the whole array. -/
theorem iblk7_at (c : Dev nD) (t : Fin cfg0.N) (r : Fin 64) (q : Fin 5632) : iblk (F := Ideal) m c 7 t (ix2 r q) = V (F := Ideal) m c main_arg7 (ix2 ⟨64 * t.val + r.val, by have := ptN t; omega⟩ q) := by
  show V (F := Ideal) m c main_arg7 (((cfg0.win 7).blk t).view.emb (ix2 r q)) = _; rw [emb7]

/-- Where the entries of window 8's block lie in the whole array. -/
theorem emb8 (t : Fin cfg0.N) (r : Fin 176) (q : Fin 1024) : ((cfg0.win 8).blk t).view.emb (ix2 r q) = ix2 ⟨176 * t.val + r.val, by have := ptN t; omega⟩ q := by
  obtain ⟨e0, e1⟩ := idx8 t
  funext a; apply Fin.ext
  match a with
  | ⟨0, _⟩ => show win0_8.index t (0 : Fin 2) * 176 + 1 * r.val = 176 * t.val + r.val; omega
  | ⟨1, _⟩ => show win0_8.index t (1 : Fin 2) * 1024 + 1 * q.val = q.val; omega

/-- The block of window 8 at a grid point, read in the whole array. -/
theorem iblk8_at (c : Dev nD) (t : Fin cfg0.N) (r : Fin 176) (q : Fin 1024) : iblk (F := Ideal) m c 8 t (ix2 r q) = V (F := Ideal) m c main_arg8 (ix2 ⟨176 * t.val + r.val, by have := ptN t; omega⟩ q) := by
  show V (F := Ideal) m c main_arg8 (((cfg0.win 8).blk t).view.emb (ix2 r q)) = _; rw [emb8]

/-- The array that the host code hands to window 0, in the function's arguments. -/
theorem V0_at (c : Dev nD) (r : Fin 1024) (q : Fin 3072) : V (F := Ideal) m c main_v0 (ix2 r q) = m ((c : Thread nD τ).loc main_arg2) (ix2 r q) := by
  unfold V; after_reads_at
/-- The array that the host code hands to window 1, in the function's arguments. -/
theorem V1_at (c : Dev nD) (r : Fin 1) (q : Fin 1024) : V (F := Ideal) m c main_v1 (ix2 r q) = m ((c : Thread nD τ).loc main_arg1) (ix1 q) := by
  unfold V; after_reads_at
/-- The array that the host code hands to window 2, in the function's arguments. -/
theorem V2_at (c : Dev nD) (r : Fin 1) (q : Fin 1024) : V (F := Ideal) m c main_v2 (ix2 r q) = m ((c : Thread nD τ).loc main_arg4) (ix1 q) := by
  unfold V; after_reads_at
/-- The array that the host code hands to window 3, in the function's arguments. -/
theorem V3_at (c : Dev nD) (r q : Fin 1024) : V (F := Ideal) m c main_v3 (ix2 r q) = m ((c : Thread nD τ).loc main_arg5) (ix2 r q) := by
  unfold V; after_reads_at

end

end Cert.KernelIdeal.RefValue

end
-- ==== Proof.Rows.lean ====
module

public import proofs.«01_k».proof.ReferenceIdeal
public import Idealize.ShloMosaic.Lib.Pointwise

@[expose] public section

set_option maxRecDepth 16384

noncomputable section

namespace Cert.Mix

open Cert.ReferenceIdeal Idealize.ShloMosaic Idealize.ShloMosaic.TcCoe Idealize.SL.Sem
open Idealize.ShloMosaic.Tactic

/-- RMS normalisation of a row `x` with weights `g`, at column `k`. -/
def rms (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- Column `q` of the first projection of a normalised row: the gate. -/
def bRow (x g : Fin 1024 → EReal) (w : FVec Ideal S1024x3072 .f32) (q : Fin 1024) : EReal :=
  ∑ k : Fin 1024, rms x g k * w (ix2 k ⟨q.val, by omega⟩)

/-- Column `q` of the convolution's input for a row: the product of the second and the third projection. -/
def uRow (x g : Fin 1024 → EReal) (w : FVec Ideal S1024x3072 .f32) (q : Fin 1024) : EReal :=
  (∑ k : Fin 1024, rms x g k * w (ix2 k ⟨1024 + q.val, by omega⟩)) * (∑ k : Fin 1024, rms x g k * w (ix2 k ⟨2048 + q.val, by omega⟩))

/-- Row `n` of the array of 16384 rows. -/
def rowN (x : FVec Ideal S16384x1024 .f32) (n : ℕ) : Fin 1024 → EReal := fun d => x (ix2 ⟨n % 16384, Nat.mod_lt _ (by decide)⟩ d)

/-- The row that holds position `t` of sequence `b`: tiles of 1024 positions, in each the eight runs of 128 positions interleaved. -/
def rowOf (b t : ℕ) : ℕ := 1024 * (4 * b + t / 1024) + 8 * (t % 128) + t % 1024 / 128

/-- The three-tap convolution with its bias, of the values two back, one back and here. -/
def taps (cw : FVec Ideal S3x1024 .f32) (cb : FVec Ideal S1024 .f32) (q : Fin 1024) (a2 a1 a0 : EReal) : EReal :=
  cw (ix2 0 q) * a2 + cw (ix2 1 q) * a1 + cw (ix2 2 q) * a0 + cb (ix1 q)

/-- The convolution's input at position `t` of sequence `b` (`k` positions after it is asked for): zero before the sequence begins. -/
def uPos (x : FVec Ideal S16384x1024 .f32) (g : FVec Ideal S1024 .f32) (w : FVec Ideal S1024x3072 .f32) (b t k : ℕ) (q : Fin 1024) : EReal :=
  if t < k then 0 else uRow (rowN x (rowOf b (t - k))) (fun d => g (ix1 d)) w q

/-- The mixer's value at position `t` of sequence `b`, column `d`. -/
def mixPos (x : FVec Ideal S16384x1024 .f32) (g : FVec Ideal S1024 .f32) (w : FVec Ideal S1024x3072 .f32) (cw : FVec Ideal S3x1024 .f32)
    (cb : FVec Ideal S1024 .f32) (wo : FVec Ideal S1024x1024 .f32) (b t : ℕ) (d : Fin 1024) : EReal :=
  rowN x (rowOf b t) d + ∑ k : Fin 1024, bRow (rowN x (rowOf b t)) (fun d => g (ix1 d)) w k
    * taps cw cb k (uPos x g w b t 2 k) (uPos x g w b t 1 k) (uPos x g w b t 0 k) * wo (ix2 k d)

end Cert.Mix

end
-- ==== Proof.Points.lean ====
module

public import proofs.«01_k».proof.Proof.Gen.KernelIdeal.Value
public import proofs.«01_k».proof.Proof.Blocks
public import proofs.«01_k».proof.Proof.Rows
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Tactic

open Cert.Mix

/-- The normalised tile, entry by entry. -/
theorem xnT_at (x0 : FVec Ideal S1024x1024 .f32) (x1 : FVec Ideal S1x1024 .f32) (r k : Fin 1024) :
    xnT x0 x1 (ix2 r k) = rms (fun d => x0 (ix2 r d)) (fun d => x1 (ix2 0 d)) k := by
  unfold xnT rms
  pointwise [k0_pay8, k0_pay6, k0_pay7]

section
variable (X : FVec Ideal S16384x1024 .f32) (g : FVec Ideal S1024 .f32) (w : FVec Ideal S1024x3072 .f32) (T : ℕ)
  (x0 : FVec Ideal S1024x1024 .f32) (x1 : FVec Ideal S1x1024 .f32) (x2 : FVec Ideal S1024x3072 .bf16)

/-- The convolution's input of a grid point's tile, in the function's arguments. -/
theorem uT_at (h0 : ∀ r d, x0 (ix2 r d) = rowN X (1024 * T + r.val) d) (h1 : ∀ q, x1 (ix2 0 q) = g (ix1 q)) (h2 : ∀ r q, x2 (ix2 r q) = w (ix2 r q))
    (q r : Fin 1024) : uT x0 x1 x2 q r = uRow (rowN X (1024 * T + r.val)) (fun d => g (ix1 d)) w q := by
  unfold uT uRow
  simp only [xnT_at, h0, h1, h2]

/-- The gate of a grid point's tile, in the function's arguments. -/
theorem bT_at (h0 : ∀ r d, x0 (ix2 r d) = rowN X (1024 * T + r.val) d) (h1 : ∀ q, x1 (ix2 0 q) = g (ix1 q)) (h2 : ∀ r q, x2 (ix2 r q) = w (ix2 r q))
    (q r : Fin 1024) : bT x0 x1 x2 q r = bRow (rowN X (1024 * T + r.val)) (fun d => g (ix1 d)) w q := by
  unfold bT bRow
  simp only [xnT_at, h0, h1, h2]

end

/-- The row of run `s`, place `j` of tile `T`. -/
theorem rowOf_tile (T s j : ℕ) (hs : s < 8) (hj : j < 128) : rowOf (T / 4) (1024 * (T % 4) + 128 * s + j) = 1024 * T + 8 * j + s := by
  unfold rowOf
  have e1 : (1024 * (T % 4) + 128 * s + j) / 1024 = T % 4 := by omega
  have e2 : (1024 * (T % 4) + 128 * s + j) % 128 = j := by omega
  have e3 : (1024 * (T % 4) + 128 * s + j) % 1024 / 128 = s := by omega
  rw [e1, e2, e3]; omega

/-- The value at the position `k` before that of row `r` of tile `T`, `k` at most 2: `0` before the sequence, else that of its row. -/
theorem before_tile {α : Type} (z : α) (U : ℕ → α) (T r k : ℕ) (hr : r < 1024) (hk : k ≤ 2) :
    (if 1024 * (T % 4) + 128 * (r % 8) + r / 8 < k then z else U (rowOf (T / 4) (1024 * (T % 4) + 128 * (r % 8) + r / 8 - k)))
      = if 8 * k ≤ r then U (1024 * T + (r - 8 * k)) else if r % 8 ≠ 0 then U (1024 * T + (r + 1023 - 8 * k))
        else if T % 4 = 0 then z else U (1024 * (T - 1) + 1008 + (r + 23 - 8 * k)) := by
  have hj : r / 8 < 128 := by omega
  have hs : r % 8 < 8 := by omega
  have hrr : r = 8 * (r / 8) + r % 8 := by omega
  split
  · rename_i h
    rw [if_neg (by omega), if_neg (by omega), if_pos (by omega)]
  · rename_i h
    split
    · rename_i h1
      refine congrArg U ?_
      rw [show 1024 * (T % 4) + 128 * (r % 8) + r / 8 - k = 1024 * (T % 4) + 128 * (r % 8) + (r / 8 - k) by omega, rowOf_tile _ _ _ hs (by omega)]
      omega
    · rename_i h1
      split
      · rename_i h2
        refine congrArg U ?_
        rw [show 1024 * (T % 4) + 128 * (r % 8) + r / 8 - k = 1024 * (T % 4) + 128 * (r % 8 - 1) + (r / 8 + 128 - k) by omega, rowOf_tile _ _ _ (by omega) (by omega)]
        omega
      · rename_i h2
        rw [if_neg (by omega)]
        refine congrArg U ?_
        rw [show T / 4 = (T - 1) / 4 by omega, show 1024 * (T % 4) + 128 * (r % 8) + r / 8 - k = 1024 * ((T - 1) % 4) + 128 * 7 + (r / 8 + 128 - k) by omega,
          rowOf_tile _ _ _ (by omega) (by omega)]
        omega

/-- The row 1 positions back, in the function's arguments. -/
theorem back1_at (U : ℕ → EReal) (T : ℕ) (p : Fin 16 → EReal) (hp : ∀ i : Fin 16, p i = if T % 4 = 0 then 0 else U (1024 * (T - 1) + 1008 + i.val)) (r : Fin 1024) :
    back1 (fun r => U (1024 * T + r.val)) p r
      = if 1024 * (T % 4) + 128 * (r.val % 8) + r.val / 8 < 1 then 0 else U (rowOf (T / 4) (1024 * (T % 4) + 128 * (r.val % 8) + r.val / 8 - 1)) := by
  have hr := r.isLt
  rw [before_tile 0 U T r.val 1 hr (by omega)]
  unfold back1
  by_cases h : r.val < 8
  · rw [dif_pos h, if_neg (show ¬8 * 1 ≤ r.val by omega)]
    by_cases h0 : r.val = 0
    · rw [if_pos h0, if_neg (show ¬r.val % 8 ≠ 0 by omega), hp]
      refine congrArg (ite _ _) (congrArg U ?_)
      show 1024 * (T - 1) + 1008 + 15 = _
      omega
    · rw [if_neg h0, if_pos (show r.val % 8 ≠ 0 by omega)]
      refine congrArg U ?_
      show 1024 * T + (1016 + (r.val - 1)) = _
      omega
  · rw [dif_neg h, if_pos (show 8 * 1 ≤ r.val by omega)]

/-- The row 2 positions back, in the function's arguments. -/
theorem back2_at (U : ℕ → EReal) (T : ℕ) (p : Fin 16 → EReal) (hp : ∀ i : Fin 16, p i = if T % 4 = 0 then 0 else U (1024 * (T - 1) + 1008 + i.val)) (r : Fin 1024) :
    back2 (fun r => U (1024 * T + r.val)) p r
      = if 1024 * (T % 4) + 128 * (r.val % 8) + r.val / 8 < 2 then 0 else U (rowOf (T / 4) (1024 * (T % 4) + 128 * (r.val % 8) + r.val / 8 - 2)) := by
  have hr := r.isLt
  rw [before_tile 0 U T r.val 2 hr (by omega)]
  unfold back2
  by_cases h : r.val < 8
  · rw [dif_pos h, if_neg (show ¬8 * 2 ≤ r.val by omega)]
    by_cases h0 : r.val = 0
    · rw [if_pos h0, if_neg (show ¬r.val % 8 ≠ 0 by omega), hp]
      refine congrArg (ite _ _) (congrArg U ?_)
      show 1024 * (T - 1) + 1008 + 7 = _
      omega
    · rw [if_neg h0, if_pos (show r.val % 8 ≠ 0 by omega)]
      refine congrArg U ?_
      show 1024 * T + (1008 + (r.val - 1)) = _
      omega
  · rw [dif_neg h]
    by_cases h' : r.val < 16
    · rw [dif_pos h', if_neg (show ¬8 * 2 ≤ r.val by omega)]
      by_cases h0 : r.val = 8
      · rw [if_pos h0, if_neg (show ¬r.val % 8 ≠ 0 by omega), hp]
        refine congrArg (ite _ _) (congrArg U ?_)
        show 1024 * (T - 1) + 1008 + 15 = _
        omega
      · rw [if_neg h0, if_pos (show r.val % 8 ≠ 0 by omega)]
        refine congrArg U ?_
        show 1024 * T + (1016 + (r.val - 9)) = _
        omega
    · rw [dif_neg h', if_pos (show 8 * 2 ≤ r.val by omega)]

/-- The output tile is the mixer at the rows' positions, when the carry holds the end of the tile before. -/
theorem outT_at (X : FVec Ideal S16384x1024 .f32) (g : FVec Ideal S1024 .f32) (w : FVec Ideal S1024x3072 .f32) (cw : FVec Ideal S3x1024 .f32)
    (cb : FVec Ideal S1024 .f32) (wo : FVec Ideal S1024x1024 .f32) (T : ℕ)
    (x0 : FVec Ideal S1024x1024 .f32) (x1 : FVec Ideal S1x1024 .f32) (x2 : FVec Ideal S1024x3072 .bf16) (x3 : FVec Ideal S3x1024 .f32)
    (x4 : FVec Ideal S1x1024 .f32) (x5 : FVec Ideal S1024x1024 .bf16) (p : Fin 16 → Fin 1024 → EReal)
    (h0 : ∀ r d, x0 (ix2 r d) = rowN X (1024 * T + r.val) d) (h1 : ∀ q, x1 (ix2 0 q) = g (ix1 q)) (h2 : ∀ r q, x2 (ix2 r q) = w (ix2 r q))
    (h3 : ∀ r q, x3 (ix2 r q) = cw (ix2 r q)) (h4 : ∀ q, x4 (ix2 0 q) = cb (ix1 q)) (h5 : ∀ r q, x5 (ix2 r q) = wo (ix2 r q))
    (hp : ∀ i q, p i q = if T % 4 = 0 then 0 else uRow (rowN X (1024 * (T - 1) + 1008 + i.val)) (fun d => g (ix1 d)) w q) (r d : Fin 1024) :
    outT x0 x1 x2 x3 x4 x5 p r d = mixPos X g w cw cb wo (T / 4) (1024 * (T % 4) + 128 * (r.val % 8) + r.val / 8) d := by
  have hr := r.isLt
  have hrow : rowOf (T / 4) (1024 * (T % 4) + 128 * (r.val % 8) + r.val / 8) = 1024 * T + r.val := by
    rw [rowOf_tile _ _ _ (by omega) (by omega)]; omega
  unfold outT mixPos
  rw [h0, hrow]
  refine congrArg (rowN X (1024 * T + r.val) d + ·) (Finset.sum_congr rfl fun k _ => ?_)
  have hu : uT x0 x1 x2 k = fun r => uRow (rowN X (1024 * T + r.val)) (fun d => g (ix1 d)) w k := by
    funext r; exact uT_at X g w T x0 x1 x2 h0 h1 h2 k r
  have hb2 : back2 (fun r => uRow (rowN X (1024 * T + r.val)) (fun d => g (ix1 d)) w k) (fun i => p i k) r
      = uPos X g w (T / 4) (1024 * (T % 4) + 128 * (r.val % 8) + r.val / 8) 2 k :=
    back2_at (fun n => uRow (rowN X n) (fun d => g (ix1 d)) w k) T _ (fun i => hp i k) r
  have hb1 : back1 (fun r => uRow (rowN X (1024 * T + r.val)) (fun d => g (ix1 d)) w k) (fun i => p i k) r
      = uPos X g w (T / 4) (1024 * (T % 4) + 128 * (r.val % 8) + r.val / 8) 1 k :=
    back1_at (fun n => uRow (rowN X n) (fun d => g (ix1 d)) w k) T _ (fun i => hp i k) r
  have hb0 : uRow (rowN X (1024 * T + r.val)) (fun d => g (ix1 d)) w k = uPos X g w (T / 4) (1024 * (T % 4) + 128 * (r.val % 8) + r.val / 8) 0 k := by
    unfold uPos; rw [if_neg (Nat.not_lt_zero _), Nat.sub_zero, hrow]
  unfold actT gated taps
  rw [hu]
  beta_reduce
  rw [hb2, hb1, hb0, bT_at X g w T x0 x1 x2 h0 h1 h2, h3, h3, h3, h4, h5]

section
variable (m : (ℓ : Loc nD τ sig) → Buf (Elt Ideal) ℓ)

/-- Window 0's block at a grid point, in the function's arguments. -/
theorem blk0 (c : Dev nD) (t : Fin cfg0.N) (r d : Fin 1024) : iblk (F := Ideal) m c 0 t (ix2 r d) = rowN (m ((c : Thread nD τ).loc main_arg0)) (1024 * t.val + r.val) d := by
  rw [iblk0_at, V_main_arg0]
  unfold rowN
  refine congrArg (fun i => m ((c : Thread nD τ).loc main_arg0) (ix2 i d)) (Fin.ext ?_)
  show 1024 * t.val + r.val = (1024 * t.val + r.val) % 16384
  have := ptN t; omega
/-- Window 1's block at a grid point, in the function's arguments. -/
theorem blk1 (c : Dev nD) (t : Fin cfg0.N) (q : Fin 1024) : iblk (F := Ideal) m c 1 t (ix2 0 q) = m ((c : Thread nD τ).loc main_arg1) (ix1 q) := by
  rw [iblk1_at, V1_at]
/-- Window 2's block at a grid point, in the function's arguments. -/
theorem blk2 (c : Dev nD) (t : Fin cfg0.N) (r : Fin 1024) (q : Fin 3072) : iblk (F := Ideal) m c 2 t (ix2 r q) = m ((c : Thread nD τ).loc main_arg2) (ix2 r q) := by
  rw [iblk2_at, V0_at]
/-- Window 3's block at a grid point, in the function's arguments. -/
theorem blk3 (c : Dev nD) (t : Fin cfg0.N) (r : Fin 3) (q : Fin 1024) : iblk (F := Ideal) m c 3 t (ix2 r q) = m ((c : Thread nD τ).loc main_arg3) (ix2 r q) := by
  rw [iblk3_at, V_main_arg3]
/-- Window 4's block at a grid point, in the function's arguments. -/
theorem blk4 (c : Dev nD) (t : Fin cfg0.N) (q : Fin 1024) : iblk (F := Ideal) m c 4 t (ix2 0 q) = m ((c : Thread nD τ).loc main_arg4) (ix1 q) := by
  rw [iblk4_at, V2_at]
/-- Window 5's block at a grid point, in the function's arguments. -/
theorem blk5 (c : Dev nD) (t : Fin cfg0.N) (r q : Fin 1024) : iblk (F := Ideal) m c 5 t (ix2 r q) = m ((c : Thread nD τ).loc main_arg5) (ix2 r q) := by
  rw [iblk5_at, V3_at]

/-- What every point leaves in the carry: the last 16 rows of the convolution's input of its tile. -/
theorem carry_at (c : Dev nD) (t : Fin cfg0.N) (i : Fin 16) (q : Fin 1024) :
    (outsAt0 m c t.val t.isLt).2.2.2 (ix2 i q)
      = uRow (rowN (m ((c : Thread nD τ).loc main_arg0)) (1024 * t.val + 1008 + i.val)) (fun d => m ((c : Thread nD τ).loc main_arg1) (ix1 d)) (m ((c : Thread nD τ).loc main_arg2)) q := by
  have key := uT_at (m ((c : Thread nD τ).loc main_arg0)) (m ((c : Thread nD τ).loc main_arg1)) (m ((c : Thread nD τ).loc main_arg2)) t.val
    (iblk m c 0 t) (iblk m c 1 t) (iblk m c 2 t) (blk0 m c t) (blk1 m c t) (blk2 m c t) q ⟨1008 + i.val, by omega⟩
  rw [show 1024 * t.val + (⟨1008 + i.val, by omega⟩ : Fin 1024).val = 1024 * t.val + 1008 + i.val from (Nat.add_assoc _ _ _).symm] at key
  refine Eq.trans ?_ key
  by_cases h0 : t.val % 4 = 0
  · rw [outsAt0_A m c t h0]
    dsimp only
    rw [sout0_A_2_apply]
  · rw [outsAt0_B m c t h0]
    dsimp only
    rw [sout0_B_2_apply]

/-- What every point leaves in its output tile. -/
theorem tile_at (c : Dev nD) (t : Fin cfg0.N) (r d : Fin 1024) :
    (outsAt0 m c t.val t.isLt).1 (ix2 r d)
      = mixPos (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (t.val / 4) (1024 * (t.val % 4) + 128 * (r.val % 8) + r.val / 8) d := by
  by_cases h0 : t.val % 4 = 0
  · rw [outsAt0_A m c t h0]
    dsimp only
    rw [out0_A_9_apply]
    exact outT_at _ _ _ _ _ _ t.val _ _ _ _ _ _ _ (blk0 m c t) (blk1 m c t) (blk2 m c t) (blk3 m c t) (blk4 m c t) (blk5 m c t)
      (fun i q => (if_pos h0).symm) r d
  · rw [outsAt0_B m c t h0]
    dsimp only
    rw [out0_B_9_apply]
    exact outT_at _ _ _ _ _ _ t.val _ _ _ _ _ _ _ (blk0 m c t) (blk1 m c t) (blk2 m c t) (blk3 m c t) (blk4 m c t) (blk5 m c t)
      (fun i q => by rw [if_neg h0]; exact carry_at m c ⟨t.val - 1, by have := t.isLt; omega⟩ i q) r d

/-- What every point leaves in its strips of the next weights. -/
theorem strip10_at (c : Dev nD) (t : Fin cfg0.N) (r : Fin 64) (q : Fin 5632) :
    (outsAt0 m c t.val t.isLt).2.1 (ix2 r q) = m ((c : Thread nD τ).loc main_arg7) (ix2 ⟨64 * t.val + r.val, by have := ptN t; omega⟩ q) := by
  rw [← V_main_arg7 m c, ← iblk7_at]
  by_cases h0 : t.val % 4 = 0
  · rw [outsAt0_A m c t h0]
    dsimp only
    rw [out0_A_10_eq]
  · rw [outsAt0_B m c t h0]
    dsimp only
    rw [out0_B_10_eq]

/-- The strip of window 11 that a grid point copies. -/
theorem strip11_at (c : Dev nD) (t : Fin cfg0.N) (r : Fin 176) (q : Fin 1024) :
    (outsAt0 m c t.val t.isLt).2.2.1 (ix2 r q) = m ((c : Thread nD τ).loc main_arg8) (ix2 ⟨176 * t.val + r.val, by have := ptN t; omega⟩ q) := by
  rw [← V_main_arg8 m c, ← iblk8_at]
  by_cases h0 : t.val % 4 = 0
  · rw [outsAt0_A m c t h0]
    dsimp only
    rw [out0_A_11_eq]
  · rw [outsAt0_B m c t h0]
    dsimp only
    rw [out0_B_11_eq]

end

end Cert.KernelIdeal.RefValue

end
-- ==== Proof.Reference.lean ====
module

public import proofs.«01_k».proof.Proof.Gen.ReferenceIdeal.Read
public import proofs.«01_k».proof.Proof.Rows
public import Idealize.ShloMosaic.Lib.KernelVsHost
public import Idealize.ShloMosaic.Lib.Pointwise

@[expose] public section

set_option maxRecDepth 16384

noncomputable section

namespace Cert.Mix

open Cert.ReferenceIdeal Idealize.ShloMosaic Idealize.ShloMosaic.TcCoe Idealize.SL.Sem
open Idealize.ShloMosaic.Tactic

open Cert.ReferenceIdeal.Read

/-- The projection's three groups of columns. -/
theorem split_cols (X d : ℕ) (hd : d < 1024) : (X * 1024 + d) / 1024 = X ∧ (X * 1024 + d) % 1024 = d ∧ (X * 1024 + d) / 1048576 = X / 1024
    ∧ (X * 1024 + d) / 131072 = X / 128 ∧ (X * 1024 + d) / 8192 = X / 8 ∧ (X * 1024 + d) / 4194304 = X / 4096 := by
  refine ⟨?_, ?_, ?_, ?_, ?_, ?_⟩ <;> omega

/-- The row of a position. -/
theorem row_eq (b t : ℕ) (hb : b < 4) (ht : t < 4096) : ((b * 4096 + t) / 1024 * 128 + (b * 4096 + t) % 128) * 8 + (b * 4096 + t) / 128 % 8
    = (1024 * (4 * b + t / 1024) + 8 * (t % 128) + t % 1024 / 128) % 16384 := by
  have e1 : (b * 4096 + t) / 1024 = 4 * b + t / 1024 := by omega
  have e2 : (b * 4096 + t) % 128 = t % 128 := by omega
  have e3 : (b * 4096 + t) / 128 % 8 = t % 1024 / 128 := by omega
  rw [e1, e2, e3]
  have h1 : t / 1024 < 4 := by omega
  have h2 : t % 128 < 128 := by omega
  have h3 : t % 1024 / 128 < 8 := by omega
  generalize t / 1024 = A at *
  generalize t % 128 = B at *
  generalize t % 1024 / 128 = C at *
  omega

/-- The position of a row. -/
theorem pos_eq (r : ℕ) (hr : r < 16384) : ((r / 1024 * 8 + r % 8) * 128 + r / 8 % 128) / 4096 = r / 4096
    ∧ ((r / 1024 * 8 + r % 8) * 128 + r / 8 % 128) % 4096 = 1024 * (r / 1024 % 4) + 128 * (r % 8) + r % 1024 / 8 := by
  have e1 : r / 8 % 128 = r % 1024 / 8 := by omega
  have e2 : r / 4096 = r / 1024 / 4 := by omega
  rw [e1, e2]
  have h2 : r % 8 < 8 := by omega
  have h3 : r % 1024 / 8 < 128 := by omega
  generalize r / 1024 = A at *
  generalize r % 8 = B at *
  generalize r % 1024 / 8 = C at *
  constructor <;> omega

/-- Position `t` of sequence `b` is its row. -/
theorem v2_at (x0 : FVec Ideal S16384x1024 .f32) (b : Fin 4) (t : Fin 4096) (d : Fin 1024) :
    val_main_v2 (F := Ideal) x0 (ix3 b t d) = rowN x0 (rowOf b.val t.val) d := by
  rw [val_main_v2_apply, val_main_v1_apply, val_main_v0_apply]
  unfold rowN rowOf
  refine congrArg x0 (funext fun a => Fin.ext ?_)
  have hb := b.isLt; have ht := t.isLt; have hd := d.isLt
  have hs := fun X => split_cols X d.val hd
  match a with
  | ⟨0, _⟩ =>
    show (((((b.val * 4096 + t.val) * 1024 + d.val) / 1048576 * 128 + ((b.val * 4096 + t.val) * 1024 + d.val) / 1024 % 128) * 8
      + ((b.val * 4096 + t.val) * 1024 + d.val) / 131072 % 8) * 1024 + ((b.val * 4096 + t.val) * 1024 + d.val) % 1024) / 1024
      = (1024 * (4 * b.val + t.val / 1024) + 8 * (t.val % 128) + t.val % 1024 / 128) % 16384
    simp only [(hs _).1, (hs _).2.1, (hs _).2.2.1, (hs _).2.2.2.1, (hs _).2.2.2.2.1, (hs _).2.2.2.2.2]
    exact row_eq b.val t.val hb ht
  | ⟨1, _⟩ =>
    show (((((b.val * 4096 + t.val) * 1024 + d.val) / 1048576 * 128 + ((b.val * 4096 + t.val) * 1024 + d.val) / 1024 % 128) * 8
      + ((b.val * 4096 + t.val) * 1024 + d.val) / 131072 % 8) * 1024 + ((b.val * 4096 + t.val) * 1024 + d.val) % 1024) % 1024 = d.val
    simp only [(hs _).1, (hs _).2.1, (hs _).2.2.1, (hs _).2.2.2.1, (hs _).2.2.2.2.1, (hs _).2.2.2.2.2]

/-- One entry of the reference's value 15. -/
theorem v15_at (x0 : FVec Ideal S16384x1024 .f32) (x1 : FVec Ideal S1024 .f32) (b : Fin 4) (t : Fin 4096) (k : Fin 1024) :
    val_main_v15 (F := Ideal) x0 x1 (ix3 b t k) = rms (rowN x0 (rowOf b.val t.val)) (fun d => x1 (ix1 d)) k := by
  unfold rms
  simp only [← v2_at]
  pointwise [val_main_v15, val_main_v14, val_main_v13, val_main_v12, val_main_v11, val_main_v10, val_main_v9, val_main_v8, val_main_v7, val_main_v6, val_main_v5, val_main_v4, val_main_v3, val_main_cst, val_main_cst_0, val_main_cst_1]

/-- One entry of the reference's value 17. -/
theorem v17_at (x0 : FVec Ideal S16384x1024 .f32) (x1 : FVec Ideal S1024 .f32) (x2 : FVec Ideal S1024x3072 .f32) (b : Fin 4) (t : Fin 4096) (q : Fin 1024) :
    val_main_v17 (F := Ideal) x0 x1 x2 (ix3 b t q) = bRow (rowN x0 (rowOf b.val t.val)) (fun d => x1 (ix1 d)) x2 q := by
  unfold bRow
  simp only [← v15_at]
  pointwise [val_main_v17, val_main_v16]

/-- One entry of the reference's value 20. -/
theorem v20_at (x0 : FVec Ideal S16384x1024 .f32) (x1 : FVec Ideal S1024 .f32) (x2 : FVec Ideal S1024x3072 .f32) (b : Fin 4) (t : Fin 4096) (q : Fin 1024) :
    val_main_v20 (F := Ideal) x0 x1 x2 (ix3 b t q) = uRow (rowN x0 (rowOf b.val t.val)) (fun d => x1 (ix1 d)) x2 q := by
  unfold uRow
  simp only [← v15_at]
  pointwise [val_main_v20, val_main_v19, val_main_v18, val_main_v16]

/-- One entry of the reference's value 21. -/
theorem v21_at (x0 : FVec Ideal S16384x1024 .f32) (x1 : FVec Ideal S1024 .f32) (x2 : FVec Ideal S1024x3072 .f32) (b : Fin 4) (t : ℕ) (k : ℕ) (hk : k ≤ 2) (ht : t < 4096) (h : t + (2 - k) < 4098) (q : Fin 1024) :
    val_main_v21 (F := Ideal) x0 x1 x2 (ix3 b ⟨t + (2 - k), h⟩ q) = uPos x0 x1 x2 b.val t k q := by
  unfold uPos
  split
  · rename_i hlt
    pointwise [val_main_v21]
    rw [dif_neg (by omega)]
    exact sitofp_zero (φ := .f32)
  · rename_i hge
    refine Eq.trans ?_ (v20_at x0 x1 x2 b ⟨t - k, by omega⟩ q)
    pointwise [val_main_v21]
    rw [dif_pos (by omega)]
    refine congrArg (fun i => val_main_v20 (F := Ideal) x0 x1 x2 (ix3 b i q)) (Fin.ext ?_)
    show t + (2 - k) - 2 = t - k
    omega

/-- One entry of the reference's value 44. -/
theorem v44_at (x0 : FVec Ideal S16384x1024 .f32) (x1 : FVec Ideal S1024 .f32) (x2 : FVec Ideal S1024x3072 .f32) (x3 : FVec Ideal S3x1024 .f32) (x4 : FVec Ideal S1024 .f32)
    (b : Fin 4) (t : Fin 4096) (q : Fin 1024) :
    val_main_v44 (F := Ideal) x0 x1 x2 x3 x4 (ix3 b t q) = bRow (rowN x0 (rowOf b.val t.val)) (fun d => x1 (ix1 d)) x2 q
      * taps x3 x4 q (uPos x0 x1 x2 b.val t.val 2 q) (uPos x0 x1 x2 b.val t.val 1 q) (uPos x0 x1 x2 b.val t.val 0 q) := by
  unfold taps
  have ht := t.isLt
  rw [← v21_at x0 x1 x2 b t.val 2 (by omega) ht (by omega) q, ← v21_at x0 x1 x2 b t.val 1 (by omega) ht (by omega) q,
    show uPos x0 x1 x2 b.val t.val 0 q = val_main_v20 (F := Ideal) x0 x1 x2 (ix3 b t q) from by
      rw [v20_at]; unfold uPos; rw [if_neg (by omega)]; rfl, ← v17_at]
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22]
  simp only [Nat.add_comm 1]

/-- One entry of the reference's value 46. -/
theorem v46_at (x0 : FVec Ideal S16384x1024 .f32) (x1 : FVec Ideal S1024 .f32) (x2 : FVec Ideal S1024x3072 .f32) (x3 : FVec Ideal S3x1024 .f32) (x4 : FVec Ideal S1024 .f32)
    (x5 : FVec Ideal S1024x1024 .f32) (b : Fin 4) (t : Fin 4096) (d : Fin 1024) :
    val_main_v46 (F := Ideal) x0 x1 x2 x3 x4 x5 (ix3 b t d) = mixPos x0 x1 x2 x3 x4 x5 b.val t.val d := by
  unfold mixPos
  simp only [← v44_at]
  rw [← v2_at]
  pointwise [val_main_v46, val_main_v45]

/-- The reference's result at row `r`, column `d`: the mixer at the position the row holds. -/
theorem v49_at (x0 : FVec Ideal S16384x1024 .f32) (x1 : FVec Ideal S1024 .f32) (x2 : FVec Ideal S1024x3072 .f32) (x3 : FVec Ideal S3x1024 .f32) (x4 : FVec Ideal S1024 .f32)
    (x5 : FVec Ideal S1024x1024 .f32) (r : Fin 16384) (d : Fin 1024) :
    val_main_v49 (F := Ideal) x0 x1 x2 x3 x4 x5 (ix2 r d)
      = mixPos x0 x1 x2 x3 x4 x5 (r.val / 4096) (1024 * (r.val / 1024 % 4) + 128 * (r.val % 8) + r.val % 1024 / 8) d := by
  have hr := r.isLt; have hd := d.isLt
  have hs := fun X => split_cols X d.val hd
  refine Eq.trans ?_ (v46_at x0 x1 x2 x3 x4 x5 ⟨r.val / 4096, by omega⟩ ⟨1024 * (r.val / 1024 % 4) + 128 * (r.val % 8) + r.val % 1024 / 8, by omega⟩ d)
  rw [val_main_v49_apply, val_main_v48_apply, val_main_v47_apply]
  refine congrArg _ (funext fun a => Fin.ext ?_)
  match a with
  | ⟨0, _⟩ =>
    show ((((r.val * 1024 + d.val) / 1048576 * 8 + (r.val * 1024 + d.val) / 1024 % 8) * 128 + (r.val * 1024 + d.val) / 8192 % 128) * 1024 + (r.val * 1024 + d.val) % 1024) / 4194304 = r.val / 4096
    simp only [(hs _).1, (hs _).2.1, (hs _).2.2.1, (hs _).2.2.2.1, (hs _).2.2.2.2.1, (hs _).2.2.2.2.2]
    exact (pos_eq r.val hr).1
  | ⟨1, _⟩ =>
    show ((((r.val * 1024 + d.val) / 1048576 * 8 + (r.val * 1024 + d.val) / 1024 % 8) * 128 + (r.val * 1024 + d.val) / 8192 % 128) * 1024 + (r.val * 1024 + d.val) % 1024) / 1024 % 4096
      = 1024 * (r.val / 1024 % 4) + 128 * (r.val % 8) + r.val % 1024 / 8
    simp only [(hs _).1, (hs _).2.1, (hs _).2.2.1, (hs _).2.2.2.1, (hs _).2.2.2.2.1, (hs _).2.2.2.2.2]
    exact (pos_eq r.val hr).2
  | ⟨2, _⟩ =>
    show ((((r.val * 1024 + d.val) / 1048576 * 8 + (r.val * 1024 + d.val) / 1024 % 8) * 128 + (r.val * 1024 + d.val) / 8192 % 128) * 1024 + (r.val * 1024 + d.val) % 1024) % 1024 = d.val
    simp only [(hs _).1, (hs _).2.1, (hs _).2.2.1, (hs _).2.2.2.1, (hs _).2.2.2.2.1, (hs _).2.2.2.2.2]

end Cert.Mix

end
-- ==== Proof.Final.lean ====
module

public import proofs.«01_k».proof.Proof.Gen.KernelIdeal.Value
public import proofs.«01_k».proof.Proof.Points
public import proofs.«01_k».proof.Proof.Reference
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Tactic

open Cert.Mix

section
variable (m : (ℓ : Loc nD τ sig) → Buf (Elt Ideal) ℓ)

/-- The array of the first result is the reference's, row by row. -/
theorem G9_eq (c : Dev nD) : Value.G9 (F := Ideal) m c
    = Cert.ReferenceIdeal.Read.val_main_v49 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨r, d, rfl⟩ : ∃ (r : Fin 16384) (d : Fin 1024), i = ix2 r d := ⟨i 0, i 1, eq_ix2 i⟩
  have hr := r.isLt; have hd := d.isLt
  have hN : cfg0.N = 16 := N_0
  have hp : Value.pt9Of (ix2 r d) = r.val / 1024 := by
    show 1 * (r.val / 1024 - 0) + 1 * (d.val / 1024 - 0) = r.val / 1024; omega
  have hlt : Value.pt9Of (ix2 r d) < cfg0.N := by rw [hp, hN]; omega
  rw [v49_at]
  unfold Value.G9
  rw [dif_pos hlt, ← Value.outsAt0_sweep m c _ hlt]
  have hl : Value.loc9Of (ix2 r d) = ix2 (⟨r.val % 1024, by omega⟩ : Fin 1024) d := by
    funext a; apply Fin.ext
    match a with
    | ⟨0, _⟩ => rfl
    | ⟨1, _⟩ => show d.val % 1024 = d.val; omega
  rw [hl]
  refine (tile_at m c ⟨Value.pt9Of (ix2 r d), hlt⟩ _ _).trans ?_
  show mixPos _ _ _ _ _ _ (Value.pt9Of (ix2 r d) / 4) (1024 * (Value.pt9Of (ix2 r d) % 4) + 128 * (r.val % 1024 % 8) + r.val % 1024 / 8) d = _
  rw [hp, show r.val / 1024 / 4 = r.val / 4096 by omega, show r.val % 1024 % 8 = r.val % 8 by omega]

/-- The second result is the next layer's first weights. -/
theorem G10_eq (c : Dev nD) : Value.G10 (F := Ideal) m c = m ((c : Thread nD τ).loc main_arg7) := by
  funext i
  obtain ⟨r, q, rfl⟩ : ∃ (r : Fin 1024) (q : Fin 5632), i = ix2 r q := ⟨i 0, i 1, eq_ix2 i⟩
  have hr := r.isLt; have hq := q.isLt
  have hN : cfg0.N = 16 := N_0
  have hp : Value.pt10Of (ix2 r q) = r.val / 64 := by
    show 1 * (r.val / 64 - 0) + 1 * (q.val / 5632 - 0) = r.val / 64; omega
  have hlt : Value.pt10Of (ix2 r q) < cfg0.N := by rw [hp, hN]; omega
  unfold Value.G10
  rw [dif_pos hlt, ← Value.outsAt0_sweep m c _ hlt]
  have hl : Value.loc10Of (ix2 r q) = ix2 (⟨r.val % 64, by omega⟩ : Fin 64) q := by
    funext a; apply Fin.ext
    match a with
    | ⟨0, _⟩ => rfl
    | ⟨1, _⟩ => show q.val % 5632 = q.val; omega
  rw [hl]
  refine (strip10_at m c ⟨Value.pt10Of (ix2 r q), hlt⟩ _ _).trans ?_
  refine congrArg (fun i => m ((c : Thread nD τ).loc main_arg7) (ix2 i q)) (Fin.ext ?_)
  show 64 * Value.pt10Of (ix2 r q) + r.val % 64 = r.val
  rw [hp]; omega

/-- The third result is the next layer's second weights. -/
theorem G11_eq (c : Dev nD) : Value.G11 (F := Ideal) m c = m ((c : Thread nD τ).loc main_arg8) := by
  funext i
  obtain ⟨r, q, rfl⟩ : ∃ (r : Fin 2816) (q : Fin 1024), i = ix2 r q := ⟨i 0, i 1, eq_ix2 i⟩
  have hr := r.isLt; have hq := q.isLt
  have hN : cfg0.N = 16 := N_0
  have hp : Value.pt11Of (ix2 r q) = r.val / 176 := by
    show 1 * (r.val / 176 - 0) + 1 * (q.val / 1024 - 0) = r.val / 176; omega
  have hlt : Value.pt11Of (ix2 r q) < cfg0.N := by rw [hp, hN]; omega
  unfold Value.G11
  rw [dif_pos hlt, ← Value.outsAt0_sweep m c _ hlt]
  have hl : Value.loc11Of (ix2 r q) = ix2 (⟨r.val % 176, by omega⟩ : Fin 176) q := by
    funext a; apply Fin.ext
    match a with
    | ⟨0, _⟩ => rfl
    | ⟨1, _⟩ => show q.val % 1024 = q.val; omega
  rw [hl]
  refine (strip11_at m c ⟨Value.pt11Of (ix2 r q), hlt⟩ _ _).trans ?_
  refine congrArg (fun i => m ((c : Thread nD τ).loc main_arg8) (ix2 i q)) (Fin.ext ?_)
  show 176 * Value.pt11Of (ix2 r q) + r.val % 176 = r.val
  rw [hp]; omega

end

end Cert.KernelIdeal.RefValue

end
-- ==== Proof.FfnRows.lean ====
/-
  The ConvFFN of one position, in the rows of its input.
-/
module

public import proofs.«01_k».proof.Reference2Ideal
public import proofs.«01_k».proof.Proof.Rows
public import Idealize.ShloMosaic.Lib.Pointwise

@[expose] public section

set_option maxRecDepth 16384

noncomputable section

namespace Cert.Ffn

open Cert.Reference2Ideal Idealize.ShloMosaic Idealize.ShloMosaic.TcCoe Idealize.SL.Sem
open Idealize.ShloMosaic.Tactic

open Cert.Mix (rms)

/-- Column `q` of the up projection of a normalised row. -/
def upRow (x g : Fin 1024 → EReal) (w : FVec Ideal S1024x5632 .f32) (q : Fin 5632) : EReal :=
  ∑ k : Fin 1024, rms x g k * w (ix2 k q)

/-- The row of position `t` of sequence `b`. -/
def xRow (x : FVec Ideal S4x4096x1024 .f32) (b t : ℕ) : Fin 1024 → EReal :=
  fun d => x (ix3 ⟨b % 4, Nat.mod_lt _ (by decide)⟩ ⟨t % 4096, Nat.mod_lt _ (by decide)⟩ d)

/-- The three-tap convolution with its bias, of the values two back, one back and here. -/
def taps (cw : FVec Ideal S3x5632 .f32) (cb : FVec Ideal S5632 .f32) (q : Fin 5632) (a2 a1 a0 : EReal) : EReal :=
  cw (ix2 0 q) * a2 + cw (ix2 1 q) * a1 + cw (ix2 2 q) * a0 + cb (ix1 q)

/-- The up projection `k` positions before position `t` of sequence `b`: zero before the sequence begins. -/
def upPos (x : FVec Ideal S4x4096x1024 .f32) (g : FVec Ideal S1024 .f32) (w : FVec Ideal S1024x5632 .f32) (b t k : ℕ) (q : Fin 5632) : EReal :=
  if t < k then 0 else upRow (xRow x b (t - k)) (fun d => g (ix1 d)) w q

/-- The convolution at position `t` of sequence `b`. -/
def convPos (x : FVec Ideal S4x4096x1024 .f32) (g : FVec Ideal S1024 .f32) (w : FVec Ideal S1024x5632 .f32) (cw : FVec Ideal S3x5632 .f32)
    (cb : FVec Ideal S5632 .f32) (b t : ℕ) (q : Fin 5632) : EReal :=
  taps cw cb q (upPos x g w b t 2 q) (upPos x g w b t 1 q) (upPos x g w b t 0 q)

/-- The gate's activation. -/
def silu (a : EReal) : EReal := a * Ideal.div 1 (1 + Ideal.exp (-a))

/-- The gated activation at position `t` of sequence `b`. -/
def actPos (x : FVec Ideal S4x4096x1024 .f32) (g : FVec Ideal S1024 .f32) (w : FVec Ideal S1024x5632 .f32) (cw : FVec Ideal S3x5632 .f32)
    (cb : FVec Ideal S5632 .f32) (b t : ℕ) (q : Fin 2816) : EReal :=
  silu (convPos x g w cw cb b t ⟨q.val, by omega⟩) * convPos x g w cw cb b t ⟨2816 + q.val, by omega⟩

/-- The block's sum with its input at position `t` of sequence `b`. -/
def sumPos (x : FVec Ideal S4x4096x1024 .f32) (g : FVec Ideal S1024 .f32) (w : FVec Ideal S1024x5632 .f32) (cw : FVec Ideal S3x5632 .f32)
    (cb : FVec Ideal S5632 .f32) (wd : FVec Ideal S2816x1024 .f32) (b t : ℕ) (d : Fin 1024) : EReal :=
  xRow x b t d + ∑ k : Fin 2816, actPos x g w cw cb b t k * wd (ix2 k d)

/-- The block's result at position `t` of sequence `b`: the sum, normalised. -/
def ffnPos (x : FVec Ideal S4x4096x1024 .f32) (g : FVec Ideal S1024 .f32) (w : FVec Ideal S1024x5632 .f32) (cw : FVec Ideal S3x5632 .f32)
    (cb : FVec Ideal S5632 .f32) (wd : FVec Ideal S2816x1024 .f32) (gf : FVec Ideal S1024 .f32) (b t : ℕ) (d : Fin 1024) : EReal :=
  rms (sumPos x g w cw cb wd b t) (fun d => gf (ix1 d)) d

end Cert.Ffn

end
-- ==== Proof.FfnConv.lean ====
/-
  What each of the eleven chunks of the last ConvFFN stores, entry by entry.
-/
module

public import proofs.«01_k».proof.Proof.Conv
public import proofs.«01_k».proof.Proof.FfnRows
public import proofs.«01_k».proof.Proof.Gen.Kernel2Ideal.Skeleton
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

open Cert.KernelIdeal.RefValue (back1 back2 select_row)
open Cert.Ffn (silu)

/-- The three-tap convolution of a column, in the run order of a tile. -/
def convE (c0 c1 c2 cb : EReal) (u : Fin 1024 → EReal) (p : Fin 16 → EReal) (r : Fin 1024) : EReal :=
  c0 * back2 u p r + c1 * back1 u p r + c2 * u r + cb

/-- The convolution of a tile after its carry, entry by entry. -/
theorem conv_apply (u : FVec Ideal S1024x256 .f32) (p : FVec Ideal S16x256 .f32) (cw : FVec Ideal S3x256 .f32) (cb : FVec Ideal S1x256 .f32) (r : Fin 1024) (q : Fin 256) :
    k0_pay78 (F := Ideal) u p cw cb (ix2 r q) = convE (cw (ix2 0 q)) (cw (ix2 1 q)) (cw (ix2 2 q)) (cb (ix2 0 q))
      (fun r => u (ix2 r q)) (fun i => p (ix2 i q)) r := by
  pointwise [k0_pay78]
  have hr := r.isLt
  unfold convE back1 back2
  congr 3
  · congr 1
    split
    · rename_i h
      rw [select_row _ h]
      split
      · rename_i h0; congr 2; ext; simp only [h0]; rfl
      · congr 2; ext; show 1008 + (r.val + 8 - 1) % 8 = 1008 + (r.val - 1); omega
    · rename_i h
      by_cases h' : r.val < 16
      · rw [dif_pos (by omega), dif_pos h', select_row _ (by omega)]
        by_cases h8 : r.val = 8
        · rw [if_pos (by omega), if_pos h8]; congr 2; ext; show 8 + (r.val - 8 + 8 - 1) % 8 = 15; omega
        · rw [if_neg (by omega), if_neg h8]; congr 2; ext; show 1016 + (r.val - 8 + 8 - 1) % 8 = 1016 + (r.val - 9); omega
      · rw [dif_neg (by omega), dif_neg h']; congr 2
  · congr 1
    split
    · rename_i h
      rw [select_row _ h]
      split
      · rename_i h0; congr 2; ext; show 8 + (r.val + 8 - 1) % 8 = 15; omega
      · congr 2; ext; show 1016 + (r.val + 8 - 1) % 8 = 1016 + (r.val - 1); omega
    · rfl

/-- The up projection of a chunk, entry by entry. -/
theorem up_apply (xn : FVec Ideal S1024x1024 .bf16) (w : FVec Ideal S1024x256 .bf16) (r : Fin 1024) (q : Fin 256) :
    k0_pay75 (F := Ideal) xn w (ix2 r q) = ∑ k : Fin 1024, xn (ix2 r k) * w (ix2 k q) := by
  pointwise [k0_pay75]

/-- The gate's silu times the value, entry by entry. -/
theorem act_apply (g u : FVec Ideal S1024x256 .f32) (p : FVec Ideal S16x256 .f32) (cw : FVec Ideal S3x256 .f32) (cb : FVec Ideal S1x256 .f32) (r : Fin 1024) (q : Fin 256) :
    k0_pay82 (F := Ideal) g u p cw cb (ix2 r q) = silu (g (ix2 r q)) * k0_pay78 (F := Ideal) u p cw cb (ix2 r q) := by
  have e : k0_pay82 (F := Ideal) g u p cw cb
      = shapeCast S1024x256 (truncf .bf16 (mulf (mulf g (logistic g)) (k0_pay78 (F := Ideal) u p cw cb)) bitsLt_bf16_f32) shapeCasts_S1024x256_S1024x256 := rfl
  rw [e]
  unfold silu
  pointwise
  rfl

/-- The last rows of a chunk, which go into the carry. -/
theorem last_apply (u : FVec Ideal S1024x256 .f32) (i : Fin 16) (q : Fin 256) :
    k0_pay77 (F := Ideal) (extractStridedSlice S16x256 ![1008, 0] u slices_S1024x256_o1008_0_S16x256) (ix2 i q) = u (ix2 ⟨1008 + i.val, by omega⟩ q) := by
  pointwise [k0_pay77]

/-- The gated activation that chunk 0 stores, entry by entry. -/
theorem act0_eq (xn : FVec Ideal S1024x1024 .bf16) (wg wv : FVec Ideal S1024x256 .bf16) (pg pv : FVec Ideal S16x256 .f32) (cg cv : FVec Ideal S3x256 .f32) (bg bv : FVec Ideal S1x256 .f32) :
    k0_pay11 (F := Ideal) (k0_pay10 (k0_pay7 xn (k0_pay4 wg) pg cg bg) (k0_pay8 xn wv) pv cv bv)
      = k0_pay82 (k0_pay78 (k0_pay75 xn wg) pg cg bg) (k0_pay75 xn wv) pv cv bv := rfl

/-- The gated activation that chunk 1 stores, entry by entry. -/
theorem act1_eq (xn : FVec Ideal S1024x1024 .bf16) (wg wv : FVec Ideal S1024x256 .bf16) (pg pv : FVec Ideal S16x256 .f32) (cg cv : FVec Ideal S3x256 .f32) (bg bv : FVec Ideal S1x256 .f32) :
    k0_pay22 (F := Ideal) (k0_pay17 (k0_pay14 bg) (k0_pay15 xn wg pg cg) (k0_pay16 xn wg cg)) (k0_pay20 xn wv pv cv) (k0_pay21 bv)
      = k0_pay82 (k0_pay78 (k0_pay75 xn wg) pg cg bg) (k0_pay75 xn wv) pv cv bv := rfl

/-- The gated activation that chunk 2 stores, entry by entry. -/
theorem act2_eq (xn : FVec Ideal S1024x1024 .bf16) (wg wv : FVec Ideal S1024x256 .bf16) (pg pv : FVec Ideal S16x256 .f32) (cg cv : FVec Ideal S3x256 .f32) (bg bv : FVec Ideal S1x256 .f32) :
    k0_pay39 (F := Ideal) (k0_pay31 (k0_pay23 xn wg) cg (k0_pay25 bg) (k0_pay28 xn wg pg) (k0_pay29 xn wg pg) (k0_pay30 cg)) (k0_pay32 xn wv) cv (k0_pay34 bv) (k0_pay37 xn wv pv) (k0_pay38 xn wv pv cv)
      = k0_pay82 (k0_pay78 (k0_pay75 xn wg) pg cg bg) (k0_pay75 xn wv) pv cv bv := rfl

/-- The gated activation that chunk 3 stores, entry by entry. -/
theorem act3_eq (xn : FVec Ideal S1024x1024 .bf16) (wg wv : FVec Ideal S1024x256 .bf16) (pg pv : FVec Ideal S16x256 .f32) (cg cv : FVec Ideal S3x256 .f32) (bg bv : FVec Ideal S1x256 .f32) :
    k0_pay55 (F := Ideal) (k0_pay47 (k0_pay40 xn wg) cg (k0_pay42 bg) k0_pay43 (k0_pay44 xn wg pg) (k0_pay45 xn wg) (k0_pay46 pg) 1#32) (k0_pay48 xn wv) cv (k0_pay50 bv) k0_pay51 (k0_pay52 xn wv pv) (k0_pay53 xn wv) (k0_pay54 pv) 1#32
      = k0_pay82 (k0_pay78 (k0_pay75 xn wg) pg cg bg) (k0_pay75 xn wv) pv cv bv := rfl

/-- The gated activation that chunk 4 stores, entry by entry. -/
theorem act4_eq (xn : FVec Ideal S1024x1024 .bf16) (wg wv : FVec Ideal S1024x256 .bf16) (pg pv : FVec Ideal S16x256 .f32) (cg cv : FVec Ideal S3x256 .f32) (bg bv : FVec Ideal S1x256 .f32) :
    k0_pay68 (F := Ideal) (k0_pay61 (k0_pay56 xn wg) pg cg (k0_pay58 bg) k0_pay59 (k0_pay60 xn wg)) (k0_pay62 xn wv) pv cv (k0_pay64 bv) k0_pay65 (k0_pay66 xn wv) (k0_pay67 pv) 1#32
      = k0_pay82 (k0_pay78 (k0_pay75 xn wg) pg cg bg) (k0_pay75 xn wv) pv cv bv := rfl

/-- The gated activation that chunk 5 stores, entry by entry. -/
theorem act5_eq (xn : FVec Ideal S1024x1024 .bf16) (wg wv : FVec Ideal S1024x256 .bf16) (pg pv : FVec Ideal S16x256 .f32) (cg cv : FVec Ideal S3x256 .f32) (bg bv : FVec Ideal S1x256 .f32) :
    k0_pay74 (F := Ideal) (k0_pay71 (k0_pay69 xn wg) pg cg bg) (k0_pay72 xn wv) pv cv bv
      = k0_pay82 (k0_pay78 (k0_pay75 xn wg) pg cg bg) (k0_pay75 xn wv) pv cv bv := rfl

/-- The gated activation that chunk 7 stores, entry by entry. -/
theorem act7_eq (xn : FVec Ideal S1024x1024 .bf16) (wg wv : FVec Ideal S1024x256 .bf16) (pg pv : FVec Ideal S16x256 .f32) (cg cv : FVec Ideal S3x256 .f32) (bg bv : FVec Ideal S1x256 .f32) :
    k0_pay89 (F := Ideal) (k0_pay88 xn (k0_pay85 xn wg pg cg bg) wv pv cv bv)
      = k0_pay82 (k0_pay78 (k0_pay75 xn wg) pg cg bg) (k0_pay75 xn wv) pv cv bv := rfl

/-- The gated activation that chunk 8 stores, entry by entry. -/
theorem act8_eq (xn : FVec Ideal S1024x1024 .bf16) (wg wv : FVec Ideal S1024x256 .bf16) (pg pv : FVec Ideal S16x256 .f32) (cg cv : FVec Ideal S3x256 .f32) (bg bv : FVec Ideal S1x256 .f32) :
    k0_pay100 (F := Ideal) (k0_pay94 (k0_pay90 xn wg) cg (k0_pay92 bg) (k0_pay93 xn wg pg cg)) (k0_pay95 xn wv) (k0_pay97 bv) (k0_pay98 xn wv pv cv) (k0_pay99 cv)
      = k0_pay82 (k0_pay78 (k0_pay75 xn wg) pg cg bg) (k0_pay75 xn wv) pv cv bv := rfl

/-- The gated activation that chunk 9 stores, entry by entry. -/
theorem act9_eq (xn : FVec Ideal S1024x1024 .bf16) (wg wv : FVec Ideal S1024x256 .bf16) (pg pv : FVec Ideal S16x256 .f32) (cg cv : FVec Ideal S3x256 .f32) (bg bv : FVec Ideal S1x256 .f32) :
    k0_pay116 (F := Ideal) (k0_pay108 (k0_pay101 xn wg) cg (k0_pay103 bg) (k0_pay105 xn wg pg) (k0_pay106 xn wg pg) (k0_pay107 xn wg pg)) (k0_pay109 xn wv) cv (k0_pay111 bv) (k0_pay114 xn wv pv) (k0_pay115 xn wv pv)
      = k0_pay82 (k0_pay78 (k0_pay75 xn wg) pg cg bg) (k0_pay75 xn wv) pv cv bv := rfl

/-- The gated activation that chunk 10 stores, entry by entry. -/
theorem act10_eq (xn : FVec Ideal S1024x1024 .bf16) (wg wv : FVec Ideal S1024x256 .bf16) (pg pv : FVec Ideal S16x256 .f32) (cg cv : FVec Ideal S3x256 .f32) (bg bv : FVec Ideal S1x256 .f32) :
    k0_pay130 (F := Ideal) (k0_pay122 (k0_pay117 xn wg) pg cg (k0_pay119 bg) k0_pay120 (k0_pay121 xn wg pg)) (k0_pay123 xn wv) cv (k0_pay125 bv) k0_pay126 (k0_pay127 xn wv pv) (k0_pay128 xn wv) (k0_pay129 pv)
      = k0_pay82 (k0_pay78 (k0_pay75 xn wg) pg cg bg) (k0_pay75 xn wv) pv cv bv := rfl

/-- The gated activation that chunk 6 stores, entry by entry. -/
theorem act6_eq (xn : FVec Ideal S1024x1024 .bf16) (wg wv : FVec Ideal S1024x256 .bf16) (pg pv : FVec Ideal S16x256 .f32) (cg cv : FVec Ideal S3x256 .f32) (bg bv : FVec Ideal S1x256 .f32) :
    k0_pay82 (F := Ideal) (k0_pay78 (k0_pay75 xn wg) pg cg bg) (k0_pay79 xn wv) pv cv bv
      = k0_pay82 (k0_pay78 (k0_pay75 xn wg) pg cg bg) (k0_pay75 xn wv) pv cv bv := rfl

/-- The carry that chunk 0 stores, entry by entry. -/
theorem carry0_eq (xn : FVec Ideal S1024x1024 .bf16) (wg : FVec Ideal S1024x256 .bf16) :
    k0_pay6 (F := Ideal) xn (k0_pay4 wg)
      = k0_pay77 (extractStridedSlice S16x256 ![1008, 0] (k0_pay75 xn wg) slices_S1024x256_o1008_0_S16x256) := rfl

/-- The carry that chunk 1 stores, entry by entry. -/
theorem carry1_eq (xn : FVec Ideal S1024x1024 .bf16) (wg : FVec Ideal S1024x256 .bf16) :
    k0_pay13 (F := Ideal) xn wg
      = k0_pay77 (extractStridedSlice S16x256 ![1008, 0] (k0_pay75 xn wg) slices_S1024x256_o1008_0_S16x256) := rfl

/-- The carry that chunk 2 stores, entry by entry. -/
theorem carry2_eq (xn : FVec Ideal S1024x1024 .bf16) (wg : FVec Ideal S1024x256 .bf16) :
    k0_pay24 (F := Ideal) xn wg
      = k0_pay77 (extractStridedSlice S16x256 ![1008, 0] (k0_pay75 xn wg) slices_S1024x256_o1008_0_S16x256) := rfl

/-- The carry that chunk 3 stores, entry by entry. -/
theorem carry3_eq (xn : FVec Ideal S1024x1024 .bf16) (wg : FVec Ideal S1024x256 .bf16) :
    k0_pay41 (F := Ideal) xn wg
      = k0_pay77 (extractStridedSlice S16x256 ![1008, 0] (k0_pay75 xn wg) slices_S1024x256_o1008_0_S16x256) := rfl

/-- The carry that chunk 4 stores, entry by entry. -/
theorem carry4_eq (xn : FVec Ideal S1024x1024 .bf16) (wg : FVec Ideal S1024x256 .bf16) :
    k0_pay57 (F := Ideal) xn wg
      = k0_pay77 (extractStridedSlice S16x256 ![1008, 0] (k0_pay75 xn wg) slices_S1024x256_o1008_0_S16x256) := rfl

/-- The carry that chunk 5 stores, entry by entry. -/
theorem carry5_eq (xn : FVec Ideal S1024x1024 .bf16) (wg : FVec Ideal S1024x256 .bf16) :
    k0_pay70 (F := Ideal) xn wg
      = k0_pay77 (extractStridedSlice S16x256 ![1008, 0] (k0_pay75 xn wg) slices_S1024x256_o1008_0_S16x256) := rfl

/-- The carry that chunk 6 stores, entry by entry. -/
theorem carry6_eq (xn : FVec Ideal S1024x1024 .bf16) (wg : FVec Ideal S1024x256 .bf16) :
    k0_pay77 (F := Ideal) (k0_pay76 xn wg)
      = k0_pay77 (extractStridedSlice S16x256 ![1008, 0] (k0_pay75 xn wg) slices_S1024x256_o1008_0_S16x256) := rfl

/-- The carry that chunk 7 stores, entry by entry. -/
theorem carry7_eq (xn : FVec Ideal S1024x1024 .bf16) (wg : FVec Ideal S1024x256 .bf16) :
    k0_pay84 (F := Ideal) xn wg
      = k0_pay77 (extractStridedSlice S16x256 ![1008, 0] (k0_pay75 xn wg) slices_S1024x256_o1008_0_S16x256) := rfl

/-- The carry that chunk 8 stores, entry by entry. -/
theorem carry8_eq (xn : FVec Ideal S1024x1024 .bf16) (wg : FVec Ideal S1024x256 .bf16) :
    k0_pay91 (F := Ideal) xn wg
      = k0_pay77 (extractStridedSlice S16x256 ![1008, 0] (k0_pay75 xn wg) slices_S1024x256_o1008_0_S16x256) := rfl

/-- The carry that chunk 9 stores, entry by entry. -/
theorem carry9_eq (xn : FVec Ideal S1024x1024 .bf16) (wg : FVec Ideal S1024x256 .bf16) :
    k0_pay102 (F := Ideal) xn wg
      = k0_pay77 (extractStridedSlice S16x256 ![1008, 0] (k0_pay75 xn wg) slices_S1024x256_o1008_0_S16x256) := rfl

/-- The carry that chunk 10 stores, entry by entry. -/
theorem carry10_eq (xn : FVec Ideal S1024x1024 .bf16) (wg : FVec Ideal S1024x256 .bf16) :
    k0_pay118 (F := Ideal) xn wg
      = k0_pay77 (extractStridedSlice S16x256 ![1008, 0] (k0_pay75 xn wg) slices_S1024x256_o1008_0_S16x256) := rfl

/-- The carry that chunk 0 stores of the ungated half, entry by entry. -/
theorem carry0v_eq (xn : FVec Ideal S1024x1024 .bf16) (wv : FVec Ideal S1024x256 .bf16) :
    k0_pay9 (F := Ideal) (k0_pay8 xn wv)
      = k0_pay77 (extractStridedSlice S16x256 ![1008, 0] (k0_pay75 xn wv) slices_S1024x256_o1008_0_S16x256) := rfl

/-- The carry that chunk 1 stores of the ungated half, entry by entry. -/
theorem carry1v_eq (xn : FVec Ideal S1024x1024 .bf16) (wv : FVec Ideal S1024x256 .bf16) :
    k0_pay19 (F := Ideal) xn wv
      = k0_pay77 (extractStridedSlice S16x256 ![1008, 0] (k0_pay75 xn wv) slices_S1024x256_o1008_0_S16x256) := rfl

/-- The carry that chunk 2 stores of the ungated half, entry by entry. -/
theorem carry2v_eq (xn : FVec Ideal S1024x1024 .bf16) (wv : FVec Ideal S1024x256 .bf16) :
    k0_pay33 (F := Ideal) xn wv
      = k0_pay77 (extractStridedSlice S16x256 ![1008, 0] (k0_pay75 xn wv) slices_S1024x256_o1008_0_S16x256) := rfl

/-- The carry that chunk 3 stores of the ungated half, entry by entry. -/
theorem carry3v_eq (xn : FVec Ideal S1024x1024 .bf16) (wv : FVec Ideal S1024x256 .bf16) :
    k0_pay49 (F := Ideal) xn wv
      = k0_pay77 (extractStridedSlice S16x256 ![1008, 0] (k0_pay75 xn wv) slices_S1024x256_o1008_0_S16x256) := rfl

/-- The carry that chunk 4 stores of the ungated half, entry by entry. -/
theorem carry4v_eq (xn : FVec Ideal S1024x1024 .bf16) (wv : FVec Ideal S1024x256 .bf16) :
    k0_pay63 (F := Ideal) xn wv
      = k0_pay77 (extractStridedSlice S16x256 ![1008, 0] (k0_pay75 xn wv) slices_S1024x256_o1008_0_S16x256) := rfl

/-- The carry that chunk 5 stores of the ungated half, entry by entry. -/
theorem carry5v_eq (xn : FVec Ideal S1024x1024 .bf16) (wv : FVec Ideal S1024x256 .bf16) :
    k0_pay73 (F := Ideal) xn wv
      = k0_pay77 (extractStridedSlice S16x256 ![1008, 0] (k0_pay75 xn wv) slices_S1024x256_o1008_0_S16x256) := rfl

/-- The carry that chunk 6 stores of the ungated half, entry by entry. -/
theorem carry6v_eq (xn : FVec Ideal S1024x1024 .bf16) (wv : FVec Ideal S1024x256 .bf16) :
    k0_pay81 (F := Ideal) (k0_pay80 xn wv)
      = k0_pay77 (extractStridedSlice S16x256 ![1008, 0] (k0_pay75 xn wv) slices_S1024x256_o1008_0_S16x256) := rfl

/-- The carry that chunk 7 stores of the ungated half, entry by entry. -/
theorem carry7v_eq (xn : FVec Ideal S1024x1024 .bf16) (wv : FVec Ideal S1024x256 .bf16) :
    k0_pay87 (F := Ideal) xn wv
      = k0_pay77 (extractStridedSlice S16x256 ![1008, 0] (k0_pay75 xn wv) slices_S1024x256_o1008_0_S16x256) := rfl

/-- The carry that chunk 8 stores of the ungated half, entry by entry. -/
theorem carry8v_eq (xn : FVec Ideal S1024x1024 .bf16) (wv : FVec Ideal S1024x256 .bf16) :
    k0_pay96 (F := Ideal) xn wv
      = k0_pay77 (extractStridedSlice S16x256 ![1008, 0] (k0_pay75 xn wv) slices_S1024x256_o1008_0_S16x256) := rfl

/-- The carry that chunk 9 stores of the ungated half, entry by entry. -/
theorem carry9v_eq (xn : FVec Ideal S1024x1024 .bf16) (wv : FVec Ideal S1024x256 .bf16) :
    k0_pay110 (F := Ideal) xn wv
      = k0_pay77 (extractStridedSlice S16x256 ![1008, 0] (k0_pay75 xn wv) slices_S1024x256_o1008_0_S16x256) := rfl

/-- The carry that chunk 10 stores of the ungated half, entry by entry. -/
theorem carry10v_eq (xn : FVec Ideal S1024x1024 .bf16) (wv : FVec Ideal S1024x256 .bf16) :
    k0_pay124 (F := Ideal) xn wv
      = k0_pay77 (extractStridedSlice S16x256 ![1008, 0] (k0_pay75 xn wv) slices_S1024x256_o1008_0_S16x256) := rfl

end Cert.Kernel2Ideal.RefValue

end
-- ==== Proof.FfnTile.lean ====
/-
  What the last ConvFFN computes of one tile.
-/
module

public import proofs.«01_k».proof.Proof.FfnConv
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

open Cert.KernelIdeal.RefValue (back1 back2)
open Cert.Ffn (silu)
open Cert.Mix (rms)

/-- The normalised tile. -/
def xnT (x0 : FVec Ideal S1024x1024 .f32) (x1 : FVec Ideal S1x1024 .f32) : FVec Ideal S1024x1024 .bf16 := k0_pay3 (F := Ideal) x0 x1

/-- The up projection of a tile at row `r`, column `q`. -/
def upT (x0 : FVec Ideal S1024x1024 .f32) (x1 : FVec Ideal S1x1024 .f32) (x2 : FVec Ideal S1024x5632 .bf16) (q : Fin 5632) (r : Fin 1024) : EReal :=
  ∑ k : Fin 1024, xnT x0 x1 (ix2 r k) * x2 (ix2 k q)

/-- The convolution of a tile after a carry `p`. -/
def convT (x0 : FVec Ideal S1024x1024 .f32) (x1 : FVec Ideal S1x1024 .f32) (x2 : FVec Ideal S1024x5632 .bf16) (x3 : FVec Ideal S3x5632 .f32)
    (x4 : FVec Ideal S1x5632 .f32) (p : Fin 16 → Fin 5632 → EReal) (r : Fin 1024) (q : Fin 5632) : EReal :=
  convE (x3 (ix2 0 q)) (x3 (ix2 1 q)) (x3 (ix2 2 q)) (x4 (ix2 0 q)) (upT x0 x1 x2 q) (fun i => p i q) r

/-- The gated activation of a tile. -/
def actT (x0 : FVec Ideal S1024x1024 .f32) (x1 : FVec Ideal S1x1024 .f32) (x2 : FVec Ideal S1024x5632 .bf16) (x3 : FVec Ideal S3x5632 .f32)
    (x4 : FVec Ideal S1x5632 .f32) (p : Fin 16 → Fin 5632 → EReal) (r : Fin 1024) (q : Fin 2816) : EReal :=
  silu (convT x0 x1 x2 x3 x4 p r ⟨q.val, by omega⟩) * convT x0 x1 x2 x3 x4 p r ⟨2816 + q.val, by omega⟩

/-- The output tile in run order. -/
def outT (x0 : FVec Ideal S1024x1024 .f32) (x1 : FVec Ideal S1x1024 .f32) (x2 : FVec Ideal S1024x5632 .bf16) (x3 : FVec Ideal S3x5632 .f32)
    (x4 : FVec Ideal S1x5632 .f32)
    (x5 : FVec Ideal S2816x1024 .bf16) (x6 : FVec Ideal S1x1024 .f32) (p : Fin 16 → Fin 5632 → EReal) (r d : Fin 1024) : EReal :=
  rms (fun d => x0 (ix2 r d) + ∑ k : Fin 2816, actT x0 x1 x2 x3 x4 p r k * x5 (ix2 k d)) (fun d => x6 (ix2 0 d)) d

/-- The tile's result in run order, from the gated activations, entry by entry. -/
theorem out_apply (x0 : FVec Ideal S1024x1024 .f32) (a : FVec Ideal S1024x2816 .bf16) (x5 : FVec Ideal S2816x1024 .bf16) (x6 : FVec Ideal S1x1024 .f32) (r d : Fin 1024) :
    k0_pay133 (F := Ideal) (k0_pay131 (k0_pay2 x0) a x5) (k0_pay132 x6) (ix2 r d)
      = rms (fun d => x0 (ix2 r d) + ∑ k : Fin 2816, a (ix2 r k) * x5 (ix2 k d)) (fun d => x6 (ix2 0 d)) d := by
  unfold rms
  pointwise [k0_pay133, k0_pay131, k0_pay132, k0_pay2]

/-- The normalised tile, entry by entry. -/
theorem xnT_at (x0 : FVec Ideal S1024x1024 .f32) (x1 : FVec Ideal S1x1024 .f32) (r k : Fin 1024) :
    xnT x0 x1 (ix2 r k) = rms (fun d => x0 (ix2 r d)) (fun d => x1 (ix2 0 d)) k := by
  unfold xnT rms
  pointwise [k0_pay3, k0_pay2]

/-- A load of a box, read at an index. -/
theorem ld_at {m n m' n' : ℕ} {e : EltTy} (X : (⟨2, ![m, n]⟩ : Shape).Idx → Elt Ideal e) (a b : ℕ) (inb) (r : Fin m') (q : Fin n') (R : Fin m) (Q : Fin n)
    (hR : R.val = a + r.val) (hQ : Q.val = b + q.val) :
    View.ld X (Rect.unit (s := (⟨2, ![m, n]⟩ : Shape)) ![a, b] ![m', n'] inb) (ix2 r q) = X (ix2 R Q) := by
  refine View.ld_unit_apply_of X _ _ inb (ix2 r q) (ix2 R Q) fun x => ?_
  match x with
  | 0 => exact hR
  | 1 => exact hQ

/-- A column chunk of the convolution, whose carry reads `p`. -/
theorem conv_chunk (x0 : FVec Ideal S1024x1024 .f32) (x1 : FVec Ideal S1x1024 .f32) (x2 : FVec Ideal S1024x5632 .bf16) (x3 : FVec Ideal S3x5632 .f32)
    (x4 : FVec Ideal S1x5632 .f32) (p : Fin 16 → Fin 5632 → EReal)
    (o : ℕ) (ho : o + 256 ≤ 5632) (i2 i3 i4) (pv : FVec Ideal S16x256 .f32) (r : Fin 1024) (q : Fin 256) (hp : ∀ i : Fin 16, pv (ix2 i q) = p i ⟨o + q.val, by omega⟩) :
    k0_pay78 (F := Ideal) (k0_pay75 (k0_pay3 (F := Ideal) x0 x1) (View.ld (Val := Elt Ideal) (e' := .bf16) x2 (Rect.unit (s := S1024x5632) ![0, o] ![1024, 256] i2))) pv (View.ld (Val := Elt Ideal) (e' := .f32) x3 (Rect.unit (s := S3x5632) ![0, o] ![3, 256] i3)) (View.ld (Val := Elt Ideal) (e' := .f32) x4 (Rect.unit (s := S1x5632) ![0, o] ![1, 256] i4)) (ix2 r q)
      = convT x0 x1 x2 x3 x4 p r ⟨o + q.val, by omega⟩ := by
  rw [conv_apply]
  simp only [up_apply]
  unfold convT upT xnT
  congr 1
  · exact ld_at (e := .f32) x3 0 o i3 0 q 0 ⟨o + q.val, by omega⟩ rfl rfl
  · exact ld_at (e := .f32) x3 0 o i3 1 q 1 ⟨o + q.val, by omega⟩ rfl rfl
  · exact ld_at (e := .f32) x3 0 o i3 2 q 2 ⟨o + q.val, by omega⟩ rfl rfl
  · exact ld_at (e := .f32) x4 0 o i4 0 q 0 ⟨o + q.val, by omega⟩ rfl rfl
  · funext r
    refine Finset.sum_congr rfl fun k _ => ?_
    rw [ld_at (e := .bf16) x2 0 o i2 k q k ⟨o + q.val, by omega⟩ (by omega) rfl]
  · funext i
    exact hp i

/-- One column chunk of the gated activation. -/
theorem chunk_apply (x0 : FVec Ideal S1024x1024 .f32) (x1 : FVec Ideal S1x1024 .f32) (x2 : FVec Ideal S1024x5632 .bf16) (x3 : FVec Ideal S3x5632 .f32)
    (x4 : FVec Ideal S1x5632 .f32) (p : Fin 16 → Fin 5632 → EReal)
    (o o1 : ℕ) (ho : o + 256 ≤ 2816) (h1 : o1 = 2816 + o) (i2 i3 i4 j2 j3 j4) (pg pv : FVec Ideal S16x256 .f32) (r : Fin 1024) (q : Fin 256)
    (hg : ∀ i : Fin 16, pg (ix2 i q) = p i ⟨o + q.val, by omega⟩) (hv : ∀ i : Fin 16, pv (ix2 i q) = p i ⟨o1 + q.val, by omega⟩) :
    k0_pay82 (F := Ideal) (k0_pay78 (k0_pay75 (k0_pay3 (F := Ideal) x0 x1) (View.ld (Val := Elt Ideal) (e' := .bf16) x2 (Rect.unit (s := S1024x5632) ![0, o] ![1024, 256] i2))) pg (View.ld (Val := Elt Ideal) (e' := .f32) x3 (Rect.unit (s := S3x5632) ![0, o] ![3, 256] i3)) (View.ld (Val := Elt Ideal) (e' := .f32) x4 (Rect.unit (s := S1x5632) ![0, o] ![1, 256] i4)))
      (k0_pay75 (k0_pay3 (F := Ideal) x0 x1) (View.ld (Val := Elt Ideal) (e' := .bf16) x2 (Rect.unit (s := S1024x5632) ![0, o1] ![1024, 256] j2))) pv (View.ld (Val := Elt Ideal) (e' := .f32) x3 (Rect.unit (s := S3x5632) ![0, o1] ![3, 256] j3)) (View.ld (Val := Elt Ideal) (e' := .f32) x4 (Rect.unit (s := S1x5632) ![0, o1] ![1, 256] j4)) (ix2 r q)
      = actT x0 x1 x2 x3 x4 p r ⟨o + q.val, by omega⟩ := by
  rw [act_apply, conv_chunk x0 x1 x2 x3 x4 p o (by omega) i2 i3 i4 pg r q hg, conv_chunk x0 x1 x2 x3 x4 p o1 (by omega) j2 j3 j4 pv r q hv]
  unfold actT
  subst h1
  simp only [Nat.add_assoc]

/-- One column chunk of the carry: the last sixteen rows of the convolution's input. -/
theorem carry_apply (x0 : FVec Ideal S1024x1024 .f32) (x1 : FVec Ideal S1x1024 .f32) (x2 : FVec Ideal S1024x5632 .bf16) (o : ℕ) (ho : o + 256 ≤ 5632) (i2) (i : Fin 16) (q : Fin 256) :
    k0_pay77 (F := Ideal) (extractStridedSlice S16x256 ![1008, 0] (k0_pay75 (k0_pay3 (F := Ideal) x0 x1) (View.ld (Val := Elt Ideal) (e' := .bf16) x2 (Rect.unit (s := S1024x5632) ![0, o] ![1024, 256] i2))) slices_S1024x256_o1008_0_S16x256) (ix2 i q)
      = upT x0 x1 x2 ⟨o + q.val, by omega⟩ ⟨1008 + i.val, by omega⟩ := by
  rw [last_apply, up_apply]
  unfold upT xnT
  refine Finset.sum_congr rfl fun k _ => ?_
  rw [ld_at (e := .bf16) x2 0 o i2 k q k ⟨o + q.val, by omega⟩ (by omega) rfl]

/-- The carry's first contents are zero. -/
theorem zero_apply (j : S16x5632.Idx) : k0_pay1 (F := Ideal) j = 0 := by pointwise [k0_pay1]

/-- A whole-row box of an array placed at its own columns. -/
theorem box_idx {m n n' : ℕ} (b : ℕ) (inb) (i : Fin m) (q : Fin n') (hq : b + q.val < n) :
    (Rect.unit (s := (⟨2, ![m, n]⟩ : Shape)) ![0, b] ![m, n'] inb).idx (ix2 i q) = ix2 i ⟨b + q.val, hq⟩ := by
  funext x
  refine Fin.ext ?_
  match x with
  | 0 => show 0 + 1 * i.val = i.val; omega
  | 1 => show b + 1 * q.val = b + q.val; omega

/-- Column chunks of 256 of one function, at the listed offsets, over any earlier stores. -/
inductive Chunks {n N : ℕ} {e : EltTy} (G : Fin n → Fin N → Elt Ideal e) :
    List ℕ → List (View.Piece (Elt Ideal) (⟨2, ![n, N]⟩ : Shape) e) → Prop
  | nil (L : List (View.Piece (Elt Ideal) (⟨2, ![n, N]⟩ : Shape) e)) : Chunks G [] L
  | cons (o : ℕ) (os : List ℕ) (inb) (P : (⟨2, ![n, 256]⟩ : Shape).Idx → Elt Ideal e) (L : List (View.Piece (Elt Ideal) (⟨2, ![n, N]⟩ : Shape) e)) (ho : o + 256 ≤ N)
      (hP : ∀ (r : Fin n) (q : Fin 256), P (ix2 r q) = G r ⟨o + q.val, by omega⟩) (hL : Chunks G os L) :
      Chunks G (o :: os) (⟨Rect.unit ![0, o] ![n, 256] inb, P⟩ :: L)

/-- A buffer written chunk by chunk holds at every column what that column's chunk wrote. -/
theorem Chunks.canon_apply {n N : ℕ} {e : EltTy} {G : Fin n → Fin N → Elt Ideal e} {os : List ℕ} {L : List (View.Piece (Elt Ideal) (⟨2, ![n, N]⟩ : Shape) e)}
    (h : Chunks G os L) (r : Fin n) (k : Fin N) (hk : ∃ o ∈ os, o ≤ k.val ∧ k.val < o + 256) : View.canon L (ix2 r k) = G r k := by
  induction h with
  | nil => obtain ⟨o, ho, -⟩ := hk; exact absurd ho List.not_mem_nil
  | cons o os inb P L ho hP hL ih =>
    by_cases hin : o ≤ k.val ∧ k.val < o + 256
    · have e : (Rect.unit (s := (⟨2, ![n, N]⟩ : Shape)) ![0, o] ![n, 256] inb).emb (ix2 r ⟨k.val - o, by omega⟩) = ix2 r k := by
        funext a
        refine Fin.ext ?_
        match a with
        | 0 => show 0 + 1 * r.val = r.val; omega
        | 1 => show o + 1 * (k.val - o) = k.val; omega
      rw [← e]
      refine (View.canon_cons_emb (Rect.unit (s := (⟨2, ![n, N]⟩ : Shape)) ![0, o] ![n, 256] inb) P L (ix2 r ⟨k.val - o, by omega⟩)).trans ((hP r _).trans ?_)
      exact congrArg (G r) (Fin.ext (by show o + (k.val - o) = k.val; omega))
    · refine (View.canon_cons_of_not_mem _ _ fun hm => hin ?_).trans (ih ?_)
      · have := (Rect.mem_set_unit (s := (⟨2, ![n, N]⟩ : Shape)) (inb := inb)).mp hm 1
        exact this
      · obtain ⟨o', ho', hb⟩ := hk
        rcases List.mem_cons.1 ho' with rfl | ho'
        · exact absurd hb hin
        · exact ⟨o', ho', hb⟩

/-- A chunk stored beside a column does not change it. -/
theorem canon_beside {n N : ℕ} {e : EltTy} (o o' : ℕ) (i i') (P : (⟨2, ![n, 256]⟩ : Shape).Idx → Elt Ideal e)
    (L : List (View.Piece (Elt Ideal) (⟨2, ![n, N]⟩ : Shape) e)) (r : Fin n) (q : Fin 256) (h : o + 256 ≤ o' ∨ o' + 256 ≤ o) :
    View.canon (Val := Elt Ideal) (s := (⟨2, ![n, N]⟩ : Shape)) (e := e) (⟨Rect.unit ![0, o] ![n, 256] i, P⟩ :: L)
      ((Rect.unit (s := (⟨2, ![n, N]⟩ : Shape)) ![0, o'] ![n, 256] i').idx (ix2 r q))
      = View.canon L ((Rect.unit (s := (⟨2, ![n, N]⟩ : Shape)) ![0, o'] ![n, 256] i').idx (ix2 r q)) := by
  refine View.canon_cons_of_not_mem _ _ fun hm => ?_
  have := (Rect.mem_set_unit (s := (⟨2, ![n, N]⟩ : Shape)) (inb := i)).mp hm 1
  change o ≤ o' + 1 * q.val ∧ o' + 1 * q.val < o + 256 at this
  omega

/-- The eleven chunks cover the activations. -/
theorem act_cover (k : Fin 2816) : ∃ o ∈ [2560, 2304, 2048, 1792, 1536, 1280, 1024, 768, 512, 256, 0], o ≤ k.val ∧ k.val < o + 256 := by
  have h : ∀ c : Fin 11, 256 * c.val ∈ [2560, 2304, 2048, 1792, 1536, 1280, 1024, 768, 512, 256, 0] := by decide
  exact ⟨_, h ⟨k.val / 256, by omega⟩, by show 256 * (k.val / 256) ≤ k.val; omega, by show k.val < 256 * (k.val / 256) + 256; omega⟩

/-- The chunks cover the carry. -/
theorem carry_cover (k : Fin 5632) : ∃ o ∈ [5376, 2560, 5120, 2304, 4864, 2048, 4608, 1792, 4352, 1536, 4096, 1280, 3840, 1024, 3584, 768, 3328, 512, 3072, 256, 2816, 0],
    o ≤ k.val ∧ k.val < o + 256 := by
  have h : ∀ c : Fin 22, 256 * c.val ∈ [5376, 2560, 5120, 2304, 4864, 2048, 4608, 1792, 4352, 1536, 4096, 1280, 3840, 1024, 3584, 768, 3328, 512, 3072, 256, 2816, 0] := by decide
  exact ⟨_, h ⟨k.val / 256, by omega⟩, by show 256 * (k.val / 256) ≤ k.val; omega, by show k.val < 256 * (k.val / 256) + 256; omega⟩

end Cert.Kernel2Ideal.RefValue

end
-- ==== Proof.FfnBlocks.lean ====
/-
  The last ConvFFN's windows: which block of each array a grid point takes, and what the host code hands over.
-/
module

public import proofs.«01_k».proof.Proof.Gen.Kernel2Ideal.Frame.Runs
public import proofs.«01_k».proof.Proof.FfnTile
public import proofs.«01_k».proof.Proof.FfnRows
public import proofs.«01_k».proof.Proof.Points
public import Idealize.ShloMosaic.Lib.StableHlo.ReadAt
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

open Cert.KernelIdeal.RefValue (back1 back2 back1_at back2_at rowOf_tile)
open Cert.Ffn
open Cert.Mix (rms rowOf)

/-- The row of the input that row `n` of the tiles holds: tiles of 1024 positions, in each the eight runs of 128 positions interleaved. -/
def rowX (X : FVec Ideal S4x4096x1024 .f32) (n : ℕ) : Fin 1024 → EReal := xRow X (n / 4096) (1024 * (n / 1024 % 4) + 128 * (n % 8) + n % 1024 / 8)

section
variable (m : (ℓ : Loc nD τ sig) → Buf (Elt Ideal) ℓ)

/-- The grid has sixteen points. -/
theorem ptN (t : Fin cfg0.N) : t.val < 16 := lt_of_lt_of_eq t.isLt (show cfg0.N = 16 from N_0)

/-- Which block of window 0 a grid point takes. -/
theorem idx0 : ∀ t : Fin cfg0.N, win0_0.index t (0 : Fin 2) = t.val ∧ win0_0.index t (1 : Fin 2) = 0 :=
  (by decide +kernel : ∀ t : Fin grid0.N, _)

/-- Where the entries of window 0's block lie in the whole array. -/
theorem emb0 (t : Fin cfg0.N) (r : Fin 1024) (q : Fin 1024) : ((cfg0.win 0).blk t).view.emb (ix2 r q) = ix2 ⟨1024 * t.val + r.val, by have := ptN t; omega⟩ q := by
  obtain ⟨e0, e1⟩ := idx0 t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * q.val = q.val; omega

/-- The block of window 0 at a grid point, read in the whole array. -/
theorem iblk0_at (c : Dev nD) (t : Fin cfg0.N) (r : Fin 1024) (q : Fin 1024) : iblk (F := Ideal) m c 0 t (ix2 r q) = V (F := Ideal) m c main_v2 (ix2 ⟨1024 * t.val + r.val, by have := ptN t; omega⟩ q) := by
  show V (F := Ideal) m c main_v2 (((cfg0.win 0).blk t).view.emb (ix2 r q)) = _; rw [emb0]

/-- Which block of window 1 a grid point takes. -/
theorem idx1 : ∀ t : Fin cfg0.N, win0_1.index t (0 : Fin 2) = 0 ∧ win0_1.index t (1 : Fin 2) = 0 :=
  (by decide +kernel : ∀ t : Fin grid0.N, _)

/-- Where the entries of window 1's block lie in the whole array. -/
theorem emb1 (t : Fin cfg0.N) (r : Fin 1) (q : Fin 1024) : ((cfg0.win 1).blk t).view.emb (ix2 r q) = ix2 r q := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 1024 + 1 * q.val = q.val; omega

/-- The block of window 1 at a grid point, read in the whole array. -/
theorem iblk1_at (c : Dev nD) (t : Fin cfg0.N) (r : Fin 1) (q : Fin 1024) : iblk (F := Ideal) m c 1 t (ix2 r q) = V (F := Ideal) m c main_v4 (ix2 r q) := by
  show V (F := Ideal) m c main_v4 (((cfg0.win 1).blk t).view.emb (ix2 r q)) = _; rw [emb1]

/-- Which block of window 2 a grid point takes. -/
theorem idx2 : ∀ t : Fin cfg0.N, win0_2.index t (0 : Fin 2) = 0 ∧ win0_2.index t (1 : Fin 2) = 0 :=
  (by decide +kernel : ∀ t : Fin grid0.N, _)

/-- Where the entries of window 2's block lie in the whole array. -/
theorem emb2 (t : Fin cfg0.N) (r : Fin 1024) (q : Fin 5632) : ((cfg0.win 2).blk t).view.emb (ix2 r q) = ix2 r q := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 5632 + 1 * q.val = q.val; omega

/-- The block of window 2 at a grid point, read in the whole array. -/
theorem iblk2_at (c : Dev nD) (t : Fin cfg0.N) (r : Fin 1024) (q : Fin 5632) : iblk (F := Ideal) m c 2 t (ix2 r q) = V (F := Ideal) m c main_v3 (ix2 r q) := by
  show V (F := Ideal) m c main_v3 (((cfg0.win 2).blk t).view.emb (ix2 r q)) = _; rw [emb2]

/-- Which block of window 3 a grid point takes. -/
theorem idx3 : ∀ t : Fin cfg0.N, win0_3.index t (0 : Fin 2) = 0 ∧ win0_3.index t (1 : Fin 2) = 0 :=
  (by decide +kernel : ∀ t : Fin grid0.N, _)

/-- Where the entries of window 3's block lie in the whole array. -/
theorem emb3 (t : Fin cfg0.N) (r : Fin 3) (q : Fin 5632) : ((cfg0.win 3).blk t).view.emb (ix2 r q) = ix2 r q := by
  obtain ⟨e0, e1⟩ := idx3 t
  funext a; apply Fin.ext
  match a with
  | ⟨0, _⟩ => show win0_3.index t (0 : Fin 2) * 3 + 1 * r.val = r.val; omega
  | ⟨1, _⟩ => show win0_3.index t (1 : Fin 2) * 5632 + 1 * q.val = q.val; omega

/-- The block of window 3 at a grid point, read in the whole array. -/
theorem iblk3_at (c : Dev nD) (t : Fin cfg0.N) (r : Fin 3) (q : Fin 5632) : iblk (F := Ideal) m c 3 t (ix2 r q) = V (F := Ideal) m c main_arg3 (ix2 r q) := by
  show V (F := Ideal) m c main_arg3 (((cfg0.win 3).blk t).view.emb (ix2 r q)) = _; rw [emb3]

/-- Which block of window 4 a grid point takes. -/
theorem idx4 : ∀ t : Fin cfg0.N, win0_4.index t (0 : Fin 2) = 0 ∧ win0_4.index t (1 : Fin 2) = 0 :=
  (by decide +kernel : ∀ t : Fin grid0.N, _)

/-- Where the entries of window 4's block lie in the whole array. -/
theorem emb4 (t : Fin cfg0.N) (r : Fin 1) (q : Fin 5632) : ((cfg0.win 4).blk t).view.emb (ix2 r q) = ix2 r q := by
  obtain ⟨e0, e1⟩ := idx4 t
  funext a; apply Fin.ext
  match a with
  | ⟨0, _⟩ => show win0_4.index t (0 : Fin 2) * 1 + 1 * r.val = r.val; omega
  | ⟨1, _⟩ => show win0_4.index t (1 : Fin 2) * 5632 + 1 * q.val = q.val; omega

/-- The block of window 4 at a grid point, read in the whole array. -/
theorem iblk4_at (c : Dev nD) (t : Fin cfg0.N) (r : Fin 1) (q : Fin 5632) : iblk (F := Ideal) m c 4 t (ix2 r q) = V (F := Ideal) m c main_v5 (ix2 r q) := by
  show V (F := Ideal) m c main_v5 (((cfg0.win 4).blk t).view.emb (ix2 r q)) = _; rw [emb4]

/-- Which block of window 5 a grid point takes. -/
theorem idx5 : ∀ t : Fin cfg0.N, win0_5.index t (0 : Fin 2) = 0 ∧ win0_5.index t (1 : Fin 2) = 0 :=
  (by decide +kernel : ∀ t : Fin grid0.N, _)

/-- Where the entries of window 5's block lie in the whole array. -/
theorem emb5 (t : Fin cfg0.N) (r : Fin 2816) (q : Fin 1024) : ((cfg0.win 5).blk t).view.emb (ix2 r q) = ix2 r q := by
  obtain ⟨e0, e1⟩ := idx5 t
  funext a; apply Fin.ext
  match a with
  | ⟨0, _⟩ => show win0_5.index t (0 : Fin 2) * 2816 + 1 * r.val = r.val; omega
  | ⟨1, _⟩ => show win0_5.index t (1 : Fin 2) * 1024 + 1 * q.val = q.val; omega

/-- The block of window 5 at a grid point, read in the whole array. -/
theorem iblk5_at (c : Dev nD) (t : Fin cfg0.N) (r : Fin 2816) (q : Fin 1024) : iblk (F := Ideal) m c 5 t (ix2 r q) = V (F := Ideal) m c main_v6 (ix2 r q) := by
  show V (F := Ideal) m c main_v6 (((cfg0.win 5).blk t).view.emb (ix2 r q)) = _; rw [emb5]

/-- Which block of window 6 a grid point takes. -/
theorem idx6 : ∀ t : Fin cfg0.N, win0_6.index t (0 : Fin 2) = 0 ∧ win0_6.index t (1 : Fin 2) = 0 :=
  (by decide +kernel : ∀ t : Fin grid0.N, _)

/-- Where the entries of window 6's block lie in the whole array. -/
theorem emb6 (t : Fin cfg0.N) (r : Fin 1) (q : Fin 1024) : ((cfg0.win 6).blk t).view.emb (ix2 r q) = ix2 r q := by
  obtain ⟨e0, e1⟩ := idx6 t
  funext a; apply Fin.ext
  match a with
  | ⟨0, _⟩ => show win0_6.index t (0 : Fin 2) * 1 + 1 * r.val = r.val; omega
  | ⟨1, _⟩ => show win0_6.index t (1 : Fin 2) * 1024 + 1 * q.val = q.val; omega

/-- The block of window 6 at a grid point, read in the whole array. -/
theorem iblk6_at (c : Dev nD) (t : Fin cfg0.N) (r : Fin 1) (q : Fin 1024) : iblk (F := Ideal) m c 6 t (ix2 r q) = V (F := Ideal) m c main_v7 (ix2 r q) := by
  show V (F := Ideal) m c main_v7 (((cfg0.win 6).blk t).view.emb (ix2 r q)) = _; rw [emb6]

/-- The array that the host code hands to window 2, in the function's arguments. -/
theorem V2_at (c : Dev nD) (R : Fin 16384) (q : Fin 1024) : V (F := Ideal) m c main_v2 (ix2 R q)
    = m ((c : Thread nD τ).loc main_arg0) (ix3 (⟨R.val / 4096, by omega⟩ : Fin 4) (⟨1024 * (R.val / 1024 % 4) + 128 * (R.val % 8) + R.val % 1024 / 8, by omega⟩ : Fin 4096) q) := by
  unfold V; after_reads_at
  show m ((c : Thread nD τ).loc main_arg0) (ix3 _ _ q) = _
  congr 2
  · exact Fin.ext (show R.val / 1024 / 4 = R.val / 4096 by omega)
  · exact Fin.ext (show R.val / 1024 % 4 * 1024 + R.val % 8 * 128 + R.val / 8 % 128 = 1024 * (R.val / 1024 % 4) + 128 * (R.val % 8) + R.val % 1024 / 8 by omega)
/-- The array that the host code hands to window 3, in the function's arguments. -/
theorem V3_at (c : Dev nD) (r : Fin 1024) (q : Fin 5632) : V (F := Ideal) m c main_v3 (ix2 r q) = m ((c : Thread nD τ).loc main_arg2) (ix2 r q) := by
  unfold V; after_reads_at
/-- The array that the host code hands to window 4, in the function's arguments. -/
theorem V4_at (c : Dev nD) (r : Fin 1) (q : Fin 1024) : V (F := Ideal) m c main_v4 (ix2 r q) = m ((c : Thread nD τ).loc main_arg1) (ix1 q) := by
  unfold V; after_reads_at
/-- The array that the host code hands to window 5, in the function's arguments. -/
theorem V5_at (c : Dev nD) (r : Fin 1) (q : Fin 5632) : V (F := Ideal) m c main_v5 (ix2 r q) = m ((c : Thread nD τ).loc main_arg4) (ix1 q) := by
  unfold V; after_reads_at
/-- The array that the host code hands to window 6, in the function's arguments. -/
theorem V6_at (c : Dev nD) (r : Fin 2816) (q : Fin 1024) : V (F := Ideal) m c main_v6 (ix2 r q) = m ((c : Thread nD τ).loc main_arg5) (ix2 r q) := by
  unfold V; after_reads_at
/-- The array that the host code hands to window 7, in the function's arguments. -/
theorem V7_at (c : Dev nD) (r : Fin 1) (q : Fin 1024) : V (F := Ideal) m c main_v7 (ix2 r q) = m ((c : Thread nD τ).loc main_arg6) (ix1 q) := by
  unfold V; after_reads_at

/-- Window 0's block at a grid point, in the function's arguments. -/
theorem blk0 (c : Dev nD) (t : Fin cfg0.N) (r d : Fin 1024) : iblk (F := Ideal) m c 0 t (ix2 r d) = rowX (m ((c : Thread nD τ).loc main_arg0)) (1024 * t.val + r.val) d := by
  rw [iblk0_at, V2_at]
  have h := ptN t
  unfold rowX xRow
  refine congrArg₂ (fun a b => m ((c : Thread nD τ).loc main_arg0) (ix3 a b d)) (Fin.ext ?_) (Fin.ext ?_)
  · show (1024 * t.val + r.val) / 4096 = (1024 * t.val + r.val) / 4096 % 4
    omega
  · show _ = (1024 * ((1024 * t.val + r.val) / 1024 % 4) + 128 * ((1024 * t.val + r.val) % 8) + (1024 * t.val + r.val) % 1024 / 8) % 4096
    symm
    apply Nat.mod_eq_of_lt
    omega
/-- Window 1's block at a grid point, in the function's arguments. -/
theorem blk1 (c : Dev nD) (t : Fin cfg0.N) (q : Fin 1024) : iblk (F := Ideal) m c 1 t (ix2 0 q) = m ((c : Thread nD τ).loc main_arg1) (ix1 q) := by
  rw [iblk1_at, V4_at]
/-- Window 2's block at a grid point, in the function's arguments. -/
theorem blk2 (c : Dev nD) (t : Fin cfg0.N) (r : Fin 1024) (q : Fin 5632) : iblk (F := Ideal) m c 2 t (ix2 r q) = m ((c : Thread nD τ).loc main_arg2) (ix2 r q) := by
  rw [iblk2_at, V3_at]
/-- Window 3's block at a grid point, in the function's arguments. -/
theorem blk3 (c : Dev nD) (t : Fin cfg0.N) (r : Fin 3) (q : Fin 5632) : iblk (F := Ideal) m c 3 t (ix2 r q) = m ((c : Thread nD τ).loc main_arg3) (ix2 r q) := by
  rw [iblk3_at, V_main_arg3]
/-- Window 4's block at a grid point, in the function's arguments. -/
theorem blk4 (c : Dev nD) (t : Fin cfg0.N) (q : Fin 5632) : iblk (F := Ideal) m c 4 t (ix2 0 q) = m ((c : Thread nD τ).loc main_arg4) (ix1 q) := by
  rw [iblk4_at, V5_at]
/-- Window 5's block at a grid point, in the function's arguments. -/
theorem blk5 (c : Dev nD) (t : Fin cfg0.N) (r : Fin 2816) (q : Fin 1024) : iblk (F := Ideal) m c 5 t (ix2 r q) = m ((c : Thread nD τ).loc main_arg5) (ix2 r q) := by
  rw [iblk5_at, V6_at]
/-- Window 6's block at a grid point, in the function's arguments. -/
theorem blk6 (c : Dev nD) (t : Fin cfg0.N) (q : Fin 1024) : iblk (F := Ideal) m c 6 t (ix2 0 q) = m ((c : Thread nD τ).loc main_arg6) (ix1 q) := by
  rw [iblk6_at, V7_at]

end

end Cert.Kernel2Ideal.RefValue

end
-- ==== Proof.FfnPlaces.lean ====
/-
  Rows of a tile and positions of the whole array.
-/
module

public import proofs.«01_k».proof.Proof.FfnBlocks
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

open Cert.KernelIdeal.RefValue (back1 back2 back1_at back2_at rowOf_tile)
open Cert.Ffn
open Cert.Mix (rms rowOf)

/-- A row of the whole array, found from its tile and its place in it. -/
theorem rowX_rowOf (X : FVec Ideal S4x4096x1024 .f32) (b t : ℕ) (ht : t < 4096) : rowX X (rowOf b t) = xRow X b t := by
  unfold rowX
  obtain ⟨e1, e2, e3, e4⟩ : rowOf b t / 4096 = b ∧ rowOf b t / 1024 % 4 = t / 1024 ∧ rowOf b t % 8 = t % 1024 / 128 ∧ rowOf b t % 1024 / 8 = t % 128 := by
    unfold rowOf
    have ha : t / 1024 < 4 := by omega
    have hj : t % 128 < 128 := by omega
    have hs : t % 1024 / 128 < 8 := by omega
    generalize t / 1024 = a at *
    generalize t % 128 = j at *
    generalize t % 1024 / 128 = s at *
    have ek : 1024 * (4 * b + a) + 8 * j + s = 4096 * b + 1024 * a + 8 * j + s := by omega
    rw [ek]
    refine ⟨?_, ?_, ?_, ?_⟩
    · omega
    · rw [show (4096 * b + 1024 * a + 8 * j + s) / 1024 = 4 * b + a by omega]; omega
    · omega
    · rw [show (4096 * b + 1024 * a + 8 * j + s) % 1024 = 8 * j + s by omega]; omega
  rw [e1, e2, e3, e4]
  congr 1
  omega

section
variable (X : FVec Ideal S4x4096x1024 .f32) (g : FVec Ideal S1024 .f32) (w : FVec Ideal S1024x5632 .f32) (T : ℕ)
  (x0 : FVec Ideal S1024x1024 .f32) (x1 : FVec Ideal S1x1024 .f32) (x2 : FVec Ideal S1024x5632 .bf16)

/-- The up projection of a grid point's tile, in the function's arguments. -/
theorem upT_at (h0 : ∀ r d, x0 (ix2 r d) = rowX X (1024 * T + r.val) d) (h1 : ∀ q, x1 (ix2 0 q) = g (ix1 q)) (h2 : ∀ r q, x2 (ix2 r q) = w (ix2 r q))
    (q : Fin 5632) (r : Fin 1024) : upT x0 x1 x2 q r = upRow (rowX X (1024 * T + r.val)) (fun d => g (ix1 d)) w q := by
  unfold upT upRow
  simp only [xnT_at, h0, h1, h2]

/-- The convolution of a tile is the convolution at the rows' positions, when the carry holds the end of the tile before. -/
theorem convT_at (cw : FVec Ideal S3x5632 .f32) (cb : FVec Ideal S5632 .f32) (x3 : FVec Ideal S3x5632 .f32) (x4 : FVec Ideal S1x5632 .f32)
    (p : Fin 16 → Fin 5632 → EReal)
    (h0 : ∀ r d, x0 (ix2 r d) = rowX X (1024 * T + r.val) d) (h1 : ∀ q, x1 (ix2 0 q) = g (ix1 q)) (h2 : ∀ r q, x2 (ix2 r q) = w (ix2 r q))
    (h3 : ∀ r q, x3 (ix2 r q) = cw (ix2 r q)) (h4 : ∀ q, x4 (ix2 0 q) = cb (ix1 q))
    (hp : ∀ i q, p i q = if T % 4 = 0 then 0 else upRow (rowX X (1024 * (T - 1) + 1008 + i.val)) (fun d => g (ix1 d)) w q) (r : Fin 1024) (k : Fin 5632) :
    convT x0 x1 x2 x3 x4 p r k = convPos X g w cw cb (T / 4) (1024 * (T % 4) + 128 * (r.val % 8) + r.val / 8) k := by
  have hr := r.isLt
  have ht : 1024 * (T % 4) + 128 * (r.val % 8) + r.val / 8 < 4096 := by omega
  have hrow : rowOf (T / 4) (1024 * (T % 4) + 128 * (r.val % 8) + r.val / 8) = 1024 * T + r.val := by
    rw [rowOf_tile _ _ _ (by omega) (by omega)]; omega
  have hu : upT x0 x1 x2 k = fun r => upRow (rowX X (1024 * T + r.val)) (fun d => g (ix1 d)) w k := by
    funext r; exact upT_at X g w T x0 x1 x2 h0 h1 h2 k r
  have hb2 : back2 (fun r => upRow (rowX X (1024 * T + r.val)) (fun d => g (ix1 d)) w k) (fun i => p i k) r
      = upPos X g w (T / 4) (1024 * (T % 4) + 128 * (r.val % 8) + r.val / 8) 2 k :=
    (back2_at (fun n => upRow (rowX X n) (fun d => g (ix1 d)) w k) T _ (fun i => hp i k) r).trans (by
      unfold upPos; rw [rowX_rowOf X _ _ (lt_of_le_of_lt (Nat.sub_le _ _) ht)])
  have hb1 : back1 (fun r => upRow (rowX X (1024 * T + r.val)) (fun d => g (ix1 d)) w k) (fun i => p i k) r
      = upPos X g w (T / 4) (1024 * (T % 4) + 128 * (r.val % 8) + r.val / 8) 1 k :=
    (back1_at (fun n => upRow (rowX X n) (fun d => g (ix1 d)) w k) T _ (fun i => hp i k) r).trans (by
      unfold upPos; rw [rowX_rowOf X _ _ (lt_of_le_of_lt (Nat.sub_le _ _) ht)])
  have hb0 : upRow (rowX X (1024 * T + r.val)) (fun d => g (ix1 d)) w k = upPos X g w (T / 4) (1024 * (T % 4) + 128 * (r.val % 8) + r.val / 8) 0 k := by
    unfold upPos; rw [if_neg (Nat.not_lt_zero _), Nat.sub_zero, ← rowX_rowOf X _ _ ht, hrow]
  unfold convT convE convPos taps
  rw [hu]
  beta_reduce
  rw [hb2, hb1, hb0, h3, h3, h3, h4]

/-- The output tile is the block's result at the rows' positions, when the carry holds the end of the tile before. -/
theorem outT_at (cw : FVec Ideal S3x5632 .f32) (cb : FVec Ideal S5632 .f32) (wd : FVec Ideal S2816x1024 .f32) (gf : FVec Ideal S1024 .f32)
    (x3 : FVec Ideal S3x5632 .f32) (x4 : FVec Ideal S1x5632 .f32) (x5 : FVec Ideal S2816x1024 .bf16) (x6 : FVec Ideal S1x1024 .f32) (p : Fin 16 → Fin 5632 → EReal)
    (h0 : ∀ r d, x0 (ix2 r d) = rowX X (1024 * T + r.val) d) (h1 : ∀ q, x1 (ix2 0 q) = g (ix1 q)) (h2 : ∀ r q, x2 (ix2 r q) = w (ix2 r q))
    (h3 : ∀ r q, x3 (ix2 r q) = cw (ix2 r q)) (h4 : ∀ q, x4 (ix2 0 q) = cb (ix1 q)) (h5 : ∀ r q, x5 (ix2 r q) = wd (ix2 r q)) (h6 : ∀ q, x6 (ix2 0 q) = gf (ix1 q))
    (hp : ∀ i q, p i q = if T % 4 = 0 then 0 else upRow (rowX X (1024 * (T - 1) + 1008 + i.val)) (fun d => g (ix1 d)) w q) (r d : Fin 1024) :
    outT x0 x1 x2 x3 x4 x5 x6 p r d = ffnPos X g w cw cb wd gf (T / 4) (1024 * (T % 4) + 128 * (r.val % 8) + r.val / 8) d := by
  have hr := r.isLt
  have ht : 1024 * (T % 4) + 128 * (r.val % 8) + r.val / 8 < 4096 := by omega
  have hrow : rowOf (T / 4) (1024 * (T % 4) + 128 * (r.val % 8) + r.val / 8) = 1024 * T + r.val := by
    rw [rowOf_tile _ _ _ (by omega) (by omega)]; omega
  unfold outT ffnPos
  refine congrArg₂ (fun a b => rms a b d) (funext fun d => ?_) (funext fun d => h6 d)
  unfold sumPos
  rw [h0, ← hrow, rowX_rowOf X _ _ ht]
  refine congrArg (xRow X _ _ d + ·) (Finset.sum_congr rfl fun k _ => ?_)
  unfold actT actPos
  rw [convT_at X g w T x0 x1 x2 cw cb x3 x4 p h0 h1 h2 h3 h4 hp, convT_at X g w T x0 x1 x2 cw cb x3 x4 p h0 h1 h2 h3 h4 hp, h5]

end

end Cert.Kernel2Ideal.RefValue

end
-- ==== Proof.FfnSlab.lean ====
/-
  The slab through which a tile goes from run order into position order.
-/
module

public import proofs.«01_k».proof.Proof.Gen.Kernel2Ideal
public import Idealize.ShloMosaic.Lib.Pointwise
public import Idealize.ShloMosaic.Lib.Pipeline.StridedRows

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

/-- A store into the staging slab, or into the output window. -/
abbrev SlabPiece := View.Piece (Elt Ideal) S8x1088x128 .f32
/-- A store into the output window. -/
abbrev OutPiece := View.Piece (Elt Ideal) S1024x1024 .f32

/-- A run of 128 rows fits the slab's pitch of 136. -/
theorem h136 : 128 ≤ 136 := by decide

/-- What the slab holds for a tile `Y` in run order: at column block `c`, place `r`, run `n`, lane `l`. -/
def slabV (Y : FVec Ideal S1024x1024 .f32) (c : Fin 8) (r : Fin 128) (n : Fin 8) (l : Fin 128) : Elt Ideal .f32 :=
  Y (ix2 ⟨8 * r.val + n.val, by omega⟩ ⟨128 * c.val + l.val, by omega⟩)

/-- Eight rows of one column block lie in the tile. -/
theorem row_slices (c r : ℕ) (hc : c < 8) (hr : r < 128) : S1024x1024.Slices ![8 * r, 128 * c] S8x128 := by
  refine ⟨rfl, fun a => ?_⟩
  match a with
  | ⟨0, _⟩ => show 8 * r + 8 ≤ 1024; omega
  | ⟨1, _⟩ => show 128 * c + 128 ≤ 1024; omega

/-- The eight rows of place `r`, column block `c`, as a store takes them. -/
def slabRow (Y : FVec Ideal S1024x1024 .f32) (c r : ℕ) (hc : c < 8) (hr : r < 128) : FVec Ideal S1x8x128 .f32 :=
  shapeCast S1x8x128 (extractStridedSlice S8x128 ![8 * r, 128 * c] Y (row_slices c r hc hr)) shapeCasts_S8x128_S1x8x128

/-- What one store of eight rows writes is the slab's contents at its place. -/
theorem slabRow_apply (Y : FVec Ideal S1024x1024 .f32) (c : Fin 8) (r : Fin 128) (x : S1x8x128.Idx) :
    slabRow Y c.val r.val c.isLt r.isLt x = slabV Y c r (x 1) (x 2) := by
  have hx : x = ix3 0 (x 1) (x 2) := by
    funext a
    match a with
    | ⟨0, _⟩ => exact Fin.ext (by have := (x 0).isLt; change (x 0).val < 1 at this; show (x 0).val = 0; omega)
    | ⟨1, _⟩ => rfl
    | ⟨2, _⟩ => rfl
  have h (n : Fin 8) (l : Fin 128) : slabRow Y c.val r.val c.isLt r.isLt (ix3 0 n l) = slabV Y c r n l := by
    unfold slabV
    pointwise [slabRow]
  rw [hx]
  exact h (x 1) (x 2)

/-- The slab's stores of column block `k` up to place `n`, newest first, over the stores before. -/
inductive SlabRows (Y : FVec Ideal S1024x1024 .f32) (k : ℕ) (hk : k < 8) (L0 : List SlabPiece) : ℕ → List SlabPiece → Prop
  | nil : SlabRows Y k hk L0 0 L0
  | cons (n : ℕ) (p : SlabPiece) (L : List SlabPiece) (hn : n < 128)
      (hp : p = ⟨StridedRows.rowRect (C := 8) (N := 8) (L := 128) h136 ⟨k, hk⟩ ⟨n, hn⟩, slabRow Y k n hk hn⟩)
      (hL : SlabRows Y k hk L0 n L) : SlabRows Y k hk L0 (n + 1) (p :: L)

/-- Every store of the list is a row of the tile. -/
def AllRows (Y : FVec Ideal S1024x1024 .f32) (L : List SlabPiece) : Prop :=
  ∀ p ∈ L, ∃ (c : Fin 8) (r : Fin 128) (w : (StridedRows.Row 8 128).Idx → Elt Ideal .f32),
    p = ⟨StridedRows.rowRect (C := 8) (N := 8) (L := 128) h136 c r, w⟩ ∧ ∀ x, w x = slabV Y c r (x 1) (x 2)

/-- The list stores place `r` of column block `c`. -/
def HasRow (L : List SlabPiece) (c : Fin 8) (r : Fin 128) : Prop :=
  ∃ w, (⟨StridedRows.rowRect (C := 8) (N := 8) (L := 128) h136 c r, w⟩ : SlabPiece) ∈ L

/-- After the stores of a column block the slab holds the tile there. -/
theorem SlabRows.sound {Y : FVec Ideal S1024x1024 .f32} {k : ℕ} {hk : k < 8} {L0 L : List SlabPiece} {n : ℕ} (h : SlabRows Y k hk L0 n L)
    (h0 : AllRows Y L0) : AllRows Y L ∧ (∀ c r, HasRow L0 c r → HasRow L c r) ∧ ∀ r : Fin 128, r.val < n → HasRow L ⟨k, hk⟩ r := by
  induction h with
  | nil => exact ⟨h0, fun _ _ h => h, fun r hr => absurd hr (Nat.not_lt_zero _)⟩
  | cons n p L hn hp hL ih =>
    obtain ⟨i1, i2, i3⟩ := ih
    refine ⟨?_, fun c r h => ?_, fun r hr => ?_⟩
    · intro q hq
      rcases List.mem_cons.1 hq with rfl | hq
      · exact ⟨⟨k, hk⟩, ⟨n, hn⟩, _, hp, fun x => slabRow_apply Y ⟨k, hk⟩ ⟨n, hn⟩ x⟩
      · exact i1 q hq
    · obtain ⟨w, hw⟩ := i2 c r h
      exact ⟨w, List.mem_cons_of_mem _ hw⟩
    · by_cases hrn : r.val < n
      · obtain ⟨w, hw⟩ := i3 r hrn
        exact ⟨w, List.mem_cons_of_mem _ hw⟩
      · have e : r = ⟨n, hn⟩ := Fin.ext (by show r.val = n; omega)
        subst e
        exact ⟨_, List.mem_cons.2 (Or.inl hp.symm)⟩

/-- The output's squares lie in its window. -/
theorem out_inb (s k : ℕ) (hs : s < 8) (hk : k < 8) : ∀ a : Fin S1024x1024.rank, (![128 * s, 128 * k] : Fin 2 → ℕ) a + (![128, 128] : Fin 2 → ℕ) a ≤ S1024x1024.size a := fun a => by
  match a with
  | ⟨0, _⟩ => show 128 * s + 128 ≤ 1024; omega
  | ⟨1, _⟩ => show 128 * k + 128 ≤ 1024; omega

/-- Dropping the leading axis of length one does not move entries. -/
theorem square_apply (R : FVec Ideal S1x128x128 .f32) (a b : Fin 128) : shapeCast S128x128 R shapeCasts_S1x128x128_S128x128 (ix2 a b) = R (ix3 0 a b) := by
  pointwise

/-- The output's square of run `s`, column block `k`: read out of the slab. -/
def outPiece (v : View sig .tc .vmem S8x1088x128 .f32) (k : ℕ) (hk : k < 8) (s : ℕ) (hs : s < 8) (Ls : List SlabPiece) : OutPiece :=
  ⟨Rect.unit (s := S1024x1024) ![128 * s, 128 * k] ![128, 128] (out_inb s k hs hk),
    shapeCast S128x128 (v.readCov Ls (StridedRows.tileRect (C := 8) (N := 8) (L := 128) h136 ⟨k, hk⟩ ⟨s, hs⟩).toLoadRect) shapeCasts_S1x128x128_S128x128⟩

/-- The output's stores of the first `k` column blocks, newest first, with the slab's stores made by then. -/
inductive OutCols (v : View sig .tc .vmem S8x1088x128 .f32) (Y : FVec Ideal S1024x1024 .f32) : ℕ → List OutPiece → List SlabPiece → Prop
  | nil : OutCols v Y 0 [] []
  | col (k : ℕ) (hk : k < 8) (p7 p6 p5 p4 p3 p2 p1 p0 : OutPiece) (L : List OutPiece) (L0 Ls : List SlabPiece)
      (h0 : p0 = outPiece v k hk 0 (by decide) Ls)
      (h1 : p1 = outPiece v k hk 1 (by decide) Ls)
      (h2 : p2 = outPiece v k hk 2 (by decide) Ls)
      (h3 : p3 = outPiece v k hk 3 (by decide) Ls)
      (h4 : p4 = outPiece v k hk 4 (by decide) Ls)
      (h5 : p5 = outPiece v k hk 5 (by decide) Ls)
      (h6 : p6 = outPiece v k hk 6 (by decide) Ls)
      (h7 : p7 = outPiece v k hk 7 (by decide) Ls)
      (hS : SlabRows Y k hk L0 128 Ls) (hL : OutCols v Y k L L0) : OutCols v Y (k + 1) (p7 :: p6 :: p5 :: p4 :: p3 :: p2 :: p1 :: p0 :: L) Ls

/-- The tile in position order: run `s`, place `j` of the tile is its row `8 j + s`. -/
def unrun (Y : FVec Ideal S1024x1024 .f32) (y : S1024x1024.Idx) : Elt Ideal .f32 :=
  Y (ix2 ⟨8 * ((y 0).val % 128) + (y 0).val / 128, by have := (y 0).isLt; change (y 0).val < 1024 at this; omega⟩ (y 1))

/-- What a square's store writes is the tile in position order. -/
theorem outPiece_apply (v : View sig .tc .vmem S8x1088x128 .f32) (Y : FVec Ideal S1024x1024 .f32) (k : ℕ) (hk : k < 8) (s : ℕ) (hs : s < 8) (Ls : List SlabPiece)
    (hA : AllRows Y Ls) (hH : ∀ r, HasRow Ls ⟨k, hk⟩ r) (x : (outPiece v k hk s hs Ls).1.shape.Idx) :
    (outPiece v k hk s hs Ls).2 x = unrun Y ((outPiece v k hk s hs Ls).1.emb x) := by
  have hr := StridedRows.readCov_tile v h136 (slabV Y) Ls hA ⟨k, hk⟩ hH ⟨s, hs⟩
  have h (a b : Fin 128) : (outPiece v k hk s hs Ls).2 (ix2 a b) = slabV Y ⟨k, hk⟩ a ⟨s, hs⟩ b :=
    (square_apply _ a b).trans (congrFun hr (ix3 0 a b))
  have hx : x = ix2 (x 0) (x 1) := by
    funext a
    match a with
    | ⟨0, _⟩ => rfl
    | ⟨1, _⟩ => rfl
  refine (congrArg (outPiece v k hk s hs Ls).2 hx).trans ((h (x 0) (x 1)).trans ?_)
  have h0 : (x 0).val < 128 := (x 0).isLt
  unfold slabV unrun
  refine congrArg Y (funext fun a => Fin.ext ?_)
  match a with
  | ⟨0, _⟩ =>
    show 8 * (x 0).val + s = 8 * ((128 * s + 1 * (x 0).val) % 128) + (128 * s + 1 * (x 0).val) / 128
    omega
  | ⟨1, _⟩ => show 128 * k + (x 1).val = 128 * k + 1 * (x 1).val; omega

/-- Which entries a square's store writes. -/
theorem outPiece_mem (v : View sig .tc .vmem S8x1088x128 .f32) (k : ℕ) (hk : k < 8) (s : ℕ) (hs : s < 8) (Ls : List SlabPiece) (r d : Fin 1024)
    (hr : r.val / 128 = s) (hd : d.val / 128 = k) : ix2 r d ∈ (outPiece v k hk s hs Ls).1.set := by
  refine (Rect.mem_set_unit (s := S1024x1024) (inb := out_inb s k hs hk)).mpr fun a => ?_
  match a with
  | ⟨0, _⟩ => exact ⟨show 128 * s ≤ r.val by omega, show r.val < 128 * s + 128 by omega⟩
  | ⟨1, _⟩ => exact ⟨show 128 * k ≤ d.val by omega, show d.val < 128 * k + 128 by omega⟩

/-- The stores of the column blocks write the tile in position order. -/
theorem OutCols.sound {v : View sig .tc .vmem S8x1088x128 .f32} {Y : FVec Ideal S1024x1024 .f32} {k : ℕ} {L : List OutPiece} {Ls : List SlabPiece}
    (h : OutCols v Y k L Ls) : AllRows Y Ls ∧ (∀ p ∈ L, ∀ x : p.1.shape.Idx, p.2 x = unrun Y (p.1.emb x))
      ∧ ∀ r d : Fin 1024, d.val / 128 < k → ∃ p ∈ L, ix2 r d ∈ p.1.set := by
  induction h with
  | nil => exact ⟨fun p hp => absurd hp List.not_mem_nil, fun p hp => absurd hp List.not_mem_nil, fun r d h => absurd h (Nat.not_lt_zero _)⟩
  | col k hk p7 p6 p5 p4 p3 p2 p1 p0 L L0 Ls h0 h1 h2 h3 h4 h5 h6 h7 hS hL ih =>
    obtain ⟨i1, i2, i3⟩ := ih
    obtain ⟨j1, -, j3⟩ := hS.sound i1
    have hH : ∀ r, HasRow Ls ⟨k, hk⟩ r := fun r => j3 r r.isLt
    refine ⟨j1, ?_, fun r d hd => ?_⟩
    · intro q hq
      simp only [List.mem_cons] at hq
      rcases hq with rfl | rfl | rfl | rfl | rfl | rfl | rfl | rfl | hq
      · rw [h7]; exact outPiece_apply v Y k hk 7 (by decide) Ls j1 hH
      · rw [h6]; exact outPiece_apply v Y k hk 6 (by decide) Ls j1 hH
      · rw [h5]; exact outPiece_apply v Y k hk 5 (by decide) Ls j1 hH
      · rw [h4]; exact outPiece_apply v Y k hk 4 (by decide) Ls j1 hH
      · rw [h3]; exact outPiece_apply v Y k hk 3 (by decide) Ls j1 hH
      · rw [h2]; exact outPiece_apply v Y k hk 2 (by decide) Ls j1 hH
      · rw [h1]; exact outPiece_apply v Y k hk 1 (by decide) Ls j1 hH
      · rw [h0]; exact outPiece_apply v Y k hk 0 (by decide) Ls j1 hH
      · exact i2 q hq
    · by_cases hdk : d.val / 128 < k
      · obtain ⟨p, hp, hm⟩ := i3 r d hdk
        exact ⟨p, by simp only [List.mem_cons]; tauto, hm⟩
      · have e : d.val / 128 = k := by omega
        have hr8 : r.val / 128 < 8 := by omega
        refine ⟨outPiece v k hk (r.val / 128) hr8 Ls, ?_, outPiece_mem v k hk _ hr8 Ls r d rfl e⟩
        simp only [List.mem_cons]
        have : ∀ s hs, outPiece v k hk s hs Ls = p7 ∨ outPiece v k hk s hs Ls = p6 ∨ outPiece v k hk s hs Ls = p5 ∨ outPiece v k hk s hs Ls = p4
            ∨ outPiece v k hk s hs Ls = p3 ∨ outPiece v k hk s hs Ls = p2 ∨ outPiece v k hk s hs Ls = p1 ∨ outPiece v k hk s hs Ls = p0 ∨ outPiece v k hk s hs Ls ∈ L := by
          intro s hs
          match s, hs with
          | 7, _ => exact Or.inl h7.symm
          | 6, _ => exact Or.inr (Or.inl h6.symm)
          | 5, _ => exact Or.inr (Or.inr (Or.inl h5.symm))
          | 4, _ => exact Or.inr (Or.inr (Or.inr (Or.inl h4.symm)))
          | 3, _ => exact Or.inr (Or.inr (Or.inr (Or.inr (Or.inl h3.symm))))
          | 2, _ => exact Or.inr (Or.inr (Or.inr (Or.inr (Or.inr (Or.inl h2.symm)))))
          | 1, _ => exact Or.inr (Or.inr (Or.inr (Or.inr (Or.inr (Or.inr (Or.inl h1.symm))))))
          | 0, _ => exact Or.inr (Or.inr (Or.inr (Or.inr (Or.inr (Or.inr (Or.inr (Or.inl h0.symm)))))))
        exact this _ hr8

/-- The output window after all its stores is the tile in position order. -/
theorem OutCols.canon_apply {v : View sig .tc .vmem S8x1088x128 .f32} {Y : FVec Ideal S1024x1024 .f32} {L : List OutPiece} {Ls : List SlabPiece}
    (h : OutCols v Y 8 L Ls) (r d : Fin 1024) :
    View.canon L (ix2 r d) = Y (ix2 ⟨8 * (r.val % 128) + r.val / 128, by omega⟩ d) := by
  obtain ⟨-, h2, h3⟩ := h.sound
  exact View.canon_apply_of_pieces (unrun Y) L h2 (ix2 r d) (h3 r d (by omega))

end Cert.Kernel2Ideal.RefValue

end
-- ==== Proof.FfnOutA.lean ====
/-
  The last ConvFFN's body at the first tile of a sequence, where the carry is zero.
-/
module

public import proofs.«01_k».proof.Proof.Gen.Kernel2Ideal.Frame.RunA
public import proofs.«01_k».proof.Proof.FfnTile
public import proofs.«01_k».proof.Proof.FfnSlab

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic
open Cert.Mix (rms)

set_option maxHeartbeats 0 in
/-- The output window after a point at a sequence start: the tile in position order. -/
theorem outA_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r d : Fin 1024) :
    View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 (ix2 r d)
      = outT x0 x1 x2 x3 x4 x5 x6 (fun _ _ => 0) ⟨8 * (r.val % 128) + r.val / 128, by omega⟩ d := by
  unfold kernelRun0_A
  dsimp only
  sl_unfold_run_names
  refine' (OutCols.canon_apply (v := arg12.view) (Y := _) (Ls := _) ?hc r d).trans ?hv
  case hc =>
    iterate 8
      apply OutCols.col
      case h0 => rfl
      case h1 => rfl
      case h2 => rfl
      case h3 => rfl
      case h4 => rfl
      case h5 => rfl
      case h6 => rfl
      case h7 => rfl
      case hk => decide
      case hS =>
        iterate 128
          apply SlabRows.cons
          case hp => rfl
          case hn => decide
        exact SlabRows.nil
    exact OutCols.nil
  simp (disch := decide) only [View.readAt_eq_ld, harg1.read_unread, harg2.read_unread, harg3.read_unread, harg4.read_unread, harg5.read_unread, harg6.read_unread, harg7.read_unread, View.ld_unit_lit',
    View.canon_cons_unit_lit', View.readCov_cons_unit_lit']
  simp (disch := decide) only [View.readCov_eq_canon', View.canon_cons_unit_lit', act0_eq, act1_eq, act2_eq, act3_eq, act4_eq, act5_eq, act6_eq, act7_eq, act8_eq, act9_eq, act10_eq]
  rw [out_apply]
  refine congrArg (fun f => rms f (fun d => x6 (ix2 0 d)) d) (funext fun d => congrArg (x0 (ix2 _ d) + ·) (Finset.sum_congr rfl fun k _ => congrArg (· * x5 (ix2 k d)) ?_))
  rw [box_idx 0 _ _ k (by omega)]
  refine (Chunks.canon_apply (G := actT x0 x1 x2 x3 x4 (fun _ _ => 0)) (os := [2560, 2304, 2048, 1792, 1536, 1280, 1024, 768, 512, 256, 0]) ?_ _ _ (act_cover _)).trans (congrArg _ (Fin.ext (Nat.zero_add _)))
  refine Chunks.cons 2560 _ _ _ _ (by decide) (fun r q => chunk_apply x0 x1 x2 x3 x4 (fun _ _ => 0) 2560 5376 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 2304 _ _ _ _ (by decide) (fun r q => chunk_apply x0 x1 x2 x3 x4 (fun _ _ => 0) 2304 5120 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 2048 _ _ _ _ (by decide) (fun r q => chunk_apply x0 x1 x2 x3 x4 (fun _ _ => 0) 2048 4864 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1792 _ _ _ _ (by decide) (fun r q => chunk_apply x0 x1 x2 x3 x4 (fun _ _ => 0) 1792 4608 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1536 _ _ _ _ (by decide) (fun r q => chunk_apply x0 x1 x2 x3 x4 (fun _ _ => 0) 1536 4352 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1280 _ _ _ _ (by decide) (fun r q => chunk_apply x0 x1 x2 x3 x4 (fun _ _ => 0) 1280 4096 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1024 _ _ _ _ (by decide) (fun r q => chunk_apply x0 x1 x2 x3 x4 (fun _ _ => 0) 1024 3840 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 768 _ _ _ _ (by decide) (fun r q => chunk_apply x0 x1 x2 x3 x4 (fun _ _ => 0) 768 3584 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 512 _ _ _ _ (by decide) (fun r q => chunk_apply x0 x1 x2 x3 x4 (fun _ _ => 0) 512 3328 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 256 _ _ _ _ (by decide) (fun r q => chunk_apply x0 x1 x2 x3 x4 (fun _ _ => 0) 256 3072 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 0 _ _ _ _ (by decide) (fun r q => chunk_apply x0 x1 x2 x3 x4 (fun _ _ => 0) 0 2816 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  exact Chunks.nil []

set_option maxHeartbeats 0 in
/-- The carry after a point at a sequence start: the last sixteen rows of the convolution's input. -/
theorem soutA_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (i' : Fin 16) (q : Fin 5632) :
    View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 (ix2 i' q) = upT x0 x1 x2 q ⟨1008 + i'.val, by omega⟩ := by
  unfold kernelRun0_A
  dsimp only
  sl_unfold_run_names
  simp (disch := decide) only [View.readAt_eq_ld, harg1.read_unread, harg2.read_unread, harg3.read_unread, harg4.read_unread, harg5.read_unread, harg6.read_unread, harg7.read_unread, View.ld_unit_lit', View.readCov_cons_unit_lit', carry0_eq, carry1_eq, carry2_eq, carry3_eq, carry4_eq, carry5_eq, carry6_eq, carry7_eq, carry8_eq, carry9_eq, carry10_eq, carry0v_eq, carry1v_eq, carry2v_eq, carry3v_eq, carry4v_eq, carry5v_eq, carry6v_eq, carry7v_eq, carry8v_eq, carry9v_eq, carry10v_eq]
  refine Chunks.canon_apply (e := .f32) (G := fun (i : Fin 16) (q : Fin 5632) => upT x0 x1 x2 q ⟨1008 + i.val, by omega⟩) (os := [5376, 2560, 5120, 2304, 4864, 2048, 4608, 1792, 4352, 1536, 4096, 1280, 3840, 1024, 3584, 768, 3328, 512, 3072, 256, 2816, 0]) ?_ _ _ (carry_cover _)
  refine Chunks.cons 5376 _ _ _ _ (by decide) (fun i q => carry_apply x0 x1 x2 5376 (by decide) _ i q) ?_
  refine Chunks.cons 2560 _ _ _ _ (by decide) (fun i q => carry_apply x0 x1 x2 2560 (by decide) _ i q) ?_
  refine Chunks.cons 5120 _ _ _ _ (by decide) (fun i q => carry_apply x0 x1 x2 5120 (by decide) _ i q) ?_
  refine Chunks.cons 2304 _ _ _ _ (by decide) (fun i q => carry_apply x0 x1 x2 2304 (by decide) _ i q) ?_
  refine Chunks.cons 4864 _ _ _ _ (by decide) (fun i q => carry_apply x0 x1 x2 4864 (by decide) _ i q) ?_
  refine Chunks.cons 2048 _ _ _ _ (by decide) (fun i q => carry_apply x0 x1 x2 2048 (by decide) _ i q) ?_
  refine Chunks.cons 4608 _ _ _ _ (by decide) (fun i q => carry_apply x0 x1 x2 4608 (by decide) _ i q) ?_
  refine Chunks.cons 1792 _ _ _ _ (by decide) (fun i q => carry_apply x0 x1 x2 1792 (by decide) _ i q) ?_
  refine Chunks.cons 4352 _ _ _ _ (by decide) (fun i q => carry_apply x0 x1 x2 4352 (by decide) _ i q) ?_
  refine Chunks.cons 1536 _ _ _ _ (by decide) (fun i q => carry_apply x0 x1 x2 1536 (by decide) _ i q) ?_
  refine Chunks.cons 4096 _ _ _ _ (by decide) (fun i q => carry_apply x0 x1 x2 4096 (by decide) _ i q) ?_
  refine Chunks.cons 1280 _ _ _ _ (by decide) (fun i q => carry_apply x0 x1 x2 1280 (by decide) _ i q) ?_
  refine Chunks.cons 3840 _ _ _ _ (by decide) (fun i q => carry_apply x0 x1 x2 3840 (by decide) _ i q) ?_
  refine Chunks.cons 1024 _ _ _ _ (by decide) (fun i q => carry_apply x0 x1 x2 1024 (by decide) _ i q) ?_
  refine Chunks.cons 3584 _ _ _ _ (by decide) (fun i q => carry_apply x0 x1 x2 3584 (by decide) _ i q) ?_
  refine Chunks.cons 768 _ _ _ _ (by decide) (fun i q => carry_apply x0 x1 x2 768 (by decide) _ i q) ?_
  refine Chunks.cons 3328 _ _ _ _ (by decide) (fun i q => carry_apply x0 x1 x2 3328 (by decide) _ i q) ?_
  refine Chunks.cons 512 _ _ _ _ (by decide) (fun i q => carry_apply x0 x1 x2 512 (by decide) _ i q) ?_
  refine Chunks.cons 3072 _ _ _ _ (by decide) (fun i q => carry_apply x0 x1 x2 3072 (by decide) _ i q) ?_
  refine Chunks.cons 256 _ _ _ _ (by decide) (fun i q => carry_apply x0 x1 x2 256 (by decide) _ i q) ?_
  refine Chunks.cons 2816 _ _ _ _ (by decide) (fun i q => carry_apply x0 x1 x2 2816 (by decide) _ i q) ?_
  refine Chunks.cons 0 _ _ _ _ (by decide) (fun i q => carry_apply x0 x1 x2 0 (by decide) _ i q) ?_
  exact Chunks.nil _

end Cert.Kernel2Ideal.RefValue

end
-- ==== Proof.FfnOutB.lean ====
/-
  The last ConvFFN's body at a later tile of a sequence.
-/
module

public import proofs.«01_k».proof.Proof.Gen.Kernel2Ideal.Frame.RunB
public import proofs.«01_k».proof.Proof.FfnTile
public import proofs.«01_k».proof.Proof.FfnSlab

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic
open Cert.Mix (rms)

set_option maxHeartbeats 0 in
/-- The output window after a point past a sequence start: the tile in position order. -/
theorem outB_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S16x5632 .f32) (r d : Fin 1024) :
    View.canon (Val := Elt Ideal) (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2).1 (ix2 r d)
      = outT x0 x1 x2 x3 x4 x5 x6 (fun i q => xs2 (ix2 i q)) ⟨8 * (r.val % 128) + r.val / 128, by omega⟩ d := by
  unfold kernelRun0_B
  dsimp only
  sl_unfold_run_names
  refine' (OutCols.canon_apply (v := arg12.view) (Y := _) (Ls := _) ?hc r d).trans ?hv
  case hc =>
    iterate 8
      apply OutCols.col
      case h0 => rfl
      case h1 => rfl
      case h2 => rfl
      case h3 => rfl
      case h4 => rfl
      case h5 => rfl
      case h6 => rfl
      case h7 => rfl
      case hk => decide
      case hS =>
        iterate 128
          apply SlabRows.cons
          case hp => rfl
          case hn => decide
        exact SlabRows.nil
    exact OutCols.nil
  simp (disch := decide) only [View.readAt_eq_ld, harg1.read_unread, harg2.read_unread, harg3.read_unread, harg4.read_unread, harg5.read_unread, harg6.read_unread, harg7.read_unread, harg11.read_unread, View.ld_unit_lit',
    View.canon_cons_unit_lit', View.readCov_cons_unit_lit']
  simp (disch := decide) only [View.readCov_eq_canon', View.canon_cons_unit_lit', act0_eq, act1_eq, act2_eq, act3_eq, act4_eq, act5_eq, act6_eq, act7_eq, act8_eq, act9_eq, act10_eq]
  rw [out_apply]
  refine congrArg (fun f => rms f (fun d => x6 (ix2 0 d)) d) (funext fun d => congrArg (x0 (ix2 _ d) + ·) (Finset.sum_congr rfl fun k _ => congrArg (· * x5 (ix2 k d)) ?_))
  rw [box_idx 0 _ _ k (by omega)]
  refine (Chunks.canon_apply (G := actT x0 x1 x2 x3 x4 (fun i q => xs2 (ix2 i q))) (os := [2560, 2304, 2048, 1792, 1536, 1280, 1024, 768, 512, 256, 0]) ?_ _ _ (act_cover _)).trans (congrArg _ (Fin.ext (Nat.zero_add _)))
  refine Chunks.cons 2560 _ _ _ _ (by decide) (fun r q => chunk_apply x0 x1 x2 x3 x4 (fun i q => xs2 (ix2 i q)) 2560 5376 (by decide) rfl _ _ _ _ _ _ _ _ r q (fun i => ?_) (fun i => ?_)) ?_
  · exact ld_at (e := .f32) xs2 0 2560 _ i q i _ (Nat.zero_add _).symm rfl
  · exact ld_at (e := .f32) xs2 0 5376 _ i q i _ (Nat.zero_add _).symm rfl
  refine Chunks.cons 2304 _ _ _ _ (by decide) (fun r q => chunk_apply x0 x1 x2 x3 x4 (fun i q => xs2 (ix2 i q)) 2304 5120 (by decide) rfl _ _ _ _ _ _ _ _ r q (fun i => ?_) (fun i => ?_)) ?_
  · exact ld_at (e := .f32) xs2 0 2304 _ i q i _ (Nat.zero_add _).symm rfl
  · exact ld_at (e := .f32) xs2 0 5120 _ i q i _ (Nat.zero_add _).symm rfl
  refine Chunks.cons 2048 _ _ _ _ (by decide) (fun r q => chunk_apply x0 x1 x2 x3 x4 (fun i q => xs2 (ix2 i q)) 2048 4864 (by decide) rfl _ _ _ _ _ _ _ _ r q (fun i => ?_) (fun i => ?_)) ?_
  · exact ld_at (e := .f32) xs2 0 2048 _ i q i _ (Nat.zero_add _).symm rfl
  · exact ld_at (e := .f32) xs2 0 4864 _ i q i _ (Nat.zero_add _).symm rfl
  refine Chunks.cons 1792 _ _ _ _ (by decide) (fun r q => chunk_apply x0 x1 x2 x3 x4 (fun i q => xs2 (ix2 i q)) 1792 4608 (by decide) rfl _ _ _ _ _ _ _ _ r q (fun i => ?_) (fun i => ?_)) ?_
  · exact ld_at (e := .f32) xs2 0 1792 _ i q i _ (Nat.zero_add _).symm rfl
  · exact ld_at (e := .f32) xs2 0 4608 _ i q i _ (Nat.zero_add _).symm rfl
  refine Chunks.cons 1536 _ _ _ _ (by decide) (fun r q => chunk_apply x0 x1 x2 x3 x4 (fun i q => xs2 (ix2 i q)) 1536 4352 (by decide) rfl _ _ _ _ _ _ _ _ r q (fun i => ?_) (fun i => ?_)) ?_
  · exact ld_at (e := .f32) xs2 0 1536 _ i q i _ (Nat.zero_add _).symm rfl
  · exact ld_at (e := .f32) xs2 0 4352 _ i q i _ (Nat.zero_add _).symm rfl
  refine Chunks.cons 1280 _ _ _ _ (by decide) (fun r q => chunk_apply x0 x1 x2 x3 x4 (fun i q => xs2 (ix2 i q)) 1280 4096 (by decide) rfl _ _ _ _ _ _ _ _ r q (fun i => ?_) (fun i => ?_)) ?_
  · exact ld_at (e := .f32) xs2 0 1280 _ i q i _ (Nat.zero_add _).symm rfl
  · exact ld_at (e := .f32) xs2 0 4096 _ i q i _ (Nat.zero_add _).symm rfl
  refine Chunks.cons 1024 _ _ _ _ (by decide) (fun r q => chunk_apply x0 x1 x2 x3 x4 (fun i q => xs2 (ix2 i q)) 1024 3840 (by decide) rfl _ _ _ _ _ _ _ _ r q (fun i => ?_) (fun i => ?_)) ?_
  · exact ld_at (e := .f32) xs2 0 1024 _ i q i _ (Nat.zero_add _).symm rfl
  · exact ld_at (e := .f32) xs2 0 3840 _ i q i _ (Nat.zero_add _).symm rfl
  refine Chunks.cons 768 _ _ _ _ (by decide) (fun r q => chunk_apply x0 x1 x2 x3 x4 (fun i q => xs2 (ix2 i q)) 768 3584 (by decide) rfl _ _ _ _ _ _ _ _ r q (fun i => ?_) (fun i => ?_)) ?_
  · exact ld_at (e := .f32) xs2 0 768 _ i q i _ (Nat.zero_add _).symm rfl
  · exact ld_at (e := .f32) xs2 0 3584 _ i q i _ (Nat.zero_add _).symm rfl
  refine Chunks.cons 512 _ _ _ _ (by decide) (fun r q => chunk_apply x0 x1 x2 x3 x4 (fun i q => xs2 (ix2 i q)) 512 3328 (by decide) rfl _ _ _ _ _ _ _ _ r q (fun i => ?_) (fun i => ?_)) ?_
  · exact ld_at (e := .f32) xs2 0 512 _ i q i _ (Nat.zero_add _).symm rfl
  · exact ld_at (e := .f32) xs2 0 3328 _ i q i _ (Nat.zero_add _).symm rfl
  refine Chunks.cons 256 _ _ _ _ (by decide) (fun r q => chunk_apply x0 x1 x2 x3 x4 (fun i q => xs2 (ix2 i q)) 256 3072 (by decide) rfl _ _ _ _ _ _ _ _ r q (fun i => ?_) (fun i => ?_)) ?_
  · exact ld_at (e := .f32) xs2 0 256 _ i q i _ (Nat.zero_add _).symm rfl
  · exact ld_at (e := .f32) xs2 0 3072 _ i q i _ (Nat.zero_add _).symm rfl
  refine Chunks.cons 0 _ _ _ _ (by decide) (fun r q => chunk_apply x0 x1 x2 x3 x4 (fun i q => xs2 (ix2 i q)) 0 2816 (by decide) rfl _ _ _ _ _ _ _ _ r q (fun i => ?_) (fun i => ?_)) ?_
  · exact ld_at (e := .f32) xs2 0 0 _ i q i _ (Nat.zero_add _).symm rfl
  · exact ld_at (e := .f32) xs2 0 2816 _ i q i _ (Nat.zero_add _).symm rfl
  exact Chunks.nil []

set_option maxHeartbeats 0 in
/-- The carry after a point past a sequence start: the last sixteen rows of the convolution's input. -/
theorem soutB_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S16x5632 .f32) (i' : Fin 16) (q : Fin 5632) :
    View.canon (Val := Elt Ideal) (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2).2.1 (ix2 i' q) = upT x0 x1 x2 q ⟨1008 + i'.val, by omega⟩ := by
  unfold kernelRun0_B
  dsimp only
  sl_unfold_run_names
  simp (disch := decide) only [View.readAt_eq_ld, harg1.read_unread, harg2.read_unread, harg3.read_unread, harg4.read_unread, harg5.read_unread, harg6.read_unread, harg7.read_unread, View.ld_unit_lit', View.readCov_cons_unit_lit', carry0_eq, carry1_eq, carry2_eq, carry3_eq, carry4_eq, carry5_eq, carry6_eq, carry7_eq, carry8_eq, carry9_eq, carry10_eq, carry0v_eq, carry1v_eq, carry2v_eq, carry3v_eq, carry4v_eq, carry5v_eq, carry6v_eq, carry7v_eq, carry8v_eq, carry9v_eq, carry10v_eq]
  refine Chunks.canon_apply (e := .f32) (G := fun (i : Fin 16) (q : Fin 5632) => upT x0 x1 x2 q ⟨1008 + i.val, by omega⟩) (os := [5376, 2560, 5120, 2304, 4864, 2048, 4608, 1792, 4352, 1536, 4096, 1280, 3840, 1024, 3584, 768, 3328, 512, 3072, 256, 2816, 0]) ?_ _ _ (carry_cover _)
  refine Chunks.cons 5376 _ _ _ _ (by decide) (fun i q => carry_apply x0 x1 x2 5376 (by decide) _ i q) ?_
  refine Chunks.cons 2560 _ _ _ _ (by decide) (fun i q => carry_apply x0 x1 x2 2560 (by decide) _ i q) ?_
  refine Chunks.cons 5120 _ _ _ _ (by decide) (fun i q => carry_apply x0 x1 x2 5120 (by decide) _ i q) ?_
  refine Chunks.cons 2304 _ _ _ _ (by decide) (fun i q => carry_apply x0 x1 x2 2304 (by decide) _ i q) ?_
  refine Chunks.cons 4864 _ _ _ _ (by decide) (fun i q => carry_apply x0 x1 x2 4864 (by decide) _ i q) ?_
  refine Chunks.cons 2048 _ _ _ _ (by decide) (fun i q => carry_apply x0 x1 x2 2048 (by decide) _ i q) ?_
  refine Chunks.cons 4608 _ _ _ _ (by decide) (fun i q => carry_apply x0 x1 x2 4608 (by decide) _ i q) ?_
  refine Chunks.cons 1792 _ _ _ _ (by decide) (fun i q => carry_apply x0 x1 x2 1792 (by decide) _ i q) ?_
  refine Chunks.cons 4352 _ _ _ _ (by decide) (fun i q => carry_apply x0 x1 x2 4352 (by decide) _ i q) ?_
  refine Chunks.cons 1536 _ _ _ _ (by decide) (fun i q => carry_apply x0 x1 x2 1536 (by decide) _ i q) ?_
  refine Chunks.cons 4096 _ _ _ _ (by decide) (fun i q => carry_apply x0 x1 x2 4096 (by decide) _ i q) ?_
  refine Chunks.cons 1280 _ _ _ _ (by decide) (fun i q => carry_apply x0 x1 x2 1280 (by decide) _ i q) ?_
  refine Chunks.cons 3840 _ _ _ _ (by decide) (fun i q => carry_apply x0 x1 x2 3840 (by decide) _ i q) ?_
  refine Chunks.cons 1024 _ _ _ _ (by decide) (fun i q => carry_apply x0 x1 x2 1024 (by decide) _ i q) ?_
  refine Chunks.cons 3584 _ _ _ _ (by decide) (fun i q => carry_apply x0 x1 x2 3584 (by decide) _ i q) ?_
  refine Chunks.cons 768 _ _ _ _ (by decide) (fun i q => carry_apply x0 x1 x2 768 (by decide) _ i q) ?_
  refine Chunks.cons 3328 _ _ _ _ (by decide) (fun i q => carry_apply x0 x1 x2 3328 (by decide) _ i q) ?_
  refine Chunks.cons 512 _ _ _ _ (by decide) (fun i q => carry_apply x0 x1 x2 512 (by decide) _ i q) ?_
  refine Chunks.cons 3072 _ _ _ _ (by decide) (fun i q => carry_apply x0 x1 x2 3072 (by decide) _ i q) ?_
  refine Chunks.cons 256 _ _ _ _ (by decide) (fun i q => carry_apply x0 x1 x2 256 (by decide) _ i q) ?_
  refine Chunks.cons 2816 _ _ _ _ (by decide) (fun i q => carry_apply x0 x1 x2 2816 (by decide) _ i q) ?_
  refine Chunks.cons 0 _ _ _ _ (by decide) (fun i q => carry_apply x0 x1 x2 0 (by decide) _ i q) ?_
  exact Chunks.nil _

end Cert.Kernel2Ideal.RefValue

end
-- ==== Proof.FfnPoints.lean ====
/-
  What each grid point of the last ConvFFN writes and carries, in the function's arguments.
-/
module

public import proofs.«01_k».proof.Proof.Gen.Kernel2Ideal.Frame
public import proofs.«01_k».proof.Proof.FfnPlaces
public import proofs.«01_k».proof.Proof.FfnOutA
public import proofs.«01_k».proof.Proof.FfnOutB

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

open Cert.Ffn
open Cert.Mix (rms rowOf)

/-- The tile written at the first point of a sequence. -/
theorem out0_A_7_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r d : Fin 1024) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 r d) = outT x0 x1 x2 x3 x4 x5 x6 (fun _ _ => 0) ⟨8 * (r.val % 128) + r.val / 128, by omega⟩ d := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  exact outA_apply c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 r d

/-- The carry left by the first point of a sequence. -/
theorem sout0_A_2_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (i' : Fin 16) (q : Fin 5632) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 i' q) = upT x0 x1 x2 q ⟨1008 + i'.val, by omega⟩ := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  exact soutA_apply c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 i' q

/-- The tile written at a later point of a sequence, after the carry that it finds. -/
theorem out0_B_7_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S16x5632 .f32) (r d : Fin 1024) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 (ix2 r d) = outT x0 x1 x2 x3 x4 x5 x6 (fun i q => xs2 (ix2 i q)) ⟨8 * (r.val % 128) + r.val / 128, by omega⟩ d := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2)]
  exact outB_apply c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 r d

/-- The carry left by a later point of a sequence. -/
theorem sout0_B_2_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x2816 .bf16) (harg10 : arg10.IsWhole) (arg11 : Memref sig .tc .vmem S16x5632 .f32) (harg11 : arg11.IsWhole) (arg12 : Memref sig .tc .vmem S8x1088x128 .f32) (harg12 : arg12.IsWhole) (arg13 : Memref sig .tc .vmem S1024x1024 .f32) (harg13 : arg13.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S16x5632 .f32) (i' : Fin 16) (q : Fin 5632) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 (ix2 i' q) = upT x0 x1 x2 q ⟨1008 + i'.val, by omega⟩ := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2)]
  exact soutB_apply c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs2 i' q

section
variable (m : (ℓ : Loc nD τ sig) → Buf (Elt Ideal) ℓ)

/-- What every point leaves in the carry: the last 16 rows of the convolution's input of its tile. -/
theorem carry_at (c : Dev nD) (t : Fin cfg0.N) (i : Fin 16) (q : Fin 5632) :
    (outsAt0 m c t.val t.isLt).2 (ix2 i q)
      = upRow (rowX (m ((c : Thread nD τ).loc main_arg0)) (1024 * t.val + 1008 + i.val)) (fun d => m ((c : Thread nD τ).loc main_arg1) (ix1 d)) (m ((c : Thread nD τ).loc main_arg2)) q := by
  have key := upT_at (m ((c : Thread nD τ).loc main_arg0)) (m ((c : Thread nD τ).loc main_arg1)) (m ((c : Thread nD τ).loc main_arg2)) t.val
    (iblk m c 0 t) (iblk m c 1 t) (iblk m c 2 t) (blk0 m c t) (blk1 m c t) (blk2 m c t) q ⟨1008 + i.val, by omega⟩
  rw [show 1024 * t.val + (⟨1008 + i.val, by omega⟩ : Fin 1024).val = 1024 * t.val + 1008 + i.val from (Nat.add_assoc _ _ _).symm] at key
  refine Eq.trans ?_ key
  by_cases h0 : t.val % 4 = 0
  · rw [outsAt0_A m c t h0]
    dsimp only
    rw [sout0_A_2_apply]
  · rw [outsAt0_B m c t h0]
    dsimp only
    rw [sout0_B_2_apply]

/-- What every point leaves in its output tile, in position order. -/
theorem tile_at (c : Dev nD) (t : Fin cfg0.N) (r d : Fin 1024) :
    (outsAt0 m c t.val t.isLt).1 (ix2 r d)
      = ffnPos (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (t.val / 4) (1024 * (t.val % 4) + r.val) d := by
  have hr := r.isLt
  have e : 1024 * (t.val % 4) + 128 * ((8 * (r.val % 128) + r.val / 128) % 8) + (8 * (r.val % 128) + r.val / 128) / 8 = 1024 * (t.val % 4) + r.val := by omega
  rw [← e]
  by_cases h0 : t.val % 4 = 0
  · rw [outsAt0_A m c t h0]
    dsimp only
    rw [out0_A_7_apply]
    exact outT_at _ _ _ t.val _ _ _ _ _ _ _ _ _ _ _ _ (blk0 m c t) (blk1 m c t) (blk2 m c t) (blk3 m c t) (blk4 m c t) (blk5 m c t) (blk6 m c t)
      (fun i q => (if_pos h0).symm) _ d
  · rw [outsAt0_B m c t h0]
    dsimp only
    rw [out0_B_7_apply]
    exact outT_at _ _ _ t.val _ _ _ _ _ _ _ _ _ _ _ _ (blk0 m c t) (blk1 m c t) (blk2 m c t) (blk3 m c t) (blk4 m c t) (blk5 m c t) (blk6 m c t)
      (fun i q => by rw [if_neg h0]; exact carry_at m c ⟨t.val - 1, by have := t.isLt; omega⟩ i q) _ d

end

end Cert.Kernel2Ideal.RefValue

end
-- ==== Proof.FfnReference.lean ====
/-
  The reference of the last ConvFFN, entry by entry.
-/
module

public import proofs.«01_k».proof.Proof.Gen.Reference2Ideal.Read
public import proofs.«01_k».proof.Proof.FfnRows
public import Idealize.ShloMosaic.Lib.KernelVsHost
public import Idealize.ShloMosaic.Lib.Pointwise

@[expose] public section

set_option maxRecDepth 16384

noncomputable section

namespace Cert.Ffn

open Cert.Reference2Ideal Idealize.ShloMosaic Idealize.ShloMosaic.TcCoe Idealize.SL.Sem
open Idealize.ShloMosaic.Tactic

open Cert.Reference2Ideal.Read
open Cert.Mix (rms)

/-- A position's row, with the position given by its sequence and its place in it. -/
theorem xRow_fin (x0 : FVec Ideal S4x4096x1024 .f32) (b : Fin 4) (t : Fin 4096) (d : Fin 1024) : xRow x0 b.val t.val d = x0 (ix3 b t d) := by
  unfold xRow
  exact congrArg₂ (fun i j => x0 (ix3 i j d)) (Fin.ext (Nat.mod_eq_of_lt b.isLt)) (Fin.ext (Nat.mod_eq_of_lt t.isLt))

/-- One entry of the reference's value 12. -/
theorem v12_at (x0 : FVec Ideal S4x4096x1024 .f32) (x1 : FVec Ideal S1024 .f32) (b : Fin 4) (t : Fin 4096) (k : Fin 1024) :
    val_main_v12 (F := Ideal) x0 x1 (ix3 b t k) = rms (xRow x0 b.val t.val) (fun d => x1 (ix1 d)) k := by
  unfold rms
  simp only [xRow_fin]
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- One entry of the reference's value 13. -/
theorem v13_at (x0 : FVec Ideal S4x4096x1024 .f32) (x1 : FVec Ideal S1024 .f32) (x2 : FVec Ideal S1024x5632 .f32) (b : Fin 4) (t : Fin 4096) (q : Fin 5632) :
    val_main_v13 (F := Ideal) x0 x1 x2 (ix3 b t q) = upRow (xRow x0 b.val t.val) (fun d => x1 (ix1 d)) x2 q := by
  unfold upRow
  simp only [← v12_at]
  pointwise [val_main_v13]

/-- One entry of the reference's value 14. -/
theorem v14_at (x0 : FVec Ideal S4x4096x1024 .f32) (x1 : FVec Ideal S1024 .f32) (x2 : FVec Ideal S1024x5632 .f32) (b : Fin 4) (t : ℕ) (k : ℕ) (hk : k ≤ 2) (ht : t < 4096) (h : t + (2 - k) < 4098) (q : Fin 5632) :
    val_main_v14 (F := Ideal) x0 x1 x2 (ix3 b ⟨t + (2 - k), h⟩ q) = upPos x0 x1 x2 b.val t k q := by
  unfold upPos
  split
  · rename_i hlt
    pointwise [val_main_v14]
    rw [dif_neg (by omega)]
    exact sitofp_zero (φ := .f32)
  · rename_i hge
    refine Eq.trans ?_ (v13_at x0 x1 x2 b ⟨t - k, by omega⟩ q)
    pointwise [val_main_v14]
    rw [dif_pos (by omega)]
    refine congrArg (fun i => val_main_v13 (F := Ideal) x0 x1 x2 (ix3 b i q)) (Fin.ext ?_)
    show t + (2 - k) - 2 = t - k
    omega

/-- One entry of the reference's value 36. -/
theorem v36_at (x0 : FVec Ideal S4x4096x1024 .f32) (x1 : FVec Ideal S1024 .f32) (x2 : FVec Ideal S1024x5632 .f32) (x3 : FVec Ideal S3x5632 .f32) (x4 : FVec Ideal S5632 .f32) (b : Fin 4) (t : Fin 4096) (q : Fin 5632) :
    val_main_v36 (F := Ideal) x0 x1 x2 x3 x4 (ix3 b t q) = convPos x0 x1 x2 x3 x4 b.val t.val q := by
  unfold convPos taps
  have ht := t.isLt
  rw [← v14_at x0 x1 x2 b t.val 2 (by omega) ht (by omega) q, ← v14_at x0 x1 x2 b t.val 1 (by omega) ht (by omega) q,
    show upPos x0 x1 x2 b.val t.val 0 q = val_main_v13 (F := Ideal) x0 x1 x2 (ix3 b t q) from by
      rw [v13_at]; unfold upPos; rw [if_neg (by omega)]; rfl]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15]
  simp only [Nat.add_comm 1]

/-- One entry of the reference's value 40. -/
theorem v40_at (x0 : FVec Ideal S4x4096x1024 .f32) (x1 : FVec Ideal S1024 .f32) (x2 : FVec Ideal S1024x5632 .f32) (x3 : FVec Ideal S3x5632 .f32) (x4 : FVec Ideal S5632 .f32) (b : Fin 4) (t : Fin 4096) (q : Fin 2816) :
    val_main_v40 (F := Ideal) x0 x1 x2 x3 x4 (ix3 b t q) = actPos x0 x1 x2 x3 x4 b.val t.val q := by
  unfold actPos silu
  simp only [← v36_at]
  pointwise [val_main_v40, val_main_v39, val_main_v38, val_main_v37, val_main_call1_v5, val_main_call1_v4, val_main_call1_v3, val_main_call1_v2, val_main_call1_v1, val_main_call1_v0, val_main_call1_cst, val_main_call1_cst_0]

/-- One entry of the reference's value 42. -/
theorem v42_at (x0 : FVec Ideal S4x4096x1024 .f32) (x1 : FVec Ideal S1024 .f32) (x2 : FVec Ideal S1024x5632 .f32) (x3 : FVec Ideal S3x5632 .f32) (x4 : FVec Ideal S5632 .f32) (x5 : FVec Ideal S2816x1024 .f32) (b : Fin 4) (t : Fin 4096) (d : Fin 1024) :
    val_main_v42 (F := Ideal) x0 x1 x2 x3 x4 x5 (ix3 b t d) = sumPos x0 x1 x2 x3 x4 x5 b.val t.val d := by
  unfold sumPos
  simp only [← v40_at]
  rw [xRow_fin]
  pointwise [val_main_v42, val_main_v41]

/-- One entry of the reference's value 55. -/
theorem v55_at (x0 : FVec Ideal S4x4096x1024 .f32) (x1 : FVec Ideal S1024 .f32) (x2 : FVec Ideal S1024x5632 .f32) (x3 : FVec Ideal S3x5632 .f32) (x4 : FVec Ideal S5632 .f32) (x5 : FVec Ideal S2816x1024 .f32) (x6 : FVec Ideal S1024 .f32) (b : Fin 4) (t : Fin 4096) (d : Fin 1024) :
    val_main_v55 (F := Ideal) x0 x1 x2 x3 x4 x5 x6 (ix3 b t d) = ffnPos x0 x1 x2 x3 x4 x5 x6 b.val t.val d := by
  unfold ffnPos rms
  simp only [← v42_at]
  pointwise [val_main_v55, val_main_v54, val_main_v53, val_main_v52, val_main_v51, val_main_v50, val_main_v49, val_main_v48, val_main_v47, val_main_v46, val_main_v45, val_main_v44, val_main_v43, val_main_cst_2, val_main_cst_3, val_main_cst_4]

/-- The reference's result at row `r`: the block at that position. -/
theorem v56_at (x0 : FVec Ideal S4x4096x1024 .f32) (x1 : FVec Ideal S1024 .f32) (x2 : FVec Ideal S1024x5632 .f32) (x3 : FVec Ideal S3x5632 .f32) (x4 : FVec Ideal S5632 .f32) (x5 : FVec Ideal S2816x1024 .f32) (x6 : FVec Ideal S1024 .f32) (r : Fin 16384) (d : Fin 1024) :
    val_main_v56 (F := Ideal) x0 x1 x2 x3 x4 x5 x6 (ix2 r d) = ffnPos x0 x1 x2 x3 x4 x5 x6 (r.val / 4096) (r.val % 4096) d := by
  have hr := r.isLt; have hd := d.isLt
  refine Eq.trans ?_ (v55_at x0 x1 x2 x3 x4 x5 x6 ⟨r.val / 4096, by omega⟩ ⟨r.val % 4096, by omega⟩ d)
  rw [val_main_v56_apply]
  refine congrArg _ (funext fun a => Fin.ext ?_)
  match a with
  | ⟨0, _⟩ => show (r.val * 1024 + d.val) / 4194304 = r.val / 4096; omega
  | ⟨1, _⟩ => show (r.val * 1024 + d.val) / 1024 % 4096 = r.val % 4096; omega
  | ⟨2, _⟩ => show (r.val * 1024 + d.val) % 1024 = d.val; omega

end Cert.Ffn

end
-- ==== Proof.FfnFinal.lean ====
/-
  The array of the last ConvFFN is the reference's.
-/
module

public import proofs.«01_k».proof.Proof.Gen.Kernel2Ideal.Value
public import proofs.«01_k».proof.Proof.FfnPoints
public import proofs.«01_k».proof.Proof.FfnReference

@[expose] public section

set_option maxRecDepth 16384

noncomputable section

namespace Cert.Kernel2Ideal.RefValue

open Cert.Kernel2Ideal Cert.Kernel2Ideal.Gen Idealize.ShloMosaic Idealize.ShloMosaic.TcCoe Idealize.SL.Sem
open Idealize.ShloMosaic.Tactic

open Cert.Ffn
open Cert.Mix (rms rowOf)

section
variable (m : (ℓ : Loc nD τ sig) → Buf (Elt Ideal) ℓ)

/-- The array of the result is the reference's, row by row. -/
theorem G7_eq (c : Dev nD) : Value.G7 (F := Ideal) m c
    = Cert.Reference2Ideal.Read.val_main_v56 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  funext i
  obtain ⟨r, d, rfl⟩ : ∃ (r : Fin 16384) (d : Fin 1024), i = ix2 r d := ⟨i 0, i 1, eq_ix2 i⟩
  have hr := r.isLt; have hd := d.isLt
  have hN : cfg0.N = 16 := N_0
  have hp : Value.pt7Of (ix2 r d) = r.val / 1024 := by
    show 1 * (r.val / 1024 - 0) + 1 * (d.val / 1024 - 0) = r.val / 1024; omega
  have hlt : Value.pt7Of (ix2 r d) < cfg0.N := by rw [hp, hN]; omega
  rw [v56_at]
  unfold Value.G7
  rw [dif_pos hlt, ← Value.outsAt0_sweep m c _ hlt]
  have hl : Value.loc7Of (ix2 r d) = ix2 (⟨r.val % 1024, by omega⟩ : Fin 1024) d := by
    funext a; apply Fin.ext
    match a with
    | ⟨0, _⟩ => rfl
    | ⟨1, _⟩ => show d.val % 1024 = d.val; omega
  rw [hl]
  refine (tile_at m c ⟨Value.pt7Of (ix2 r d), hlt⟩ _ _).trans ?_
  show ffnPos _ _ _ _ _ _ _ (Value.pt7Of (ix2 r d) / 4) (1024 * (Value.pt7Of (ix2 r d) % 4) + r.val % 1024) d = _
  rw [hp, show r.val / 1024 / 4 = r.val / 4096 by omega, show 1024 * (r.val / 1024 % 4) + r.val % 1024 = r.val % 4096 by omega]

end

end Cert.Kernel2Ideal.RefValue

end
-- ==== Proof.First.Value.lean ====
/-
  The arrays that the first layer's ConvFFN leaves, written as what the grid's points leave in their blocks.
-/
module

public import proofs.«01_k».proof.Proof.First.Frame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 4 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 4 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed9, outsAt0_B m c t h0]

/-- The index map sends distinct grid points to distinct block indices (decided over the 16 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16384x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 1), read through the window's block. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 4 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 4 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed10, outsAt0_B m c t h0]

/-- The index map sends distinct grid points to distinct block indices (decided over the 16 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1024x3072.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 2), read through the window's block. -/
theorem flushed11 (c : Dev nD) (t : Fin cfg0.N) :
    (dats m 0 c).flushed 11 t = (cfg0.win 11).cut (grid0.coords t) ((outsAt0 m c t.val t.isLt).2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 4 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  simp only [flushed11, outsAt0_A m c t h0]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 4 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  simp only [flushed11, outsAt0_B m c t h0]

/-- The index map sends distinct grid points to distinct block indices (decided over the 16 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S1024x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v6_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v6_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v6_2) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 9 cfg0.N
      ∧ r.2.mem ((c : Thread nD τ).loc main_v6_1) = (dats m 0 c).arrAt 10 cfg0.N
      ∧ r.2.mem ((c : Thread nD τ).loc main_v6_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_2 (c : Dev nD) (n : ℕ) (hb : n < cfg0.N) (acc : Vec F S16x5632 .f32) : Vec F S16x5632 .f32 :=
  if h0 : n % 4 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N))
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc

/-- WHAT CARRIED SCRATCH 2 HOLDS after point `t`: the fold of its run up to `t`, from the reset at the run's first point
    `4·(t / 4)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2 = Pipeline.accAt (fun n h => scAt0_2 m c n h (VS0_2.read (Elt F) VS0_2.junk)) (scAt0_2 m c) (4 * (t.val / 4)) (t.val % 4)
      (by have h1 := t.isLt; have h2 := Nat.div_add_mod t.val 4; omega) :=
  Pipeline.eq_accAt_of_mod (fun n h => (outsAt0 m c n h).2.2.2) 4 (fun n h => scAt0_2 m c n h (VS0_2.read (Elt F) VS0_2.junk)) (scAt0_2 m c)
    (fun n h hn => by
      have hN := lt_of_lt_of_eq h (show cfg0.N = 16 from N_0)
      by_cases h0 : n % 4 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 16 from N_0)
      by_cases h0 : (n + 1) % 4 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1024x1024 .f32 × Vec F S64x3072 .bf16 × Vec F S64x1024 .bf16 × Vec F S16x5632 .f32 :=
  ((VO0_9.read (Elt F) VO0_9.junk, VO0_10.read (Elt F) VO0_10.junk, VO0_11.read (Elt F) VO0_11.junk, VS0_2.read (Elt F) VS0_2.junk) : Vec F S1024x1024 .f32 × Vec F S64x3072 .bf16 × Vec F S64x1024 .bf16 × Vec F S16x5632 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1024x1024 .f32 × Vec F S64x3072 .bf16 × Vec F S64x1024 .bf16 × Vec F S16x5632 .f32) : Vec F S1024x1024 .f32 × Vec F S64x3072 .bf16 × Vec F S64x1024 .bf16 × Vec F S16x5632 .f32 :=
  if h0 : n % 4 = 0 then
    (out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)), out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)), out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)))
  else
    (out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) acc.2.2.2)

/-- `stAt0` at a point of case A: that case's contents. -/
theorem stAt0_A (c : Dev nD) (t : Fin cfg0.N) (acc : Vec F S1024x1024 .f32 × Vec F S64x3072 .bf16 × Vec F S64x1024 .bf16 × Vec F S16x5632 .f32) (h0 : t.val % 4 = 0) :
    stAt0 m c t.val t.isLt acc = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) :=
  (dif_pos h0).trans rfl

/-- `stAt0` at a point of case B: that case's contents, over `acc`. -/
theorem stAt0_B (c : Dev nD) (t : Fin cfg0.N) (acc : Vec F S1024x1024 .f32 × Vec F S64x3072 .bf16 × Vec F S64x1024 .bf16 × Vec F S16x5632 .f32) (h0 : ¬t.val % 4 = 0) :
    stAt0 m c t.val t.isLt acc = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) acc.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) acc.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) acc.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 9 -/

/-- The block of the array that holds index `i`, numbered in the order the points write the blocks back (one per point),
    `i`'s place in it, and the point that writes it back. -/
abbrev run9Of (i : S16384x1024.Idx) : ℕ := 1 * ((i 0).val / 1024 - 0) + 1 * ((i 1).val / 1024 - 0)
set_option backward.proofsInPublic true in
abbrev loc9Of (i : S16384x1024.Idx) : S1024x1024.Idx := fun a => match a with
  | ⟨0, _⟩ => ⟨(i 0).val % 1024, Nat.mod_lt _ (by decide)⟩
  | ⟨1, _⟩ => ⟨(i 1).val % 1024, Nat.mod_lt _ (by decide)⟩
abbrev pt9Of (i : S16384x1024.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v6_0) := fun i =>
  if h : pt9Of i < cfg0.N then
    (Pipeline.accAt (fun n h => stAt0 m c n h junk0) (stAt0 m c) 0 (pt9Of i) (by omega)).1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 2) ∧ win0_9.index t (0 : Fin 2) ≤ 15
    ∧ 0 ≤ win0_9.index t (1 : Fin 2) ∧ win0_9.index t (1 : Fin 2) ≤ 0
    ∧ 1 * (win0_9.index t (0 : Fin 2) - 0) + 1 * (win0_9.index t (1 : Fin 2) - 0) = t.val :=
  (by decide +kernel : ∀ t : Fin grid0.N, _)

/-- Every block of the box is SOME flushing point's: `onto9Pt`, the point that writes back the block at place `q` of the box. -/
abbrev onto9Pt (q0 : Fin 16) (q1 : Fin 1) : Fin grid0.N :=
  ⟨1 * q0.val + 1 * q1.val, lt_of_lt_of_eq (by omega) N_0.symm⟩
theorem idx_onto9 : ∀ (q0 : Fin 16) (q1 : Fin 1), ∃ t : Fin cfg0.N, (cfg0.win 9).flush t = true ∧ win0_9.index t = ![q0.val + 0, q1.val + 0] :=
  fun q0 q1 => ⟨onto9Pt q0 q1, (by decide +kernel : ∀ (q0 : Fin 16) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2⟩ := idx_facts9 t
  funext y
  have hy0 : (y 0).val < 1024 := (y 0).isLt
  have hy1 : (y 1).val < 1024 := (y 1).isLt
  have hb0 : (((cfg0.win 9).blk t).view.emb y 0).val = win0_9.index t (0 : Fin 2) * 1024 + 1 * (y 0).val := rfl
  have hb1 : (((cfg0.win 9).blk t).view.emb y 1).val = win0_9.index t (1 : Fin 2) * 1024 + 1 * (y 1).val := rfl
  have hr : run9Of (((cfg0.win 9).blk t).view.emb y) = t.val := by
    show 1 * ((((cfg0.win 9).blk t).view.emb y 0).val / 1024 - 0) + 1 * ((((cfg0.win 9).blk t).view.emb y 1).val / 1024 - 0) = _
    rw [hb0, hb1]
    rw [show (win0_9.index t (0 : Fin 2) * 1024 + 1 * (y 0).val) / 1024 = win0_9.index t (0 : Fin 2) from by omega]; rw [show (win0_9.index t (1 : Fin 2) * 1024 + 1 * (y 1).val) / 1024 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1024 = (y 0).val; rw [hb0]; omega
    | ⟨1, _⟩ => show (((cfg0.win 9).blk t).view.emb y 1).val % 1024 = (y 1).val; rw [hb1]; omega
  have hp : pt9Of (((cfg0.win 9).blk t).view.emb y) = t.val := by
    exact hr
  show (Pipeline.accAt (fun n h => stAt0 m c n h junk0) (stAt0 m c) 0 t.val _).1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S16384x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v6_0).slice (win0_9.rect t)).set ↔ _
  rw [View.set_slice_whole, Rect.mem_set_unit]
  exact Iff.rfl

/-- THE COVERED INDICES: in some flushing point's block iff inside the box those blocks fill. -/
theorem covered_iff9 (i : S16384x1024.Idx) :
    (∃ t : Fin cfg0.N, (cfg0.win 9).flush t = true ∧ i ∈ ((cfg0.win 9).blk t).view.set) ↔ 0 ≤ (i 0).val ∧ (i 0).val < 16384 ∧ 0 ≤ (i 1).val ∧ (i 1).val < 1024 := by
  constructor
  · rintro ⟨t, -, hi⟩
    rw [mem_blk9] at hi
    have b0 : win0_9.index t (0 : Fin 2) * 1024 ≤ (i 0).val ∧ (i 0).val < win0_9.index t (0 : Fin 2) * 1024 + 1024 := hi 0
    have b1 : win0_9.index t (1 : Fin 2) * 1024 ≤ (i 1).val ∧ (i 1).val < win0_9.index t (1 : Fin 2) * 1024 + 1024 := hi 1
    obtain ⟨e0, e1, e2⟩ := idx_facts9 t
    omega
  · intro h
    have hi0 : (i 0).val < 16384 := (i 0).isLt
    have hi1 : (i 1).val < 1024 := (i 1).isLt
    obtain ⟨t, hft, ht⟩ := idx_onto9 ⟨(i 0).val / 1024 - 0, by omega⟩ ⟨(i 1).val / 1024 - 0, by omega⟩
    have q0 : win0_9.index t (0 : Fin 2) = (i 0).val / 1024 - 0 + 0 := congrFun ht 0
    have q1 : win0_9.index t (1 : Fin 2) = (i 1).val / 1024 - 0 + 0 := congrFun ht 1
    refine ⟨t, hft, ?_⟩
    rw [mem_blk9]
    intro a
    match a with
    | ⟨0, _⟩ => show win0_9.index t (0 : Fin 2) * 1024 ≤ (i 0).val ∧ (i 0).val < win0_9.index t (0 : Fin 2) * 1024 + 1024; omega
    | ⟨1, _⟩ => show win0_9.index t (1 : Fin 2) * 1024 ≤ (i 1).val ∧ (i 1).val < win0_9.index t (1 : Fin 2) * 1024 + 1024; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 16384 := (i 0).isLt; have h1 : (i 1).val < 1024 := (i 1).isLt; omega))

/-! ## Output window 10 -/

/-- The block of the array that holds index `i`, numbered in the order the points write the blocks back (one per point),
    `i`'s place in it, and the point that writes it back. -/
abbrev run10Of (i : S1024x3072.Idx) : ℕ := 1 * ((i 0).val / 64 - 0) + 1 * ((i 1).val / 3072 - 0)
set_option backward.proofsInPublic true in
abbrev loc10Of (i : S1024x3072.Idx) : S64x3072.Idx := fun a => match a with
  | ⟨0, _⟩ => ⟨(i 0).val % 64, Nat.mod_lt _ (by decide)⟩
  | ⟨1, _⟩ => ⟨(i 1).val % 3072, Nat.mod_lt _ (by decide)⟩
abbrev pt10Of (i : S1024x3072.Idx) : ℕ := run10Of i

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v6_1) := fun i =>
  if h : pt10Of i < cfg0.N then
    (Pipeline.accAt (fun n h => stAt0 m c n h junk0) (stAt0 m c) 0 (pt10Of i) (by omega)).2.1 (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 2) ∧ win0_10.index t (0 : Fin 2) ≤ 15
    ∧ 0 ≤ win0_10.index t (1 : Fin 2) ∧ win0_10.index t (1 : Fin 2) ≤ 0
    ∧ 1 * (win0_10.index t (0 : Fin 2) - 0) + 1 * (win0_10.index t (1 : Fin 2) - 0) = t.val :=
  (by decide +kernel : ∀ t : Fin grid0.N, _)

/-- Every block of the box is SOME flushing point's: `onto10Pt`, the point that writes back the block at place `q` of the box. -/
abbrev onto10Pt (q0 : Fin 16) (q1 : Fin 1) : Fin grid0.N :=
  ⟨1 * q0.val + 1 * q1.val, lt_of_lt_of_eq (by omega) N_0.symm⟩
theorem idx_onto10 : ∀ (q0 : Fin 16) (q1 : Fin 1), ∃ t : Fin cfg0.N, (cfg0.win 10).flush t = true ∧ win0_10.index t = ![q0.val + 0, q1.val + 0] :=
  fun q0 q1 => ⟨onto10Pt q0 q1, (by decide +kernel : ∀ (q0 : Fin 16) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  obtain ⟨e0, e1, e2⟩ := idx_facts10 t
  funext y
  have hy0 : (y 0).val < 64 := (y 0).isLt
  have hy1 : (y 1).val < 3072 := (y 1).isLt
  have hb0 : (((cfg0.win 10).blk t).view.emb y 0).val = win0_10.index t (0 : Fin 2) * 64 + 1 * (y 0).val := rfl
  have hb1 : (((cfg0.win 10).blk t).view.emb y 1).val = win0_10.index t (1 : Fin 2) * 3072 + 1 * (y 1).val := rfl
  have hr : run10Of (((cfg0.win 10).blk t).view.emb y) = t.val := by
    show 1 * ((((cfg0.win 10).blk t).view.emb y 0).val / 64 - 0) + 1 * ((((cfg0.win 10).blk t).view.emb y 1).val / 3072 - 0) = _
    rw [hb0, hb1]
    rw [show (win0_10.index t (0 : Fin 2) * 64 + 1 * (y 0).val) / 64 = win0_10.index t (0 : Fin 2) from by omega]; rw [show (win0_10.index t (1 : Fin 2) * 3072 + 1 * (y 1).val) / 3072 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 64 = (y 0).val; rw [hb0]; omega
    | ⟨1, _⟩ => show (((cfg0.win 10).blk t).view.emb y 1).val % 3072 = (y 1).val; rw [hb1]; omega
  have hp : pt10Of (((cfg0.win 10).blk t).view.emb y) = t.val := by
    exact hr
  show (Pipeline.accAt (fun n h => stAt0 m c n h junk0) (stAt0 m c) 0 t.val _).2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S1024x3072.Idx) :
    i ∈ ((cfg0.win 10).blk t).view.set ↔ ∀ a : Fin 2, win0_10.index t a * S64x3072.size a ≤ (i a).val ∧ (i a).val < win0_10.index t a * S64x3072.size a + S64x3072.size a := by
  show i ∈ ((View.whole main_v6_1).slice (win0_10.rect t)).set ↔ _
  rw [View.set_slice_whole, Rect.mem_set_unit]
  exact Iff.rfl

/-- THE COVERED INDICES: in some flushing point's block iff inside the box those blocks fill. -/
theorem covered_iff10 (i : S1024x3072.Idx) :
    (∃ t : Fin cfg0.N, (cfg0.win 10).flush t = true ∧ i ∈ ((cfg0.win 10).blk t).view.set) ↔ 0 ≤ (i 0).val ∧ (i 0).val < 1024 ∧ 0 ≤ (i 1).val ∧ (i 1).val < 3072 := by
  constructor
  · rintro ⟨t, -, hi⟩
    rw [mem_blk10] at hi
    have b0 : win0_10.index t (0 : Fin 2) * 64 ≤ (i 0).val ∧ (i 0).val < win0_10.index t (0 : Fin 2) * 64 + 64 := hi 0
    have b1 : win0_10.index t (1 : Fin 2) * 3072 ≤ (i 1).val ∧ (i 1).val < win0_10.index t (1 : Fin 2) * 3072 + 3072 := hi 1
    obtain ⟨e0, e1, e2⟩ := idx_facts10 t
    omega
  · intro h
    have hi0 : (i 0).val < 1024 := (i 0).isLt
    have hi1 : (i 1).val < 3072 := (i 1).isLt
    obtain ⟨t, hft, ht⟩ := idx_onto10 ⟨(i 0).val / 64 - 0, by omega⟩ ⟨(i 1).val / 3072 - 0, by omega⟩
    have q0 : win0_10.index t (0 : Fin 2) = (i 0).val / 64 - 0 + 0 := congrFun ht 0
    have q1 : win0_10.index t (1 : Fin 2) = (i 1).val / 3072 - 0 + 0 := congrFun ht 1
    refine ⟨t, hft, ?_⟩
    rw [mem_blk10]
    intro a
    match a with
    | ⟨0, _⟩ => show win0_10.index t (0 : Fin 2) * 64 ≤ (i 0).val ∧ (i 0).val < win0_10.index t (0 : Fin 2) * 64 + 64; omega
    | ⟨1, _⟩ => show win0_10.index t (1 : Fin 2) * 3072 ≤ (i 1).val ∧ (i 1).val < win0_10.index t (1 : Fin 2) * 3072 + 3072; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 1024 := (i 0).isLt; have h1 : (i 1).val < 3072 := (i 1).isLt; omega))

/-! ## Output window 11 -/

/-- The block of the array that holds index `i`, numbered in the order the points write the blocks back (one per point),
    `i`'s place in it, and the point that writes it back. -/
abbrev run11Of (i : S1024x1024.Idx) : ℕ := 1 * ((i 0).val / 64 - 0) + 1 * ((i 1).val / 1024 - 0)
set_option backward.proofsInPublic true in
abbrev loc11Of (i : S1024x1024.Idx) : S64x1024.Idx := fun a => match a with
  | ⟨0, _⟩ => ⟨(i 0).val % 64, Nat.mod_lt _ (by decide)⟩
  | ⟨1, _⟩ => ⟨(i 1).val % 1024, Nat.mod_lt _ (by decide)⟩
abbrev pt11Of (i : S1024x1024.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v6_2) := fun i =>
  if h : pt11Of i < cfg0.N then
    (Pipeline.accAt (fun n h => stAt0 m c n h junk0) (stAt0 m c) 0 (pt11Of i) (by omega)).2.2.1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 2) ∧ win0_11.index t (0 : Fin 2) ≤ 15
    ∧ 0 ≤ win0_11.index t (1 : Fin 2) ∧ win0_11.index t (1 : Fin 2) ≤ 0
    ∧ 1 * (win0_11.index t (0 : Fin 2) - 0) + 1 * (win0_11.index t (1 : Fin 2) - 0) = t.val :=
  (by decide +kernel : ∀ t : Fin grid0.N, _)

/-- Every block of the box is SOME flushing point's: `onto11Pt`, the point that writes back the block at place `q` of the box. -/
abbrev onto11Pt (q0 : Fin 16) (q1 : Fin 1) : Fin grid0.N :=
  ⟨1 * q0.val + 1 * q1.val, lt_of_lt_of_eq (by omega) N_0.symm⟩
theorem idx_onto11 : ∀ (q0 : Fin 16) (q1 : Fin 1), ∃ t : Fin cfg0.N, (cfg0.win 11).flush t = true ∧ win0_11.index t = ![q0.val + 0, q1.val + 0] :=
  fun q0 q1 => ⟨onto11Pt q0 q1, (by decide +kernel : ∀ (q0 : Fin 16) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2⟩ := idx_facts11 t
  funext y
  have hy0 : (y 0).val < 64 := (y 0).isLt
  have hy1 : (y 1).val < 1024 := (y 1).isLt
  have hb0 : (((cfg0.win 11).blk t).view.emb y 0).val = win0_11.index t (0 : Fin 2) * 64 + 1 * (y 0).val := rfl
  have hb1 : (((cfg0.win 11).blk t).view.emb y 1).val = win0_11.index t (1 : Fin 2) * 1024 + 1 * (y 1).val := rfl
  have hr : run11Of (((cfg0.win 11).blk t).view.emb y) = t.val := by
    show 1 * ((((cfg0.win 11).blk t).view.emb y 0).val / 64 - 0) + 1 * ((((cfg0.win 11).blk t).view.emb y 1).val / 1024 - 0) = _
    rw [hb0, hb1]
    rw [show (win0_11.index t (0 : Fin 2) * 64 + 1 * (y 0).val) / 64 = win0_11.index t (0 : Fin 2) from by omega]; rw [show (win0_11.index t (1 : Fin 2) * 1024 + 1 * (y 1).val) / 1024 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 64 = (y 0).val; rw [hb0]; omega
    | ⟨1, _⟩ => show (((cfg0.win 11).blk t).view.emb y 1).val % 1024 = (y 1).val; rw [hb1]; omega
  have hp : pt11Of (((cfg0.win 11).blk t).view.emb y) = t.val := by
    exact hr
  show (Pipeline.accAt (fun n h => stAt0 m c n h junk0) (stAt0 m c) 0 t.val _).2.2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S1024x1024.Idx) :
    i ∈ ((cfg0.win 11).blk t).view.set ↔ ∀ a : Fin 2, win0_11.index t a * S64x1024.size a ≤ (i a).val ∧ (i a).val < win0_11.index t a * S64x1024.size a + S64x1024.size a := by
  show i ∈ ((View.whole main_v6_2).slice (win0_11.rect t)).set ↔ _
  rw [View.set_slice_whole, Rect.mem_set_unit]
  exact Iff.rfl

/-- THE COVERED INDICES: in some flushing point's block iff inside the box those blocks fill. -/
theorem covered_iff11 (i : S1024x1024.Idx) :
    (∃ t : Fin cfg0.N, (cfg0.win 11).flush t = true ∧ i ∈ ((cfg0.win 11).blk t).view.set) ↔ 0 ≤ (i 0).val ∧ (i 0).val < 1024 ∧ 0 ≤ (i 1).val ∧ (i 1).val < 1024 := by
  constructor
  · rintro ⟨t, -, hi⟩
    rw [mem_blk11] at hi
    have b0 : win0_11.index t (0 : Fin 2) * 64 ≤ (i 0).val ∧ (i 0).val < win0_11.index t (0 : Fin 2) * 64 + 64 := hi 0
    have b1 : win0_11.index t (1 : Fin 2) * 1024 ≤ (i 1).val ∧ (i 1).val < win0_11.index t (1 : Fin 2) * 1024 + 1024 := hi 1
    obtain ⟨e0, e1, e2⟩ := idx_facts11 t
    omega
  · intro h
    have hi0 : (i 0).val < 1024 := (i 0).isLt
    have hi1 : (i 1).val < 1024 := (i 1).isLt
    obtain ⟨t, hft, ht⟩ := idx_onto11 ⟨(i 0).val / 64 - 0, by omega⟩ ⟨(i 1).val / 1024 - 0, by omega⟩
    have q0 : win0_11.index t (0 : Fin 2) = (i 0).val / 64 - 0 + 0 := congrFun ht 0
    have q1 : win0_11.index t (1 : Fin 2) = (i 1).val / 1024 - 0 + 0 := congrFun ht 1
    refine ⟨t, hft, ?_⟩
    rw [mem_blk11]
    intro a
    match a with
    | ⟨0, _⟩ => show win0_11.index t (0 : Fin 2) * 64 ≤ (i 0).val ∧ (i 0).val < win0_11.index t (0 : Fin 2) * 64 + 64; omega
    | ⟨1, _⟩ => show win0_11.index t (1 : Fin 2) * 1024 ≤ (i 1).val ∧ (i 1).val < win0_11.index t (1 : Fin 2) * 1024 + 1024; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 1024 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v6_0) = G9 m c
      ∧ r.2.mem ((c : Thread nD τ).loc main_v6_1) = G10 m c
      ∧ r.2.mem ((c : Thread nD τ).loc main_v6_2) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel4Ideal.Value

end
-- ==== Proof.FirstSlab.lean ====
/-
  The slab through which a tile of the first ConvFFN's call goes from position order into run order.
-/
module

public import proofs.«01_k».proof.Proof.Gen.Kernel4Ideal
public import Idealize.ShloMosaic.Lib.Pointwise
public import Idealize.ShloMosaic.Lib.Pipeline.StridedRows

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

/-- A store into the slab. -/
abbrev SlabPiece := View.Piece (Elt Ideal) S8x1088x128 .f32
/-- A store into the tile in run order. -/
abbrev RunPiece := View.Piece (Elt Ideal) S1024x1024 .f32

/-- A run of 128 rows fits the slab's pitch of 136. -/
theorem h136 : 128 ≤ 136 := by decide

/-- A tile of positions in run order: row `8 j + s` is position `128 s + j`. -/
def runT (X : FVec Ideal S1024x1024 .f32) (y : S1024x1024.Idx) : Elt Ideal .f32 :=
  X (ix2 ⟨128 * ((y 0).val % 8) + (y 0).val / 8, by have := (y 0).isLt; change (y 0).val < 1024 at this; omega⟩ (y 1))

/-- What the slab holds of a tile `X` of positions: run `s` from row `136 s` on, a plane for each column block. -/
def planeT (X : FVec Ideal S1024x1024 .f32) (y : S8x1088x128.Idx) : Elt Ideal .f32 :=
  X (ix2 ⟨(128 * ((y 1).val / 136) + (y 1).val % 136) % 1024, Nat.mod_lt _ (by decide)⟩
    ⟨128 * (y 0).val + (y 2).val, by
      have h0 := (y 0).isLt; have h2 := (y 2).isLt; change (y 0).val < 8 at h0; change (y 2).val < 128 at h2; omega⟩)

/-- A square as the slab's store takes it. -/
def tileSquare (w : FVec Ideal S128x128 .f32) : FVec Ideal S1x128x128 .f32 :=
  shapeCast S1x128x128 (shapeCast S128x128 w shapeCasts_S128x128_S128x128) shapeCasts_S128x128_S1x128x128

/-- Storing a square does not move its entries. -/
theorem tileSquare_apply (w : FVec Ideal S128x128 .f32) (a b : Fin 128) : tileSquare w (ix3 0 a b) = w (ix2 a b) := by
  pointwise [tileSquare]

/-- Eight rows as the run order's store takes them. -/
def runRows (w : FVec Ideal S1x8x128 .f32) : FVec Ideal S8x128 .f32 :=
  shapeCast S8x128 (shapeCast S8x128 w shapeCasts_S1x8x128_S8x128) shapeCasts_S8x128_S8x128

/-- Storing eight rows does not move their entries. -/
theorem runRows_apply (w : FVec Ideal S1x8x128 .f32) (a : Fin 8) (b : Fin 128) : runRows w (ix2 a b) = w (ix3 0 a b) := by
  pointwise [runRows]

/-- The square of run `s`, column block `k` of a tile. -/
def IsSquare (X : FVec Ideal S1024x1024 .f32) (k s : ℕ) (hk : k < 8) (hs : s < 8) (w : FVec Ideal S128x128 .f32) : Prop :=
  ∀ a b : Fin 128, w (ix2 a b) = X (ix2 ⟨128 * s + a.val, by omega⟩ ⟨128 * k + b.val, by omega⟩)

/-- The slab's stores of column block `k` up to run `n`, newest first, over the stores before. -/
inductive SlabTiles (X : FVec Ideal S1024x1024 .f32) (k : ℕ) (hk : k < 8) (L0 : List SlabPiece) : ℕ → List SlabPiece → Prop
  | nil : SlabTiles X k hk L0 0 L0
  | cons (n : ℕ) (p : SlabPiece) (w : FVec Ideal S128x128 .f32) (L : List SlabPiece) (hn : n < 8)
      (hp : p = ⟨StridedRows.tileRect (C := 8) (N := 8) (L := 128) h136 ⟨k, hk⟩ ⟨n, hn⟩, tileSquare w⟩)
      (hw : IsSquare X k n hk hn w)
      (hL : SlabTiles X k hk L0 n L) : SlabTiles X k hk L0 (n + 1) (p :: L)

/-- Every store of the list is of the tile. -/
def AllTiles (X : FVec Ideal S1024x1024 .f32) (L : List SlabPiece) : Prop :=
  ∀ p ∈ L, ∀ x : p.1.shape.Idx, p.2 x = planeT X (p.1.emb x)

/-- The list stores run `s` of column block `c`. -/
def HasTile (L : List SlabPiece) (c s : Fin 8) : Prop :=
  ∃ w, (⟨StridedRows.tileRect (C := 8) (N := 8) (L := 128) h136 c s, w⟩ : SlabPiece) ∈ L

/-- What one store of a square writes is the slab's contents at its place. -/
theorem tile_payload (X : FVec Ideal S1024x1024 .f32) (k s : ℕ) (hk : k < 8) (hs : s < 8) (w : FVec Ideal S128x128 .f32) (hw : IsSquare X k s hk hs w)
    (x : S1x128x128.Idx) : tileSquare w x = planeT X ((StridedRows.tileRect (C := 8) (N := 8) (L := 128) h136 ⟨k, hk⟩ ⟨s, hs⟩).emb x) := by
  have hx : x = ix3 0 (x 1) (x 2) := by
    funext a
    match a with
    | ⟨0, _⟩ => exact Fin.ext (by have := (x 0).isLt; change (x 0).val < 1 at this; show (x 0).val = 0; omega)
    | ⟨1, _⟩ => rfl
    | ⟨2, _⟩ => rfl
  have h0 : (x 0).val < 1 := (x 0).isLt
  have h1 : (x 1).val < 128 := (x 1).isLt
  refine (congrArg (tileSquare w) hx).trans ((tileSquare_apply w (x 1) (x 2)).trans ((hw (x 1) (x 2)).trans ?_))
  unfold planeT
  refine congrArg X (funext fun a => Fin.ext ?_)
  match a with
  | ⟨0, _⟩ =>
    show 128 * s + (x 1).val = (128 * ((s * 136 + 1 * (x 1).val) / 136) + (s * 136 + 1 * (x 1).val) % 136) % 1024
    omega
  | ⟨1, _⟩ => show 128 * k + (x 2).val = 128 * (k + 1 * (x 0).val) + (0 + 1 * (x 2).val); omega

/-- After the stores of a column block the slab holds the tile there. -/
theorem SlabTiles.sound {X : FVec Ideal S1024x1024 .f32} {k : ℕ} {hk : k < 8} {L0 L : List SlabPiece} {n : ℕ} (h : SlabTiles X k hk L0 n L)
    (h0 : AllTiles X L0) : AllTiles X L ∧ ∀ s : Fin 8, s.val < n → HasTile L ⟨k, hk⟩ s := by
  induction h with
  | nil => exact ⟨h0, fun r hr => absurd hr (Nat.not_lt_zero _)⟩
  | cons n p w L hn hp hw hL ih =>
    obtain ⟨i1, i3⟩ := ih
    refine ⟨?_, fun s hs => ?_⟩
    · intro q hq
      rcases List.mem_cons.1 hq with rfl | hq
      · rw [hp]; exact fun x => tile_payload X k n hk hn w hw x
      · exact i1 q hq
    · by_cases hsn : s.val < n
      · obtain ⟨w, hw⟩ := i3 s hsn
        exact ⟨w, List.mem_cons_of_mem _ hw⟩
      · have e : s = ⟨n, hn⟩ := Fin.ext (by show s.val = n; omega)
        subst e
        exact ⟨_, List.mem_cons.2 (Or.inl hp.symm)⟩

/-- The rows of place `j`, column block `k` lie in the tile. -/
theorem run_inb (j k : ℕ) (hj : j < 128) (hk : k < 8) : ∀ a : Fin S1024x1024.rank, (![8 * j, 128 * k] : Fin 2 → ℕ) a + (![8, 128] : Fin 2 → ℕ) a ≤ S1024x1024.size a := fun a => by
  match a with
  | ⟨0, _⟩ => show 8 * j + 8 ≤ 1024; omega
  | ⟨1, _⟩ => show 128 * k + 128 ≤ 1024; omega

/-- The store of place `j`, column block `k`: eight rows, one of each run, read out of the slab. -/
def runPiece (v : View sig .tc .vmem S8x1088x128 .f32) (k : ℕ) (hk : k < 8) (j : ℕ) (hj : j < 128) (Ls : List SlabPiece) : RunPiece :=
  ⟨Rect.unit (s := S1024x1024) ![8 * j, 128 * k] ![8, 128] (run_inb j k hj hk),
    runRows (v.readCov Ls (StridedRows.rowRect (C := 8) (N := 8) (L := 128) h136 ⟨k, hk⟩ ⟨j, hj⟩).toLoadRect)⟩

/-- The run order's stores of column block `k` up to place `n`, newest first, over the stores before. -/
inductive RunRows (v : View sig .tc .vmem S8x1088x128 .f32) (k : ℕ) (hk : k < 8) (Ls : List SlabPiece) (L0 : List RunPiece) : ℕ → List RunPiece → Prop
  | nil : RunRows v k hk Ls L0 0 L0
  | cons (n : ℕ) (p : RunPiece) (L : List RunPiece) (hn : n < 128) (hp : p = runPiece v k hk n hn Ls)
      (hL : RunRows v k hk Ls L0 n L) : RunRows v k hk Ls L0 (n + 1) (p :: L)

/-- The stores of the first `k` column blocks into the run order, with the slab's stores made by then. -/
inductive InCols (v : View sig .tc .vmem S8x1088x128 .f32) (X : FVec Ideal S1024x1024 .f32) : ℕ → List RunPiece → List SlabPiece → Prop
  | nil : InCols v X 0 [] []
  | col (k : ℕ) (hk : k < 8) (L L0 : List RunPiece) (Ls Ls0 : List SlabPiece)
      (hR : RunRows v k hk Ls L0 128 L) (hS : SlabTiles X k hk Ls0 8 Ls) (hL : InCols v X k L0 Ls0) : InCols v X (k + 1) L Ls

/-- What a store into the run order writes. -/
theorem runPiece_apply (v : View sig .tc .vmem S8x1088x128 .f32) (X : FVec Ideal S1024x1024 .f32) (k : ℕ) (hk : k < 8) (j : ℕ) (hj : j < 128) (Ls : List SlabPiece)
    (hA : AllTiles X Ls) (hH : ∀ s, HasTile Ls ⟨k, hk⟩ s) (x : (runPiece v k hk j hj Ls).1.shape.Idx) :
    (runPiece v k hk j hj Ls).2 x = runT X ((runPiece v k hk j hj Ls).1.emb x) := by
  have h0 : (x 0).val < 8 := (x 0).isLt
  have h1 : (x 1).val < 128 := (x 1).isLt
  have hx : x = ix2 (x 0) (x 1) := by
    funext a
    match a with
    | ⟨0, _⟩ => rfl
    | ⟨1, _⟩ => rfl
  have hr : v.readCov Ls (StridedRows.rowRect (C := 8) (N := 8) (L := 128) h136 ⟨k, hk⟩ ⟨j, hj⟩).toLoadRect (ix3 0 ⟨(x 0).val, h0⟩ ⟨(x 1).val, h1⟩)
      = planeT X ((StridedRows.rowRect (C := 8) (N := 8) (L := 128) h136 ⟨k, hk⟩ ⟨j, hj⟩).idx (ix3 0 ⟨(x 0).val, h0⟩ ⟨(x 1).val, h1⟩)) := by
    rw [View.readCov_eq_canon']
    refine View.canon_apply_of_pieces (planeT X) Ls hA _ ?_
    obtain ⟨w, hw⟩ := hH ⟨(x 0).val, h0⟩
    refine ⟨_, hw, ?_⟩
    rw [LoadRect.mem_set]
    intro a
    match a with
    | ⟨0, _⟩ => exact ⟨0, Nat.one_pos, show k + 1 * 0 = k + 1 * 0 from rfl⟩
    | ⟨1, _⟩ => exact ⟨j, hj, show j + 136 * (x 0).val = (x 0).val * 136 + 1 * j by omega⟩
    | ⟨2, _⟩ => exact ⟨(x 1).val, h1, show 0 + 1 * (x 1).val = 0 + 1 * (x 1).val from rfl⟩
  refine (congrArg (runPiece v k hk j hj Ls).2 hx).trans ((runRows_apply _ ⟨(x 0).val, h0⟩ ⟨(x 1).val, h1⟩).trans (hr.trans ?_))
  unfold planeT runT
  refine congrArg X (funext fun a => Fin.ext ?_)
  match a with
  | ⟨0, _⟩ =>
    show (128 * ((j + 136 * (x 0).val) / 136) + (j + 136 * (x 0).val) % 136) % 1024 = 128 * ((8 * j + 1 * (x 0).val) % 8) + (8 * j + 1 * (x 0).val) / 8
    have e1 : (j + 136 * (x 0).val) / 136 = (x 0).val := by omega
    have e2 : (j + 136 * (x 0).val) % 136 = j := by omega
    have e3 : (8 * j + 1 * (x 0).val) % 8 = (x 0).val := by omega
    have e4 : (8 * j + 1 * (x 0).val) / 8 = j := by omega
    rw [e1, e2, e3, e4]
    exact Nat.mod_eq_of_lt (by omega)
  | ⟨1, _⟩ => show 128 * (k + 1 * 0) + (0 + 1 * (x 1).val) = 128 * k + 1 * (x 1).val; omega

/-- After the stores of a column block the run order is right there. -/
theorem RunRows.sound {v : View sig .tc .vmem S8x1088x128 .f32} {X : FVec Ideal S1024x1024 .f32} {k : ℕ} {hk : k < 8} {Ls : List SlabPiece} {L0 L : List RunPiece} {n : ℕ}
    (h : RunRows v k hk Ls L0 n L) (hA : AllTiles X Ls) (hH : ∀ s, HasTile Ls ⟨k, hk⟩ s)
    (h0 : ∀ p ∈ L0, ∀ x : p.1.shape.Idx, p.2 x = runT X (p.1.emb x)) :
    (∀ p ∈ L, ∀ x : p.1.shape.Idx, p.2 x = runT X (p.1.emb x)) ∧ (∀ p ∈ L0, p ∈ L) ∧ ∀ j (hj : j < 128), j < n → runPiece v k hk j hj Ls ∈ L := by
  induction h with
  | nil => exact ⟨h0, fun p hp => hp, fun r _ hr => absurd hr (Nat.not_lt_zero _)⟩
  | cons n p L hn hp hL ih =>
    obtain ⟨i1, i2, i3⟩ := ih
    refine ⟨?_, fun p hp => List.mem_cons_of_mem _ (i2 p hp), fun j hj hjn => ?_⟩
    · intro q hq
      rcases List.mem_cons.1 hq with rfl | hq
      · rw [hp]; exact fun x => runPiece_apply v X k hk n hn Ls hA hH x
      · exact i1 q hq
    · by_cases hlt : j < n
      · exact List.mem_cons_of_mem _ (i3 j hj hlt)
      · have e : j = n := by omega
        subst e
        exact List.mem_cons.2 (Or.inl hp.symm)

/-- Which entries a store into the run order writes. -/
theorem runPiece_mem (v : View sig .tc .vmem S8x1088x128 .f32) (k : ℕ) (hk : k < 8) (j : ℕ) (hj : j < 128) (Ls : List SlabPiece) (r d : Fin 1024)
    (hr : r.val / 8 = j) (hd : d.val / 128 = k) : ix2 r d ∈ (runPiece v k hk j hj Ls).1.set := by
  refine (Rect.mem_set_unit (s := S1024x1024) (inb := run_inb j k hj hk)).mpr fun a => ?_
  match a with
  | ⟨0, _⟩ => exact ⟨show 8 * j ≤ r.val by omega, show r.val < 8 * j + 8 by omega⟩
  | ⟨1, _⟩ => exact ⟨show 128 * k ≤ d.val by omega, show d.val < 128 * k + 128 by omega⟩

/-- The stores of the column blocks write the tile in run order. -/
theorem InCols.sound {v : View sig .tc .vmem S8x1088x128 .f32} {X : FVec Ideal S1024x1024 .f32} {k : ℕ} {L : List RunPiece} {Ls : List SlabPiece}
    (h : InCols v X k L Ls) : AllTiles X Ls ∧ (∀ p ∈ L, ∀ x : p.1.shape.Idx, p.2 x = runT X (p.1.emb x))
      ∧ ∀ r d : Fin 1024, d.val / 128 < k → ∃ p ∈ L, ix2 r d ∈ p.1.set := by
  induction h with
  | nil => exact ⟨fun p hp => absurd hp List.not_mem_nil, fun p hp => absurd hp List.not_mem_nil, fun r d h => absurd h (Nat.not_lt_zero _)⟩
  | col k hk L L0 Ls Ls0 hR hS hL ih =>
    obtain ⟨i1, i2, i3⟩ := ih
    obtain ⟨j1, j3⟩ := hS.sound i1
    obtain ⟨r1, r2, r3⟩ := hR.sound (X := X) j1 (fun s => j3 s s.isLt) i2
    refine ⟨j1, r1, fun r d hd => ?_⟩
    by_cases hdk : d.val / 128 < k
    · obtain ⟨p, hp, hm⟩ := i3 r d hdk
      exact ⟨p, r2 p hp, hm⟩
    · exact ⟨_, r3 (r.val / 8) (by omega) (by omega), runPiece_mem v k hk _ _ Ls r d rfl (by omega)⟩

/-- The tile read back is the tile in run order. -/
theorem InCols.read {v : View sig .tc .vmem S8x1088x128 .f32} {X : FVec Ideal S1024x1024 .f32} {L : List RunPiece} {Ls : List SlabPiece}
    (h : InCols v X 8 L Ls) (w : View sig .tc .vmem S1024x1024 .f32) (inb) :
    w.readCov L (Rect.unit (s := S1024x1024) ![0, 0] ![1024, 1024] inb).toLoadRect = runT X := by
  obtain ⟨-, h2, h3⟩ := h.sound
  rw [View.readCov_eq_canon']
  funext x
  have e : (Rect.unit (s := S1024x1024) ![0, 0] ![1024, 1024] inb).idx x = ix2 (x 0) (x 1) := by
    funext a
    refine Fin.ext ?_
    match a with
    | ⟨0, _⟩ => show 0 + 1 * (x 0).val = (x 0).val; omega
    | ⟨1, _⟩ => show 0 + 1 * (x 1).val = (x 1).val; omega
  have hx : x = ix2 (x 0) (x 1) := by
    funext a
    match a with
    | ⟨0, _⟩ => rfl
    | ⟨1, _⟩ => rfl
  show View.canon L ((Rect.unit (s := S1024x1024) ![0, 0] ![1024, 1024] inb).idx x) = _
  rw [e]
  refine (View.canon_apply_of_pieces (runT X) L h2 (ix2 (x 0) (x 1)) (h3 (x 0) (x 1) ?_)).trans (congrArg (runT X) hx.symm)
  have := (x 1).isLt
  change (x 1).val < 1024 at this
  omega

end Cert.Kernel4Ideal.RefValue

end
-- ==== Proof.FirstBlocks.lean ====
/-
  The first ConvFFN's windows: which block of each array a grid point takes, and what the host code hands over.
-/
module

public import proofs.«01_k».proof.Proof.Gen.Kernel4Ideal.Frame.Runs
public import proofs.«01_k».proof.Proof.FirstSlab
public import proofs.«01_k».proof.Proof.FfnBlocks
public import Idealize.ShloMosaic.Lib.StableHlo.ReadAt
public import Idealize.ShloMosaic.Lib.Pointwise

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

open Cert.Kernel2Ideal.RefValue (rowX)
open Cert.Ffn

section
variable (m : (ℓ : Loc nD τ sig) → Buf (Elt Ideal) ℓ)

/-- The grid has sixteen points. -/
theorem ptN (t : Fin cfg0.N) : t.val < 16 := lt_of_lt_of_eq t.isLt (show cfg0.N = 16 from N_0)

/-- Which block of window 0 a grid point takes. -/
theorem idx0 : ∀ t : Fin cfg0.N, win0_0.index t (0 : Fin 2) = t.val ∧ win0_0.index t (1 : Fin 2) = 0 :=
  (by decide +kernel : ∀ t : Fin grid0.N, _)

/-- Where the entries of window 0's block lie in the whole array. -/
theorem emb0 (t : Fin cfg0.N) (r : Fin 1024) (q : Fin 1024) : ((cfg0.win 0).blk t).view.emb (ix2 r q) = ix2 ⟨1024 * t.val + r.val, by have := ptN t; omega⟩ q := by
  obtain ⟨e0, e1⟩ := idx0 t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * q.val = q.val; omega

/-- The block of window 0 at a grid point, read in the whole array. -/
theorem iblk0_at (c : Dev nD) (t : Fin cfg0.N) (r : Fin 1024) (q : Fin 1024) : iblk (F := Ideal) m c 0 t (ix2 r q) = V (F := Ideal) m c main_v0 (ix2 ⟨1024 * t.val + r.val, by have := ptN t; omega⟩ q) := by
  show V (F := Ideal) m c main_v0 (((cfg0.win 0).blk t).view.emb (ix2 r q)) = _; rw [emb0]

/-- Which block of window 1 a grid point takes. -/
theorem idx1 : ∀ t : Fin cfg0.N, win0_1.index t (0 : Fin 2) = 0 ∧ win0_1.index t (1 : Fin 2) = 0 :=
  (by decide +kernel : ∀ t : Fin grid0.N, _)

/-- Where the entries of window 1's block lie in the whole array. -/
theorem emb1 (t : Fin cfg0.N) (r : Fin 1) (q : Fin 1024) : ((cfg0.win 1).blk t).view.emb (ix2 r q) = ix2 r q := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 1024 + 1 * q.val = q.val; omega

/-- The block of window 1 at a grid point, read in the whole array. -/
theorem iblk1_at (c : Dev nD) (t : Fin cfg0.N) (r : Fin 1) (q : Fin 1024) : iblk (F := Ideal) m c 1 t (ix2 r q) = V (F := Ideal) m c main_v2 (ix2 r q) := by
  show V (F := Ideal) m c main_v2 (((cfg0.win 1).blk t).view.emb (ix2 r q)) = _; rw [emb1]

/-- Which block of window 2 a grid point takes. -/
theorem idx2 : ∀ t : Fin cfg0.N, win0_2.index t (0 : Fin 2) = 0 ∧ win0_2.index t (1 : Fin 2) = 0 :=
  (by decide +kernel : ∀ t : Fin grid0.N, _)

/-- Where the entries of window 2's block lie in the whole array. -/
theorem emb2 (t : Fin cfg0.N) (r : Fin 1024) (q : Fin 5632) : ((cfg0.win 2).blk t).view.emb (ix2 r q) = ix2 r q := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 5632 + 1 * q.val = q.val; omega

/-- The block of window 2 at a grid point, read in the whole array. -/
theorem iblk2_at (c : Dev nD) (t : Fin cfg0.N) (r : Fin 1024) (q : Fin 5632) : iblk (F := Ideal) m c 2 t (ix2 r q) = V (F := Ideal) m c main_v1 (ix2 r q) := by
  show V (F := Ideal) m c main_v1 (((cfg0.win 2).blk t).view.emb (ix2 r q)) = _; rw [emb2]

/-- Which block of window 3 a grid point takes. -/
theorem idx3 : ∀ t : Fin cfg0.N, win0_3.index t (0 : Fin 2) = 0 ∧ win0_3.index t (1 : Fin 2) = 0 :=
  (by decide +kernel : ∀ t : Fin grid0.N, _)

/-- Where the entries of window 3's block lie in the whole array. -/
theorem emb3 (t : Fin cfg0.N) (r : Fin 3) (q : Fin 5632) : ((cfg0.win 3).blk t).view.emb (ix2 r q) = ix2 r q := by
  obtain ⟨e0, e1⟩ := idx3 t
  funext a; apply Fin.ext
  match a with
  | ⟨0, _⟩ => show win0_3.index t (0 : Fin 2) * 3 + 1 * r.val = r.val; omega
  | ⟨1, _⟩ => show win0_3.index t (1 : Fin 2) * 5632 + 1 * q.val = q.val; omega

/-- The block of window 3 at a grid point, read in the whole array. -/
theorem iblk3_at (c : Dev nD) (t : Fin cfg0.N) (r : Fin 3) (q : Fin 5632) : iblk (F := Ideal) m c 3 t (ix2 r q) = V (F := Ideal) m c main_arg3 (ix2 r q) := by
  show V (F := Ideal) m c main_arg3 (((cfg0.win 3).blk t).view.emb (ix2 r q)) = _; rw [emb3]

/-- Which block of window 4 a grid point takes. -/
theorem idx4 : ∀ t : Fin cfg0.N, win0_4.index t (0 : Fin 2) = 0 ∧ win0_4.index t (1 : Fin 2) = 0 :=
  (by decide +kernel : ∀ t : Fin grid0.N, _)

/-- Where the entries of window 4's block lie in the whole array. -/
theorem emb4 (t : Fin cfg0.N) (r : Fin 1) (q : Fin 5632) : ((cfg0.win 4).blk t).view.emb (ix2 r q) = ix2 r q := by
  obtain ⟨e0, e1⟩ := idx4 t
  funext a; apply Fin.ext
  match a with
  | ⟨0, _⟩ => show win0_4.index t (0 : Fin 2) * 1 + 1 * r.val = r.val; omega
  | ⟨1, _⟩ => show win0_4.index t (1 : Fin 2) * 5632 + 1 * q.val = q.val; omega

/-- The block of window 4 at a grid point, read in the whole array. -/
theorem iblk4_at (c : Dev nD) (t : Fin cfg0.N) (r : Fin 1) (q : Fin 5632) : iblk (F := Ideal) m c 4 t (ix2 r q) = V (F := Ideal) m c main_v3 (ix2 r q) := by
  show V (F := Ideal) m c main_v3 (((cfg0.win 4).blk t).view.emb (ix2 r q)) = _; rw [emb4]

/-- Which block of window 5 a grid point takes. -/
theorem idx5 : ∀ t : Fin cfg0.N, win0_5.index t (0 : Fin 2) = 0 ∧ win0_5.index t (1 : Fin 2) = 0 :=
  (by decide +kernel : ∀ t : Fin grid0.N, _)

/-- Where the entries of window 5's block lie in the whole array. -/
theorem emb5 (t : Fin cfg0.N) (r : Fin 2816) (q : Fin 1024) : ((cfg0.win 5).blk t).view.emb (ix2 r q) = ix2 r q := by
  obtain ⟨e0, e1⟩ := idx5 t
  funext a; apply Fin.ext
  match a with
  | ⟨0, _⟩ => show win0_5.index t (0 : Fin 2) * 2816 + 1 * r.val = r.val; omega
  | ⟨1, _⟩ => show win0_5.index t (1 : Fin 2) * 1024 + 1 * q.val = q.val; omega

/-- The block of window 5 at a grid point, read in the whole array. -/
theorem iblk5_at (c : Dev nD) (t : Fin cfg0.N) (r : Fin 2816) (q : Fin 1024) : iblk (F := Ideal) m c 5 t (ix2 r q) = V (F := Ideal) m c main_v4 (ix2 r q) := by
  show V (F := Ideal) m c main_v4 (((cfg0.win 5).blk t).view.emb (ix2 r q)) = _; rw [emb5]

/-- Which block of window 7 a grid point takes. -/
theorem idx7 : ∀ t : Fin cfg0.N, win0_7.index t (0 : Fin 2) = t.val ∧ win0_7.index t (1 : Fin 2) = 0 :=
  (by decide +kernel : ∀ t : Fin grid0.N, _)

/-- Where the entries of window 7's block lie in the whole array. -/
theorem emb7 (t : Fin cfg0.N) (r : Fin 64) (q : Fin 3072) : ((cfg0.win 7).blk t).view.emb (ix2 r q) = ix2 ⟨64 * t.val + r.val, by have := ptN t; omega⟩ q := by
  obtain ⟨e0, e1⟩ := idx7 t
  funext a; apply Fin.ext
  match a with
  | ⟨0, _⟩ => show win0_7.index t (0 : Fin 2) * 64 + 1 * r.val = 64 * t.val + r.val; omega
  | ⟨1, _⟩ => show win0_7.index t (1 : Fin 2) * 3072 + 1 * q.val = q.val; omega

/-- The block of window 7 at a grid point, read in the whole array. -/
theorem iblk7_at (c : Dev nD) (t : Fin cfg0.N) (r : Fin 64) (q : Fin 3072) : iblk (F := Ideal) m c 7 t (ix2 r q) = V (F := Ideal) m c main_arg7 (ix2 ⟨64 * t.val + r.val, by have := ptN t; omega⟩ q) := by
  show V (F := Ideal) m c main_arg7 (((cfg0.win 7).blk t).view.emb (ix2 r q)) = _; rw [emb7]

/-- Which block of window 8 a grid point takes. -/
theorem idx8 : ∀ t : Fin cfg0.N, win0_8.index t (0 : Fin 2) = t.val ∧ win0_8.index t (1 : Fin 2) = 0 :=
  (by decide +kernel : ∀ t : Fin grid0.N, _)

/-- Where the entries of window 8's block lie in the whole array. -/
theorem emb8 (t : Fin cfg0.N) (r : Fin 64) (q : Fin 1024) : ((cfg0.win 8).blk t).view.emb (ix2 r q) = ix2 ⟨64 * t.val + r.val, by have := ptN t; omega⟩ q := by
  obtain ⟨e0, e1⟩ := idx8 t
  funext a; apply Fin.ext
  match a with
  | ⟨0, _⟩ => show win0_8.index t (0 : Fin 2) * 64 + 1 * r.val = 64 * t.val + r.val; omega
  | ⟨1, _⟩ => show win0_8.index t (1 : Fin 2) * 1024 + 1 * q.val = q.val; omega

/-- The block of window 8 at a grid point, read in the whole array. -/
theorem iblk8_at (c : Dev nD) (t : Fin cfg0.N) (r : Fin 64) (q : Fin 1024) : iblk (F := Ideal) m c 8 t (ix2 r q) = V (F := Ideal) m c main_arg8 (ix2 ⟨64 * t.val + r.val, by have := ptN t; omega⟩ q) := by
  show V (F := Ideal) m c main_arg8 (((cfg0.win 8).blk t).view.emb (ix2 r q)) = _; rw [emb8]

/-- The array that the host code hands to window 0, in the function's arguments. -/
theorem V0_at (c : Dev nD) (R : Fin 16384) (q : Fin 1024) : V (F := Ideal) m c main_v0 (ix2 R q)
    = m ((c : Thread nD τ).loc main_arg0) (ix3 (⟨R.val / 4096, by omega⟩ : Fin 4) (⟨R.val % 4096, by omega⟩ : Fin 4096) q) := by
  unfold V; after_reads_at
/-- The array `main_v1` that the host code hands over, in the function's arguments. -/
theorem V1_at (c : Dev nD) (r : Fin 1024) (q : Fin 5632) : V (F := Ideal) m c main_v1 (ix2 r q) = m ((c : Thread nD τ).loc main_arg2) (ix2 r q) := by
  unfold V; after_reads_at
/-- The array `main_v4` that the host code hands over, in the function's arguments. -/
theorem V4_at (c : Dev nD) (r : Fin 2816) (q : Fin 1024) : V (F := Ideal) m c main_v4 (ix2 r q) = m ((c : Thread nD τ).loc main_arg5) (ix2 r q) := by
  unfold V; after_reads_at
/-- The array `main_v2` that the host code hands over, in the function's arguments. -/
theorem V2_at (c : Dev nD) (r : Fin 1) (q : Fin 1024) : V (F := Ideal) m c main_v2 (ix2 r q) = m ((c : Thread nD τ).loc main_arg1) (ix1 q) := by
  unfold V; after_reads_at
/-- The array `main_v3` that the host code hands over, in the function's arguments. -/
theorem V3_at (c : Dev nD) (r : Fin 1) (q : Fin 5632) : V (F := Ideal) m c main_v3 (ix2 r q) = m ((c : Thread nD τ).loc main_arg4) (ix1 q) := by
  unfold V; after_reads_at

/-- Window 0's block at a grid point, put in run order, in the function's arguments. -/
theorem blk0 (c : Dev nD) (t : Fin cfg0.N) (r d : Fin 1024) : runT (iblk (F := Ideal) m c 0 t) (ix2 r d) = rowX (m ((c : Thread nD τ).loc main_arg0)) (1024 * t.val + r.val) d := by
  have h := ptN t
  have hr := r.isLt
  refine (iblk0_at m c t ⟨128 * (r.val % 8) + r.val / 8, by omega⟩ d).trans ?_
  rw [V0_at]
  unfold rowX xRow
  refine congrArg₂ (fun a b => m ((c : Thread nD τ).loc main_arg0) (ix3 a b d)) (Fin.ext ?_) (Fin.ext ?_)
  · show (1024 * t.val + (128 * (r.val % 8) + r.val / 8)) / 4096 = (1024 * t.val + r.val) / 4096 % 4
    have hp : 128 * (r.val % 8) + r.val / 8 < 1024 := by omega
    generalize 128 * (r.val % 8) + r.val / 8 = p at hp ⊢
    omega
  · show (1024 * t.val + (128 * (r.val % 8) + r.val / 8)) % 4096 = (1024 * ((1024 * t.val + r.val) / 1024 % 4) + 128 * ((1024 * t.val + r.val) % 8) + (1024 * t.val + r.val) % 1024 / 8) % 4096
    have e1 : (1024 * t.val + r.val) / 1024 = t.val := by omega
    have e2 : (1024 * t.val + r.val) % 8 = r.val % 8 := by omega
    have e3 : (1024 * t.val + r.val) % 1024 = r.val := by omega
    rw [e1, e2, e3]
    have hp : 128 * (r.val % 8) + r.val / 8 < 1024 := by omega
    rw [Nat.add_assoc (1024 * (t.val % 4))]
    generalize 128 * (r.val % 8) + r.val / 8 = p at hp ⊢
    omega
/-- Window 1's block at a grid point, in the function's arguments. -/
theorem blk1 (c : Dev nD) (t : Fin cfg0.N) (q : Fin 1024) : iblk (F := Ideal) m c 1 t (ix2 0 q) = m ((c : Thread nD τ).loc main_arg1) (ix1 q) := by
  rw [iblk1_at, V2_at]
/-- Window 2's block at a grid point, in the function's arguments. -/
theorem blk2 (c : Dev nD) (t : Fin cfg0.N) (r : Fin 1024) (q : Fin 5632) : iblk (F := Ideal) m c 2 t (ix2 r q) = m ((c : Thread nD τ).loc main_arg2) (ix2 r q) := by
  rw [iblk2_at, V1_at]
/-- Window 3's block at a grid point, in the function's arguments. -/
theorem blk3 (c : Dev nD) (t : Fin cfg0.N) (r : Fin 3) (q : Fin 5632) : iblk (F := Ideal) m c 3 t (ix2 r q) = m ((c : Thread nD τ).loc main_arg3) (ix2 r q) := by
  rw [iblk3_at, V_main_arg3]
/-- Window 4's block at a grid point, in the function's arguments. -/
theorem blk4 (c : Dev nD) (t : Fin cfg0.N) (q : Fin 5632) : iblk (F := Ideal) m c 4 t (ix2 0 q) = m ((c : Thread nD τ).loc main_arg4) (ix1 q) := by
  rw [iblk4_at, V3_at]
/-- Window 5's block at a grid point, in the function's arguments. -/
theorem blk5 (c : Dev nD) (t : Fin cfg0.N) (r : Fin 2816) (q : Fin 1024) : iblk (F := Ideal) m c 5 t (ix2 r q) = m ((c : Thread nD τ).loc main_arg5) (ix2 r q) := by
  rw [iblk5_at, V4_at]

end

end Cert.Kernel4Ideal.RefValue

end
-- ==== Proof.FirstConv.lean ====
/-
  What each of the eleven chunks of the first ConvFFN stores: the same functions as the last one's chunks.
-/
module

public import proofs.«01_k».proof.Proof.Gen.Kernel4Ideal.Skeleton
public import proofs.«01_k».proof.Proof.FfnConv
public import Idealize.ShloMosaic.Lib.Pointwise

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

/-- The normalised tile is the same function of the tile as the last ConvFFN's. -/
theorem xn_eq (x0 : FVec Ideal S1024x1024 .f32) (x1 : FVec Ideal S1x1024 .f32) : k0_pay1185 (F := Ideal) x0 x1 = Cert.Kernel2Ideal.Gen.k0_pay3 x0 x1 := by
  have e : Cert.Kernel2Ideal.Gen.k0_pay2 (F := Ideal) x0 = x0 := by
    funext j
    obtain ⟨r, q, rfl⟩ : ∃ r q : Fin 1024, j = ix2 r q := ⟨j 0, j 1, eq_ix2 j⟩
    pointwise [Cert.Kernel2Ideal.Gen.k0_pay2]
  unfold Cert.Kernel2Ideal.Gen.k0_pay3
  rw [e]
  rfl

/-- The carry's first contents are zero. -/
theorem zero_apply (j : S16x5632.Idx) : k0_pay4 (F := Ideal) j = 0 := by pointwise [k0_pay4]

/-- The tile's result in run order, from the gated activations, entry by entry. -/
theorem out_apply (x0 : FVec Ideal S1024x1024 .f32) (a : FVec Ideal S1024x2816 .bf16) (x5 : FVec Ideal S2816x1024 .bf16) (r d : Fin 1024) :
    k0_pay1 (F := Ideal) x0 a x5 (ix2 r d) = x0 (ix2 r d) + ∑ k : Fin 2816, a (ix2 r k) * x5 (ix2 k d) := by
  pointwise [k0_pay1]

/-- The strip of the next first weights is copied. -/
theorem strip10_eq (x : FVec Ideal S64x3072 .f32) (r : Fin 64) (q : Fin 3072) : k0_pay2 (F := Ideal) x (ix2 r q) = x (ix2 r q) := by
  pointwise [k0_pay2]

/-- The strip of the next second weights is copied. -/
theorem strip11_eq (x : FVec Ideal S64x1024 .f32) (r : Fin 64) (q : Fin 1024) : k0_pay3 (F := Ideal) x (ix2 r q) = x (ix2 r q) := by
  pointwise [k0_pay3]

/-- The gated activation that chunk 0 stores. -/
theorem act0_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1192 (F := Ideal) (k0_pay1188 (k0_pay1186 xn wg) pg cg bg) (k0_pay1189 xn wv) pv cv (k0_pay1191 bv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 1 stores. -/
theorem act1_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1200 (F := Ideal) (k0_pay1196 (k0_pay1193 xn wg) pg cg bg) (k0_pay1197 xn wv) pv cv bv
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 2 stores. -/
theorem act2_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1208 (F := Ideal) (k0_pay1207 xn (k0_pay1203 xn wg pg cg bg) (k0_pay1204 wv) (constant (F := Ideal) S1024x256 .f32 0x00000000#32) pv cv bv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 3 stores. -/
theorem act3_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1219 (F := Ideal) (k0_pay1214 (k0_pay1209 xn wg) (k0_pay1211 bg) (k0_pay1212 xn wg pg cg) (k0_pay1213 cg)) (k0_pay1217 bv) (k0_pay1218 xn wv pv cv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 4 stores. -/
theorem act4_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1236 (F := Ideal) (k0_pay1227 (k0_pay1220 xn wg) cg (k0_pay1222 bg) (k0_pay1225 xn wg pg) (k0_pay1226 xn wg pg)) (k0_pay1228 xn wv) cv (k0_pay1230 bv) (k0_pay1233 xn wv pv) (k0_pay1234 xn wv pv) (k0_pay1235 cv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 5 stores. -/
theorem act5_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1252 (F := Ideal) (k0_pay1244 (k0_pay1237 xn wg) cg (k0_pay1239 bg) k0_pay1240 (k0_pay1241 xn wg pg) (k0_pay1242 xn wg) (k0_pay1243 pg)) (k0_pay1245 xn wv) cv (k0_pay1247 bv) k0_pay1248 (k0_pay1249 xn wv pv) (k0_pay1250 xn wv) (k0_pay1251 pv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 6 stores. -/
theorem act6_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1264 (F := Ideal) (k0_pay1257 (k0_pay1253 xn wg) pg cg (k0_pay1255 bg) k0_pay1256) (k0_pay1258 xn wv) pv cv (k0_pay1260 bv) k0_pay1261 (k0_pay1262 xn wv) (k0_pay1263 pv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 7 stores. -/
theorem act7_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1270 (F := Ideal) (k0_pay1267 (k0_pay1265 xn wg) pg cg bg) (k0_pay1268 xn wv) pv cv bv
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 8 stores. -/
theorem act8_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1277 (F := Ideal) (k0_pay1273 (k0_pay1271 xn wg) pg cg bg) (k0_pay1274 xn wv) pv cv bv
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 9 stores. -/
theorem act9_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1284 (F := Ideal) ((k0_pay1283 xn (k0_pay1280 xn wg pg cg bg) wv pv cv bv))
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The gated activation that chunk 10 stores. -/
theorem act10_eq (xn : FVec Ideal S1024x1024 .bf16) (wg wv : FVec Ideal S1024x256 .bf16) (pg pv : FVec Ideal S16x256 .f32) (cg cv : FVec Ideal S3x256 .f32) (bg bv : FVec Ideal S1x256 .f32) :
    k0_pay1298 (F := Ideal) (k0_pay1292 (k0_pay1285 xn wg) cg (k0_pay1287 bg) (k0_pay1290 xn wg pg cg) (k0_pay1291 xn wg pg cg)) (k0_pay1293 xn wv) (k0_pay1295 bv) (k0_pay1296 xn wv pv cv) (k0_pay1297 cv)
      = Cert.Kernel2Ideal.Gen.k0_pay82 (Cert.Kernel2Ideal.Gen.k0_pay78 (Cert.Kernel2Ideal.Gen.k0_pay75 xn wg) pg cg bg) (Cert.Kernel2Ideal.Gen.k0_pay75 xn wv) pv cv bv := rfl

/-- The carry that chunk 0 stores of the gated half. -/
theorem carry0_eq (xn : FVec Ideal S1024x1024 .bf16) (wg : FVec Ideal S1024x256 .bf16) :
    k0_pay1187 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 0 stores of the ungated half. -/
theorem carry0v_eq (xn : FVec Ideal S1024x1024 .bf16) (wv : FVec Ideal S1024x256 .bf16) :
    k0_pay1190 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 1 stores of the gated half. -/
theorem carry1_eq (xn : FVec Ideal S1024x1024 .bf16) (wg : FVec Ideal S1024x256 .bf16) :
    k0_pay1195 (F := Ideal) (k0_pay1194 xn wg)
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 1 stores of the ungated half. -/
theorem carry1v_eq (xn : FVec Ideal S1024x1024 .bf16) (wv : FVec Ideal S1024x256 .bf16) :
    k0_pay1199 (F := Ideal) (k0_pay1198 xn wv)
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 2 stores of the gated half. -/
theorem carry2_eq (xn : FVec Ideal S1024x1024 .bf16) (wg : FVec Ideal S1024x256 .bf16) :
    k0_pay1202 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 2 stores of the ungated half. -/
theorem carry2v_eq (xn : FVec Ideal S1024x1024 .bf16) (wv : FVec Ideal S1024x256 .bf16) :
    k0_pay1206 (F := Ideal) xn (k0_pay1204 wv) (constant (F := Ideal) S1024x256 .f32 0x00000000#32)
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 3 stores of the gated half. -/
theorem carry3_eq (xn : FVec Ideal S1024x1024 .bf16) (wg : FVec Ideal S1024x256 .bf16) :
    k0_pay1210 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 3 stores of the ungated half. -/
theorem carry3v_eq (xn : FVec Ideal S1024x1024 .bf16) (wv : FVec Ideal S1024x256 .bf16) :
    k0_pay1216 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 4 stores of the gated half. -/
theorem carry4_eq (xn : FVec Ideal S1024x1024 .bf16) (wg : FVec Ideal S1024x256 .bf16) :
    k0_pay1221 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 4 stores of the ungated half. -/
theorem carry4v_eq (xn : FVec Ideal S1024x1024 .bf16) (wv : FVec Ideal S1024x256 .bf16) :
    k0_pay1229 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 5 stores of the gated half. -/
theorem carry5_eq (xn : FVec Ideal S1024x1024 .bf16) (wg : FVec Ideal S1024x256 .bf16) :
    k0_pay1238 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 5 stores of the ungated half. -/
theorem carry5v_eq (xn : FVec Ideal S1024x1024 .bf16) (wv : FVec Ideal S1024x256 .bf16) :
    k0_pay1246 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 6 stores of the gated half. -/
theorem carry6_eq (xn : FVec Ideal S1024x1024 .bf16) (wg : FVec Ideal S1024x256 .bf16) :
    k0_pay1254 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 6 stores of the ungated half. -/
theorem carry6v_eq (xn : FVec Ideal S1024x1024 .bf16) (wv : FVec Ideal S1024x256 .bf16) :
    k0_pay1259 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 7 stores of the gated half. -/
theorem carry7_eq (xn : FVec Ideal S1024x1024 .bf16) (wg : FVec Ideal S1024x256 .bf16) :
    k0_pay1266 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 7 stores of the ungated half. -/
theorem carry7v_eq (xn : FVec Ideal S1024x1024 .bf16) (wv : FVec Ideal S1024x256 .bf16) :
    k0_pay1269 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 8 stores of the gated half. -/
theorem carry8_eq (xn : FVec Ideal S1024x1024 .bf16) (wg : FVec Ideal S1024x256 .bf16) :
    k0_pay1272 (F := Ideal) (k0_pay1271 xn wg)
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 8 stores of the ungated half. -/
theorem carry8v_eq (xn : FVec Ideal S1024x1024 .bf16) (wv : FVec Ideal S1024x256 .bf16) :
    k0_pay1276 (F := Ideal) (k0_pay1275 xn wv)
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 9 stores of the gated half. -/
theorem carry9_eq (xn : FVec Ideal S1024x1024 .bf16) (wg : FVec Ideal S1024x256 .bf16) :
    k0_pay1279 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 9 stores of the ungated half. -/
theorem carry9v_eq (xn : FVec Ideal S1024x1024 .bf16) (wv : FVec Ideal S1024x256 .bf16) :
    k0_pay1282 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

/-- The carry that chunk 10 stores of the gated half. -/
theorem carry10_eq (xn : FVec Ideal S1024x1024 .bf16) (wg : FVec Ideal S1024x256 .bf16) :
    k0_pay1286 (F := Ideal) xn wg
      = Cert.Kernel2Ideal.Gen.k0_pay77 (extractStridedSlice S16x256 ![1008, 0] (Cert.Kernel2Ideal.Gen.k0_pay75 xn wg) Cert.Kernel2Ideal.Gen.slices_S1024x256_o1008_0_S16x256) := rfl

/-- The carry that chunk 10 stores of the ungated half. -/
theorem carry10v_eq (xn : FVec Ideal S1024x1024 .bf16) (wv : FVec Ideal S1024x256 .bf16) :
    k0_pay1294 (F := Ideal) xn wv
      = Cert.Kernel2Ideal.Gen.k0_pay77 (extractStridedSlice S16x256 ![1008, 0] (Cert.Kernel2Ideal.Gen.k0_pay75 xn wv) Cert.Kernel2Ideal.Gen.slices_S1024x256_o1008_0_S16x256) := rfl

end Cert.Kernel4Ideal.RefValue

end
-- ==== Proof.FirstOutA.lean ====
/-
  The first ConvFFN's body at the first tile of a sequence, where the carry is zero.
-/
module

public import proofs.«01_k».proof.Proof.First.RunA
public import proofs.«01_k».proof.Proof.FfnTile
public import proofs.«01_k».proof.Proof.FfnPlaces
public import proofs.«01_k».proof.Proof.FirstConv
public import proofs.«01_k».proof.Proof.FirstSlab
public import Idealize.ShloMosaic.Lib.Tactic.RunNames

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

open Cert.Kernel2Ideal.RefValue (xnT upT actT chunk_apply carry_apply Chunks Chunks.cons Chunks.nil Chunks.canon_apply canon_beside act_cover carry_cover box_idx ld_at rowX rowX_rowOf upT_at convT_at)
open Cert.KernelIdeal.RefValue (rowOf_tile)
open Cert.Mix (rowOf)
open Cert.Ffn

set_option maxHeartbeats 0 in
/-- The tile that the body reads back, at the first tile of a sequence, where the carry is zero: the tile in run order. -/
theorem runsA_read (c : Dev nD) (arg1 : Memref sig .tc .vmem S1024x1024 .f32) (harg1 : arg1.IsWhole) (arg16 : Memref sig .tc .vmem S8x1088x128 .f32)
    (arg17 : Memref sig .tc .vmem S1024x1024 .f32) (x0 : Vec Ideal S1024x1024 .f32) (inb) :
    arg17.view.readCov (Val := Elt Ideal) (kernelRun0_A.sl.HS4_1024 (F := Ideal) c arg1 harg1 arg16 x0) (Rect.unit (s := S1024x1024) ![0, 0] ![1024, 1024] inb).toLoadRect = runT x0 := by
  refine' InCols.read (v := arg16.view) (X := x0) (Ls := _) ?hc arg17.view inb
  case hc =>
    iterate 8
      apply InCols.col
      case hk => decide
      case hR =>
        iterate 128
          apply RunRows.cons
          case hp => rfl
          case hn => decide
        exact RunRows.nil
      case hS =>
        iterate 8
          apply SlabTiles.cons
          case hp => sl_unfold_run_values; rfl
          case hn => decide
          case hw =>
            intro a b
            sl_unfold_run_values
            rw [View.readAt_eq_ld, harg1.read_unread]
            refine ld_at (e := .f32) x0 _ _ _ a b _ _ ?_ ?_ <;> dsimp only
        exact SlabTiles.nil
    exact InCols.nil

/-- The normalised tile that the chunks read, at the first tile of a sequence, where the carry is zero. -/
theorem xnA_read (c : Dev nD) (arg1 : Memref sig .tc .vmem S1024x1024 .f32) (harg1 : arg1.IsWhole) (arg2 : Memref sig .tc .vmem S1x1024 .f32) (harg2 : arg2.IsWhole)
    (arg13 : Memref sig .tc .vmem S1024x1024 .bf16) (arg16 : Memref sig .tc .vmem S8x1088x128 .f32)
    (arg17 : Memref sig .tc .vmem S1024x1024 .f32) (x0 : Vec Ideal S1024x1024 .f32) (x1 : Vec Ideal S1x1024 .f32) (inb) :
    arg13.view.readCov (Val := Elt Ideal) (kernelRun0_A.sl.HS0_1 (F := Ideal) c arg1 harg1 arg2 harg2 arg16 arg17 x0 x1) (Rect.unit (s := S1024x1024) ![0, 0] ![1024, 1024] inb).toLoadRect
      = Cert.Kernel2Ideal.Gen.k0_pay3 (runT x0) x1 := by
  unfold kernelRun0_A.sl.HS0_1
  sl_unfold_run_values
  simp (disch := decide) only [View.readAt_eq_ld, harg2.read_unread, View.ld_unit_lit', View.readCov_cons_unit_lit']
  refine (xn_eq _ _).trans (congrArg (fun y => Cert.Kernel2Ideal.Gen.k0_pay3 y x1) ?_)
  exact runsA_read c arg1 harg1 arg16 arg17 x0 _

/-- A point's strip of a weight for the next call. -/
theorem stripA_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (r : Fin 64) (q : Fin 3072) :
    View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1 (ix2 r q) = x7 (ix2 r q) := by
  unfold kernelRun0_A
  dsimp only
  sl_unfold_run_names
  simp (disch := decide) only [View.readAt_eq_ld, harg1.read_unread, harg2.read_unread, harg3.read_unread, harg4.read_unread, harg5.read_unread, harg6.read_unread, harg7.read_unread, harg8.read_unread, harg9.read_unread, View.ld_unit_lit', View.canon_cons_unit_lit', View.readCov_cons_unit_lit']
  exact strip10_eq x7 r q

/-- A point's strip of a weight for the next call. -/
theorem stripA_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (r : Fin 64) (q : Fin 1024) :
    View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1 (ix2 r q) = x8 (ix2 r q) := by
  unfold kernelRun0_A
  dsimp only
  sl_unfold_run_names
  simp (disch := decide) only [View.readAt_eq_ld, harg1.read_unread, harg2.read_unread, harg3.read_unread, harg4.read_unread, harg5.read_unread, harg6.read_unread, harg7.read_unread, harg8.read_unread, harg9.read_unread, View.ld_unit_lit', View.canon_cons_unit_lit', View.readCov_cons_unit_lit']
  exact strip11_eq x8 r q

set_option maxHeartbeats 0 in
/-- The tile's result in run order, at the first tile of a sequence, where the carry is zero. -/
theorem outA_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (r d : Fin 1024) :
    View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1 (ix2 r d)
      = runT x0 (ix2 r d) + ∑ k : Fin 2816, actT (runT x0) x1 x2 x3 x4 (fun _ _ => 0) r k * x5 (ix2 k d) := by
  unfold kernelRun0_A
  dsimp only
  sl_unfold_run_values
  try unfold kernelRun0_A.sl.HS1_11
  try unfold kernelRun0_A.sl.HS1_10
  try unfold kernelRun0_A.sl.HS1_9
  try unfold kernelRun0_A.sl.HS1_8
  try unfold kernelRun0_A.sl.HS1_7
  try unfold kernelRun0_A.sl.HS1_6
  try unfold kernelRun0_A.sl.HS1_5
  try unfold kernelRun0_A.sl.HS1_4
  try unfold kernelRun0_A.sl.HS1_3
  try unfold kernelRun0_A.sl.HS1_2
  try unfold kernelRun0_A.sl.HS1_1
  sl_unfold_run_values
  try unfold kernelRun0_A.sl.HS2_23
  try unfold kernelRun0_A.sl.HS2_22
  try unfold kernelRun0_A.sl.HS2_21
  try unfold kernelRun0_A.sl.HS2_20
  try unfold kernelRun0_A.sl.HS2_19
  try unfold kernelRun0_A.sl.HS2_18
  try unfold kernelRun0_A.sl.HS2_17
  try unfold kernelRun0_A.sl.HS2_16
  try unfold kernelRun0_A.sl.HS2_15
  try unfold kernelRun0_A.sl.HS2_14
  try unfold kernelRun0_A.sl.HS2_13
  try unfold kernelRun0_A.sl.HS2_12
  try unfold kernelRun0_A.sl.HS2_11
  try unfold kernelRun0_A.sl.HS2_10
  try unfold kernelRun0_A.sl.HS2_9
  try unfold kernelRun0_A.sl.HS2_8
  try unfold kernelRun0_A.sl.HS2_7
  try unfold kernelRun0_A.sl.HS2_6
  try unfold kernelRun0_A.sl.HS2_5
  try unfold kernelRun0_A.sl.HS2_4
  try unfold kernelRun0_A.sl.HS2_3
  try unfold kernelRun0_A.sl.HS2_2
  try unfold kernelRun0_A.sl.HS2_1
  sl_unfold_run_values
  simp only [runsA_read, xnA_read]
  simp (disch := decide) only [View.readAt_eq_ld, harg1.read_unread, harg2.read_unread, harg3.read_unread, harg4.read_unread, harg5.read_unread, harg6.read_unread, harg7.read_unread, harg8.read_unread, harg9.read_unread, View.ld_unit_lit',
    View.canon_cons_unit_lit', View.readCov_cons_unit_lit']
  simp (disch := decide) only [View.readCov_eq_canon', View.canon_cons_unit_lit', xn_eq, act0_eq, act1_eq, act2_eq, act3_eq, act4_eq, act5_eq, act6_eq, act7_eq, act8_eq, act9_eq, act10_eq]
  rw [out_apply]
  refine congrArg (runT x0 (ix2 r d) + ·) (Finset.sum_congr rfl fun k _ => congrArg (· * x5 (ix2 k d)) ?_)
  rw [box_idx 0 _ _ k (by omega)]
  refine (Chunks.canon_apply (G := actT (runT x0) x1 x2 x3 x4 (fun _ _ => 0)) (os := [2560, 2304, 2048, 1792, 1536, 1280, 1024, 768, 512, 256, 0]) ?_ _ _ (act_cover _)).trans (congrArg _ (Fin.ext (Nat.zero_add _)))
  refine Chunks.cons 2560 _ _ _ _ (by decide) (fun r q => chunk_apply (runT x0) x1 x2 x3 x4 (fun _ _ => 0) 2560 5376 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 2304 _ _ _ _ (by decide) (fun r q => chunk_apply (runT x0) x1 x2 x3 x4 (fun _ _ => 0) 2304 5120 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 2048 _ _ _ _ (by decide) (fun r q => chunk_apply (runT x0) x1 x2 x3 x4 (fun _ _ => 0) 2048 4864 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1792 _ _ _ _ (by decide) (fun r q => chunk_apply (runT x0) x1 x2 x3 x4 (fun _ _ => 0) 1792 4608 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1536 _ _ _ _ (by decide) (fun r q => chunk_apply (runT x0) x1 x2 x3 x4 (fun _ _ => 0) 1536 4352 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1280 _ _ _ _ (by decide) (fun r q => chunk_apply (runT x0) x1 x2 x3 x4 (fun _ _ => 0) 1280 4096 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 1024 _ _ _ _ (by decide) (fun r q => chunk_apply (runT x0) x1 x2 x3 x4 (fun _ _ => 0) 1024 3840 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 768 _ _ _ _ (by decide) (fun r q => chunk_apply (runT x0) x1 x2 x3 x4 (fun _ _ => 0) 768 3584 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 512 _ _ _ _ (by decide) (fun r q => chunk_apply (runT x0) x1 x2 x3 x4 (fun _ _ => 0) 512 3328 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 256 _ _ _ _ (by decide) (fun r q => chunk_apply (runT x0) x1 x2 x3 x4 (fun _ _ => 0) 256 3072 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  refine Chunks.cons 0 _ _ _ _ (by decide) (fun r q => chunk_apply (runT x0) x1 x2 x3 x4 (fun _ _ => 0) 0 2816 (by decide) rfl _ _ _ _ _ _ _ _ r q (fun i => ?_) (fun i => ?_)) ?_
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  · beta_reduce
    repeat
      apply Eq.trans (canon_beside (n := 16) (N := 5632) (e := .f32) _ _ _ _ _ _ i q ?side)
      case side => decide
    first
      | exact zero_apply _
      | exact (congrFun (View.canon_cons_unit_lit' (Val := Elt Ideal) (S := S16x5632) (e := .f32) (off := ![0, 0]) _ _ _ (by decide)) _).trans (zero_apply _)
  exact Chunks.nil []

set_option maxHeartbeats 0 in
/-- The carry, at the first tile of a sequence, where the carry is zero: the last sixteen rows of the convolution's input. -/
theorem soutA_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (i' : Fin 16) (q : Fin 5632) :
    View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1 (ix2 i' q) = upT (runT x0) x1 x2 q ⟨1008 + i'.val, by omega⟩ := by
  unfold kernelRun0_A
  dsimp only
  sl_unfold_run_values
  try unfold kernelRun0_A.sl.HS1_11
  try unfold kernelRun0_A.sl.HS1_10
  try unfold kernelRun0_A.sl.HS1_9
  try unfold kernelRun0_A.sl.HS1_8
  try unfold kernelRun0_A.sl.HS1_7
  try unfold kernelRun0_A.sl.HS1_6
  try unfold kernelRun0_A.sl.HS1_5
  try unfold kernelRun0_A.sl.HS1_4
  try unfold kernelRun0_A.sl.HS1_3
  try unfold kernelRun0_A.sl.HS1_2
  try unfold kernelRun0_A.sl.HS1_1
  sl_unfold_run_values
  try unfold kernelRun0_A.sl.HS2_23
  try unfold kernelRun0_A.sl.HS2_22
  try unfold kernelRun0_A.sl.HS2_21
  try unfold kernelRun0_A.sl.HS2_20
  try unfold kernelRun0_A.sl.HS2_19
  try unfold kernelRun0_A.sl.HS2_18
  try unfold kernelRun0_A.sl.HS2_17
  try unfold kernelRun0_A.sl.HS2_16
  try unfold kernelRun0_A.sl.HS2_15
  try unfold kernelRun0_A.sl.HS2_14
  try unfold kernelRun0_A.sl.HS2_13
  try unfold kernelRun0_A.sl.HS2_12
  try unfold kernelRun0_A.sl.HS2_11
  try unfold kernelRun0_A.sl.HS2_10
  try unfold kernelRun0_A.sl.HS2_9
  try unfold kernelRun0_A.sl.HS2_8
  try unfold kernelRun0_A.sl.HS2_7
  try unfold kernelRun0_A.sl.HS2_6
  try unfold kernelRun0_A.sl.HS2_5
  try unfold kernelRun0_A.sl.HS2_4
  try unfold kernelRun0_A.sl.HS2_3
  try unfold kernelRun0_A.sl.HS2_2
  try unfold kernelRun0_A.sl.HS2_1
  sl_unfold_run_values
  simp only [runsA_read, xnA_read]
  simp (disch := decide) only [View.readAt_eq_ld, harg1.read_unread, harg2.read_unread, harg3.read_unread, harg4.read_unread, harg5.read_unread, harg6.read_unread, harg7.read_unread, harg8.read_unread, harg9.read_unread, View.ld_unit_lit', View.readCov_cons_unit_lit', xn_eq, carry0_eq, carry1_eq, carry2_eq, carry3_eq, carry4_eq, carry5_eq, carry6_eq, carry7_eq, carry8_eq, carry9_eq, carry10_eq, carry0v_eq, carry1v_eq, carry2v_eq, carry3v_eq, carry4v_eq, carry5v_eq, carry6v_eq, carry7v_eq, carry8v_eq, carry9v_eq, carry10v_eq]
  refine Chunks.canon_apply (e := .f32) (G := fun (i : Fin 16) (q : Fin 5632) => upT (runT x0) x1 x2 q ⟨1008 + i.val, by omega⟩) (os := [5376, 2560, 5120, 2304, 4864, 2048, 4608, 1792, 4352, 1536, 4096, 1280, 3840, 1024, 3584, 768, 3328, 512, 3072, 256, 2816, 0]) ?_ _ _ (carry_cover _)
  refine Chunks.cons 5376 _ _ _ _ (by decide) (fun i q => carry_apply (runT x0) x1 x2 5376 (by decide) _ i q) ?_
  refine Chunks.cons 2560 _ _ _ _ (by decide) (fun i q => carry_apply (runT x0) x1 x2 2560 (by decide) _ i q) ?_
  refine Chunks.cons 5120 _ _ _ _ (by decide) (fun i q => carry_apply (runT x0) x1 x2 5120 (by decide) _ i q) ?_
  refine Chunks.cons 2304 _ _ _ _ (by decide) (fun i q => carry_apply (runT x0) x1 x2 2304 (by decide) _ i q) ?_
  refine Chunks.cons 4864 _ _ _ _ (by decide) (fun i q => carry_apply (runT x0) x1 x2 4864 (by decide) _ i q) ?_
  refine Chunks.cons 2048 _ _ _ _ (by decide) (fun i q => carry_apply (runT x0) x1 x2 2048 (by decide) _ i q) ?_
  refine Chunks.cons 4608 _ _ _ _ (by decide) (fun i q => carry_apply (runT x0) x1 x2 4608 (by decide) _ i q) ?_
  refine Chunks.cons 1792 _ _ _ _ (by decide) (fun i q => carry_apply (runT x0) x1 x2 1792 (by decide) _ i q) ?_
  refine Chunks.cons 4352 _ _ _ _ (by decide) (fun i q => carry_apply (runT x0) x1 x2 4352 (by decide) _ i q) ?_
  refine Chunks.cons 1536 _ _ _ _ (by decide) (fun i q => carry_apply (runT x0) x1 x2 1536 (by decide) _ i q) ?_
  refine Chunks.cons 4096 _ _ _ _ (by decide) (fun i q => carry_apply (runT x0) x1 x2 4096 (by decide) _ i q) ?_
  refine Chunks.cons 1280 _ _ _ _ (by decide) (fun i q => carry_apply (runT x0) x1 x2 1280 (by decide) _ i q) ?_
  refine Chunks.cons 3840 _ _ _ _ (by decide) (fun i q => carry_apply (runT x0) x1 x2 3840 (by decide) _ i q) ?_
  refine Chunks.cons 1024 _ _ _ _ (by decide) (fun i q => carry_apply (runT x0) x1 x2 1024 (by decide) _ i q) ?_
  refine Chunks.cons 3584 _ _ _ _ (by decide) (fun i q => carry_apply (runT x0) x1 x2 3584 (by decide) _ i q) ?_
  refine Chunks.cons 768 _ _ _ _ (by decide) (fun i q => carry_apply (runT x0) x1 x2 768 (by decide) _ i q) ?_
  refine Chunks.cons 3328 _ _ _ _ (by decide) (fun i q => carry_apply (runT x0) x1 x2 3328 (by decide) _ i q) ?_
  refine Chunks.cons 512 _ _ _ _ (by decide) (fun i q => carry_apply (runT x0) x1 x2 512 (by decide) _ i q) ?_
  refine Chunks.cons 3072 _ _ _ _ (by decide) (fun i q => carry_apply (runT x0) x1 x2 3072 (by decide) _ i q) ?_
  refine Chunks.cons 256 _ _ _ _ (by decide) (fun i q => carry_apply (runT x0) x1 x2 256 (by decide) _ i q) ?_
  refine Chunks.cons 2816 _ _ _ _ (by decide) (fun i q => carry_apply (runT x0) x1 x2 2816 (by decide) _ i q) ?_
  refine Chunks.cons 0 _ _ _ _ (by decide) (fun i q => carry_apply (runT x0) x1 x2 0 (by decide) _ i q) ?_
  exact Chunks.nil _

end Cert.Kernel4Ideal.RefValue

end
-- ==== Proof.FirstOutB.lean ====
/-
  The first ConvFFN's body past the first tile of a sequence, over the carry the tile before left.
-/
module

public import proofs.«01_k».proof.Proof.First.RunB
public import proofs.«01_k».proof.Proof.FfnTile
public import proofs.«01_k».proof.Proof.FfnPlaces
public import proofs.«01_k».proof.Proof.FirstConv
public import proofs.«01_k».proof.Proof.FirstSlab
public import Idealize.ShloMosaic.Lib.Tactic.RunNames

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

open Cert.Kernel2Ideal.RefValue (xnT upT actT chunk_apply carry_apply Chunks Chunks.cons Chunks.nil Chunks.canon_apply canon_beside act_cover carry_cover box_idx ld_at rowX rowX_rowOf upT_at convT_at)
open Cert.KernelIdeal.RefValue (rowOf_tile)
open Cert.Mix (rowOf)
open Cert.Ffn

set_option maxHeartbeats 0 in
/-- The tile that the body reads back, past the first tile of a sequence, over the carry the tile before left: the tile in run order. -/
theorem runsB_read (c : Dev nD) (arg1 : Memref sig .tc .vmem S1024x1024 .f32) (harg1 : arg1.IsWhole) (arg16 : Memref sig .tc .vmem S8x1088x128 .f32)
    (arg17 : Memref sig .tc .vmem S1024x1024 .f32) (x0 : Vec Ideal S1024x1024 .f32) (inb) :
    arg17.view.readCov (Val := Elt Ideal) (kernelRun0_B.sl.HS4_1024 (F := Ideal) c arg1 harg1 arg16 x0) (Rect.unit (s := S1024x1024) ![0, 0] ![1024, 1024] inb).toLoadRect = runT x0 := by
  refine' InCols.read (v := arg16.view) (X := x0) (Ls := _) ?hc arg17.view inb
  case hc =>
    iterate 8
      apply InCols.col
      case hk => decide
      case hR =>
        iterate 128
          apply RunRows.cons
          case hp => rfl
          case hn => decide
        exact RunRows.nil
      case hS =>
        iterate 8
          apply SlabTiles.cons
          case hp => sl_unfold_run_values; rfl
          case hn => decide
          case hw =>
            intro a b
            sl_unfold_run_values
            rw [View.readAt_eq_ld, harg1.read_unread]
            refine ld_at (e := .f32) x0 _ _ _ a b _ _ ?_ ?_ <;> dsimp only
        exact SlabTiles.nil
    exact InCols.nil

/-- The normalised tile that the chunks read, past the first tile of a sequence, over the carry the tile before left. -/
theorem xnB_read (c : Dev nD) (arg1 : Memref sig .tc .vmem S1024x1024 .f32) (harg1 : arg1.IsWhole) (arg2 : Memref sig .tc .vmem S1x1024 .f32) (harg2 : arg2.IsWhole)
    (arg13 : Memref sig .tc .vmem S1024x1024 .bf16) (arg16 : Memref sig .tc .vmem S8x1088x128 .f32)
    (arg17 : Memref sig .tc .vmem S1024x1024 .f32) (x0 : Vec Ideal S1024x1024 .f32) (x1 : Vec Ideal S1x1024 .f32) (inb) :
    arg13.view.readCov (Val := Elt Ideal) (kernelRun0_B.sl.HS0_1 (F := Ideal) c arg1 harg1 arg2 harg2 arg16 arg17 x0 x1) (Rect.unit (s := S1024x1024) ![0, 0] ![1024, 1024] inb).toLoadRect
      = Cert.Kernel2Ideal.Gen.k0_pay3 (runT x0) x1 := by
  unfold kernelRun0_B.sl.HS0_1
  sl_unfold_run_values
  simp (disch := decide) only [View.readAt_eq_ld, harg2.read_unread, View.ld_unit_lit', View.readCov_cons_unit_lit']
  refine (xn_eq _ _).trans (congrArg (fun y => Cert.Kernel2Ideal.Gen.k0_pay3 y x1) ?_)
  exact runsB_read c arg1 harg1 arg16 arg17 x0 _

/-- A point's strip of a weight for the next call. -/
theorem stripB_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (r : Fin 64) (q : Fin 3072) :
    View.canon (Val := Elt Ideal) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.1 (ix2 r q) = x7 (ix2 r q) := by
  unfold kernelRun0_B
  dsimp only
  sl_unfold_run_names
  simp (disch := decide) only [View.readAt_eq_ld, harg1.read_unread, harg2.read_unread, harg3.read_unread, harg4.read_unread, harg5.read_unread, harg6.read_unread, harg7.read_unread, harg8.read_unread, harg9.read_unread, View.ld_unit_lit', View.canon_cons_unit_lit', View.readCov_cons_unit_lit']
  exact strip10_eq x7 r q

/-- A point's strip of a weight for the next call. -/
theorem stripB_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (r : Fin 64) (q : Fin 1024) :
    View.canon (Val := Elt Ideal) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.1 (ix2 r q) = x8 (ix2 r q) := by
  unfold kernelRun0_B
  dsimp only
  sl_unfold_run_names
  simp (disch := decide) only [View.readAt_eq_ld, harg1.read_unread, harg2.read_unread, harg3.read_unread, harg4.read_unread, harg5.read_unread, harg6.read_unread, harg7.read_unread, harg8.read_unread, harg9.read_unread, View.ld_unit_lit', View.canon_cons_unit_lit', View.readCov_cons_unit_lit']
  exact strip11_eq x8 r q

set_option maxHeartbeats 0 in
/-- The tile's result in run order, past the first tile of a sequence, over the carry the tile before left. -/
theorem outB_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (r d : Fin 1024) :
    View.canon (Val := Elt Ideal) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).1 (ix2 r d)
      = runT x0 (ix2 r d) + ∑ k : Fin 2816, actT (runT x0) x1 x2 x3 x4 (fun i q => xs2 (ix2 i q)) r k * x5 (ix2 k d) := by
  unfold kernelRun0_B
  dsimp only
  sl_unfold_run_values
  try unfold kernelRun0_B.sl.HS1_11
  try unfold kernelRun0_B.sl.HS1_10
  try unfold kernelRun0_B.sl.HS1_9
  try unfold kernelRun0_B.sl.HS1_8
  try unfold kernelRun0_B.sl.HS1_7
  try unfold kernelRun0_B.sl.HS1_6
  try unfold kernelRun0_B.sl.HS1_5
  try unfold kernelRun0_B.sl.HS1_4
  try unfold kernelRun0_B.sl.HS1_3
  try unfold kernelRun0_B.sl.HS1_2
  try unfold kernelRun0_B.sl.HS1_1
  sl_unfold_run_values
  try unfold kernelRun0_B.sl.HS2_23
  try unfold kernelRun0_B.sl.HS2_22
  try unfold kernelRun0_B.sl.HS2_21
  try unfold kernelRun0_B.sl.HS2_20
  try unfold kernelRun0_B.sl.HS2_19
  try unfold kernelRun0_B.sl.HS2_18
  try unfold kernelRun0_B.sl.HS2_17
  try unfold kernelRun0_B.sl.HS2_16
  try unfold kernelRun0_B.sl.HS2_15
  try unfold kernelRun0_B.sl.HS2_14
  try unfold kernelRun0_B.sl.HS2_13
  try unfold kernelRun0_B.sl.HS2_12
  try unfold kernelRun0_B.sl.HS2_11
  try unfold kernelRun0_B.sl.HS2_10
  try unfold kernelRun0_B.sl.HS2_9
  try unfold kernelRun0_B.sl.HS2_8
  try unfold kernelRun0_B.sl.HS2_7
  try unfold kernelRun0_B.sl.HS2_6
  try unfold kernelRun0_B.sl.HS2_5
  try unfold kernelRun0_B.sl.HS2_4
  try unfold kernelRun0_B.sl.HS2_3
  try unfold kernelRun0_B.sl.HS2_2
  try unfold kernelRun0_B.sl.HS2_1
  sl_unfold_run_values
  simp only [runsB_read, xnB_read]
  simp (disch := decide) only [View.readAt_eq_ld, harg1.read_unread, harg2.read_unread, harg3.read_unread, harg4.read_unread, harg5.read_unread, harg6.read_unread, harg7.read_unread, harg8.read_unread, harg9.read_unread, harg15.read_unread, View.ld_unit_lit',
    View.canon_cons_unit_lit', View.readCov_cons_unit_lit']
  simp (disch := decide) only [View.readCov_eq_canon', View.canon_cons_unit_lit', xn_eq, act0_eq, act1_eq, act2_eq, act3_eq, act4_eq, act5_eq, act6_eq, act7_eq, act8_eq, act9_eq, act10_eq]
  rw [out_apply]
  refine congrArg (runT x0 (ix2 r d) + ·) (Finset.sum_congr rfl fun k _ => congrArg (· * x5 (ix2 k d)) ?_)
  rw [box_idx 0 _ _ k (by omega)]
  refine (Chunks.canon_apply (G := actT (runT x0) x1 x2 x3 x4 (fun i q => xs2 (ix2 i q))) (os := [2560, 2304, 2048, 1792, 1536, 1280, 1024, 768, 512, 256, 0]) ?_ _ _ (act_cover _)).trans (congrArg _ (Fin.ext (Nat.zero_add _)))
  refine Chunks.cons 2560 _ _ _ _ (by decide) (fun r q => chunk_apply (runT x0) x1 x2 x3 x4 (fun i q => xs2 (ix2 i q)) 2560 5376 (by decide) rfl _ _ _ _ _ _ _ _ r q (fun i => ?_) (fun i => ?_)) ?_
  · exact ld_at (e := .f32) xs2 0 2560 _ i q i _ (Nat.zero_add _).symm rfl
  · exact ld_at (e := .f32) xs2 0 5376 _ i q i _ (Nat.zero_add _).symm rfl
  refine Chunks.cons 2304 _ _ _ _ (by decide) (fun r q => chunk_apply (runT x0) x1 x2 x3 x4 (fun i q => xs2 (ix2 i q)) 2304 5120 (by decide) rfl _ _ _ _ _ _ _ _ r q (fun i => ?_) (fun i => ?_)) ?_
  · exact ld_at (e := .f32) xs2 0 2304 _ i q i _ (Nat.zero_add _).symm rfl
  · exact ld_at (e := .f32) xs2 0 5120 _ i q i _ (Nat.zero_add _).symm rfl
  refine Chunks.cons 2048 _ _ _ _ (by decide) (fun r q => chunk_apply (runT x0) x1 x2 x3 x4 (fun i q => xs2 (ix2 i q)) 2048 4864 (by decide) rfl _ _ _ _ _ _ _ _ r q (fun i => ?_) (fun i => ?_)) ?_
  · exact ld_at (e := .f32) xs2 0 2048 _ i q i _ (Nat.zero_add _).symm rfl
  · exact ld_at (e := .f32) xs2 0 4864 _ i q i _ (Nat.zero_add _).symm rfl
  refine Chunks.cons 1792 _ _ _ _ (by decide) (fun r q => chunk_apply (runT x0) x1 x2 x3 x4 (fun i q => xs2 (ix2 i q)) 1792 4608 (by decide) rfl _ _ _ _ _ _ _ _ r q (fun i => ?_) (fun i => ?_)) ?_
  · exact ld_at (e := .f32) xs2 0 1792 _ i q i _ (Nat.zero_add _).symm rfl
  · exact ld_at (e := .f32) xs2 0 4608 _ i q i _ (Nat.zero_add _).symm rfl
  refine Chunks.cons 1536 _ _ _ _ (by decide) (fun r q => chunk_apply (runT x0) x1 x2 x3 x4 (fun i q => xs2 (ix2 i q)) 1536 4352 (by decide) rfl _ _ _ _ _ _ _ _ r q (fun i => ?_) (fun i => ?_)) ?_
  · exact ld_at (e := .f32) xs2 0 1536 _ i q i _ (Nat.zero_add _).symm rfl
  · exact ld_at (e := .f32) xs2 0 4352 _ i q i _ (Nat.zero_add _).symm rfl
  refine Chunks.cons 1280 _ _ _ _ (by decide) (fun r q => chunk_apply (runT x0) x1 x2 x3 x4 (fun i q => xs2 (ix2 i q)) 1280 4096 (by decide) rfl _ _ _ _ _ _ _ _ r q (fun i => ?_) (fun i => ?_)) ?_
  · exact ld_at (e := .f32) xs2 0 1280 _ i q i _ (Nat.zero_add _).symm rfl
  · exact ld_at (e := .f32) xs2 0 4096 _ i q i _ (Nat.zero_add _).symm rfl
  refine Chunks.cons 1024 _ _ _ _ (by decide) (fun r q => chunk_apply (runT x0) x1 x2 x3 x4 (fun i q => xs2 (ix2 i q)) 1024 3840 (by decide) rfl _ _ _ _ _ _ _ _ r q (fun i => ?_) (fun i => ?_)) ?_
  · exact ld_at (e := .f32) xs2 0 1024 _ i q i _ (Nat.zero_add _).symm rfl
  · exact ld_at (e := .f32) xs2 0 3840 _ i q i _ (Nat.zero_add _).symm rfl
  refine Chunks.cons 768 _ _ _ _ (by decide) (fun r q => chunk_apply (runT x0) x1 x2 x3 x4 (fun i q => xs2 (ix2 i q)) 768 3584 (by decide) rfl _ _ _ _ _ _ _ _ r q (fun i => ?_) (fun i => ?_)) ?_
  · exact ld_at (e := .f32) xs2 0 768 _ i q i _ (Nat.zero_add _).symm rfl
  · exact ld_at (e := .f32) xs2 0 3584 _ i q i _ (Nat.zero_add _).symm rfl
  refine Chunks.cons 512 _ _ _ _ (by decide) (fun r q => chunk_apply (runT x0) x1 x2 x3 x4 (fun i q => xs2 (ix2 i q)) 512 3328 (by decide) rfl _ _ _ _ _ _ _ _ r q (fun i => ?_) (fun i => ?_)) ?_
  · exact ld_at (e := .f32) xs2 0 512 _ i q i _ (Nat.zero_add _).symm rfl
  · exact ld_at (e := .f32) xs2 0 3328 _ i q i _ (Nat.zero_add _).symm rfl
  refine Chunks.cons 256 _ _ _ _ (by decide) (fun r q => chunk_apply (runT x0) x1 x2 x3 x4 (fun i q => xs2 (ix2 i q)) 256 3072 (by decide) rfl _ _ _ _ _ _ _ _ r q (fun i => ?_) (fun i => ?_)) ?_
  · exact ld_at (e := .f32) xs2 0 256 _ i q i _ (Nat.zero_add _).symm rfl
  · exact ld_at (e := .f32) xs2 0 3072 _ i q i _ (Nat.zero_add _).symm rfl
  refine Chunks.cons 0 _ _ _ _ (by decide) (fun r q => chunk_apply (runT x0) x1 x2 x3 x4 (fun i q => xs2 (ix2 i q)) 0 2816 (by decide) rfl _ _ _ _ _ _ _ _ r q (fun i => ?_) (fun i => ?_)) ?_
  · exact ld_at (e := .f32) xs2 0 0 _ i q i _ (Nat.zero_add _).symm rfl
  · exact ld_at (e := .f32) xs2 0 2816 _ i q i _ (Nat.zero_add _).symm rfl
  exact Chunks.nil []

set_option maxHeartbeats 0 in
/-- The carry, past the first tile of a sequence, over the carry the tile before left: the last sixteen rows of the convolution's input. -/
theorem soutB_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (i' : Fin 16) (q : Fin 5632) :
    View.canon (Val := Elt Ideal) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2).2.2.2.1 (ix2 i' q) = upT (runT x0) x1 x2 q ⟨1008 + i'.val, by omega⟩ := by
  unfold kernelRun0_B
  dsimp only
  sl_unfold_run_values
  try unfold kernelRun0_B.sl.HS1_11
  try unfold kernelRun0_B.sl.HS1_10
  try unfold kernelRun0_B.sl.HS1_9
  try unfold kernelRun0_B.sl.HS1_8
  try unfold kernelRun0_B.sl.HS1_7
  try unfold kernelRun0_B.sl.HS1_6
  try unfold kernelRun0_B.sl.HS1_5
  try unfold kernelRun0_B.sl.HS1_4
  try unfold kernelRun0_B.sl.HS1_3
  try unfold kernelRun0_B.sl.HS1_2
  try unfold kernelRun0_B.sl.HS1_1
  sl_unfold_run_values
  try unfold kernelRun0_B.sl.HS2_23
  try unfold kernelRun0_B.sl.HS2_22
  try unfold kernelRun0_B.sl.HS2_21
  try unfold kernelRun0_B.sl.HS2_20
  try unfold kernelRun0_B.sl.HS2_19
  try unfold kernelRun0_B.sl.HS2_18
  try unfold kernelRun0_B.sl.HS2_17
  try unfold kernelRun0_B.sl.HS2_16
  try unfold kernelRun0_B.sl.HS2_15
  try unfold kernelRun0_B.sl.HS2_14
  try unfold kernelRun0_B.sl.HS2_13
  try unfold kernelRun0_B.sl.HS2_12
  try unfold kernelRun0_B.sl.HS2_11
  try unfold kernelRun0_B.sl.HS2_10
  try unfold kernelRun0_B.sl.HS2_9
  try unfold kernelRun0_B.sl.HS2_8
  try unfold kernelRun0_B.sl.HS2_7
  try unfold kernelRun0_B.sl.HS2_6
  try unfold kernelRun0_B.sl.HS2_5
  try unfold kernelRun0_B.sl.HS2_4
  try unfold kernelRun0_B.sl.HS2_3
  try unfold kernelRun0_B.sl.HS2_2
  try unfold kernelRun0_B.sl.HS2_1
  sl_unfold_run_values
  simp only [runsB_read, xnB_read]
  simp (disch := decide) only [View.readAt_eq_ld, harg1.read_unread, harg2.read_unread, harg3.read_unread, harg4.read_unread, harg5.read_unread, harg6.read_unread, harg7.read_unread, harg8.read_unread, harg9.read_unread, harg15.read_unread, View.ld_unit_lit', View.readCov_cons_unit_lit', xn_eq, carry0_eq, carry1_eq, carry2_eq, carry3_eq, carry4_eq, carry5_eq, carry6_eq, carry7_eq, carry8_eq, carry9_eq, carry10_eq, carry0v_eq, carry1v_eq, carry2v_eq, carry3v_eq, carry4v_eq, carry5v_eq, carry6v_eq, carry7v_eq, carry8v_eq, carry9v_eq, carry10v_eq]
  refine Chunks.canon_apply (e := .f32) (G := fun (i : Fin 16) (q : Fin 5632) => upT (runT x0) x1 x2 q ⟨1008 + i.val, by omega⟩) (os := [5376, 2560, 5120, 2304, 4864, 2048, 4608, 1792, 4352, 1536, 4096, 1280, 3840, 1024, 3584, 768, 3328, 512, 3072, 256, 2816, 0]) ?_ _ _ (carry_cover _)
  refine Chunks.cons 5376 _ _ _ _ (by decide) (fun i q => carry_apply (runT x0) x1 x2 5376 (by decide) _ i q) ?_
  refine Chunks.cons 2560 _ _ _ _ (by decide) (fun i q => carry_apply (runT x0) x1 x2 2560 (by decide) _ i q) ?_
  refine Chunks.cons 5120 _ _ _ _ (by decide) (fun i q => carry_apply (runT x0) x1 x2 5120 (by decide) _ i q) ?_
  refine Chunks.cons 2304 _ _ _ _ (by decide) (fun i q => carry_apply (runT x0) x1 x2 2304 (by decide) _ i q) ?_
  refine Chunks.cons 4864 _ _ _ _ (by decide) (fun i q => carry_apply (runT x0) x1 x2 4864 (by decide) _ i q) ?_
  refine Chunks.cons 2048 _ _ _ _ (by decide) (fun i q => carry_apply (runT x0) x1 x2 2048 (by decide) _ i q) ?_
  refine Chunks.cons 4608 _ _ _ _ (by decide) (fun i q => carry_apply (runT x0) x1 x2 4608 (by decide) _ i q) ?_
  refine Chunks.cons 1792 _ _ _ _ (by decide) (fun i q => carry_apply (runT x0) x1 x2 1792 (by decide) _ i q) ?_
  refine Chunks.cons 4352 _ _ _ _ (by decide) (fun i q => carry_apply (runT x0) x1 x2 4352 (by decide) _ i q) ?_
  refine Chunks.cons 1536 _ _ _ _ (by decide) (fun i q => carry_apply (runT x0) x1 x2 1536 (by decide) _ i q) ?_
  refine Chunks.cons 4096 _ _ _ _ (by decide) (fun i q => carry_apply (runT x0) x1 x2 4096 (by decide) _ i q) ?_
  refine Chunks.cons 1280 _ _ _ _ (by decide) (fun i q => carry_apply (runT x0) x1 x2 1280 (by decide) _ i q) ?_
  refine Chunks.cons 3840 _ _ _ _ (by decide) (fun i q => carry_apply (runT x0) x1 x2 3840 (by decide) _ i q) ?_
  refine Chunks.cons 1024 _ _ _ _ (by decide) (fun i q => carry_apply (runT x0) x1 x2 1024 (by decide) _ i q) ?_
  refine Chunks.cons 3584 _ _ _ _ (by decide) (fun i q => carry_apply (runT x0) x1 x2 3584 (by decide) _ i q) ?_
  refine Chunks.cons 768 _ _ _ _ (by decide) (fun i q => carry_apply (runT x0) x1 x2 768 (by decide) _ i q) ?_
  refine Chunks.cons 3328 _ _ _ _ (by decide) (fun i q => carry_apply (runT x0) x1 x2 3328 (by decide) _ i q) ?_
  refine Chunks.cons 512 _ _ _ _ (by decide) (fun i q => carry_apply (runT x0) x1 x2 512 (by decide) _ i q) ?_
  refine Chunks.cons 3072 _ _ _ _ (by decide) (fun i q => carry_apply (runT x0) x1 x2 3072 (by decide) _ i q) ?_
  refine Chunks.cons 256 _ _ _ _ (by decide) (fun i q => carry_apply (runT x0) x1 x2 256 (by decide) _ i q) ?_
  refine Chunks.cons 2816 _ _ _ _ (by decide) (fun i q => carry_apply (runT x0) x1 x2 2816 (by decide) _ i q) ?_
  refine Chunks.cons 0 _ _ _ _ (by decide) (fun i q => carry_apply (runT x0) x1 x2 0 (by decide) _ i q) ?_
  exact Chunks.nil _

end Cert.Kernel4Ideal.RefValue

end
-- ==== Proof.FirstPoints.lean ====
/-
  What every grid point of the first ConvFFN leaves in its outputs and in the carry.
-/
module

public import proofs.«01_k».proof.Proof.First.Frame
public import proofs.«01_k».proof.Proof.FfnPlaces
public import proofs.«01_k».proof.Proof.FirstBlocks
public import proofs.«01_k».proof.Proof.FirstOutA
public import proofs.«01_k».proof.Proof.FirstOutB

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

open Cert.Kernel2Ideal.RefValue (xnT upT actT chunk_apply carry_apply Chunks Chunks.cons Chunks.nil Chunks.canon_apply canon_beside act_cover carry_cover box_idx ld_at rowX rowX_rowOf upT_at convT_at)
open Cert.KernelIdeal.RefValue (rowOf_tile)
open Cert.Mix (rowOf)
open Cert.Ffn

section
variable (X : FVec Ideal S4x4096x1024 .f32) (g : FVec Ideal S1024 .f32) (w : FVec Ideal S1024x5632 .f32) (T : ℕ)
  (x0 : FVec Ideal S1024x1024 .f32) (x1 : FVec Ideal S1x1024 .f32) (x2 : FVec Ideal S1024x5632 .bf16)

/-- The result of a tile is the block's at the rows' positions, when the carry holds the end of the tile before. -/
theorem sumT_at (cw : FVec Ideal S3x5632 .f32) (cb : FVec Ideal S5632 .f32) (wd : FVec Ideal S2816x1024 .f32)
    (x3 : FVec Ideal S3x5632 .f32) (x4 : FVec Ideal S1x5632 .f32) (x5 : FVec Ideal S2816x1024 .bf16) (p : Fin 16 → Fin 5632 → EReal)
    (h0 : ∀ r d, x0 (ix2 r d) = rowX X (1024 * T + r.val) d) (h1 : ∀ q, x1 (ix2 0 q) = g (ix1 q)) (h2 : ∀ r q, x2 (ix2 r q) = w (ix2 r q))
    (h3 : ∀ r q, x3 (ix2 r q) = cw (ix2 r q)) (h4 : ∀ q, x4 (ix2 0 q) = cb (ix1 q)) (h5 : ∀ r q, x5 (ix2 r q) = wd (ix2 r q))
    (hp : ∀ i q, p i q = if T % 4 = 0 then 0 else upRow (rowX X (1024 * (T - 1) + 1008 + i.val)) (fun d => g (ix1 d)) w q) (r d : Fin 1024) :
    x0 (ix2 r d) + ∑ k : Fin 2816, actT x0 x1 x2 x3 x4 p r k * x5 (ix2 k d) = sumPos X g w cw cb wd (T / 4) (1024 * (T % 4) + 128 * (r.val % 8) + r.val / 8) d := by
  have hr := r.isLt
  have ht : 1024 * (T % 4) + 128 * (r.val % 8) + r.val / 8 < 4096 := by omega
  have hrow : rowOf (T / 4) (1024 * (T % 4) + 128 * (r.val % 8) + r.val / 8) = 1024 * T + r.val := by
    rw [rowOf_tile _ _ _ (by omega) (by omega)]; omega
  unfold sumPos
  rw [h0, ← hrow, rowX_rowOf X _ _ ht]
  refine congrArg (xRow X _ _ d + ·) (Finset.sum_congr rfl fun k _ => ?_)
  unfold actT actPos
  rw [convT_at X g w T x0 x1 x2 cw cb x3 x4 p h0 h1 h2 h3 h4 hp, convT_at X g w T x0 x1 x2 cw cb x3 x4 p h0 h1 h2 h3 h4 hp, h5]

end

/-- What the output window holds, at the first tile of a sequence, where the carry is zero. -/
theorem out0_A_9_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (r d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 r d) = runT x0 (ix2 r d) + ∑ k : Fin 2816, actT (runT x0) x1 x2 x3 x4 (fun _ _ => 0) r k * x5 (ix2 k d) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  exact outA_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 r d

/-- What the carry holds, at the first tile of a sequence, where the carry is zero. -/
theorem sout0_A_2_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (i' : Fin 16) (q : Fin 5632) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 i' q) = upT (runT x0) x1 x2 q ⟨1008 + i'.val, by omega⟩ := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  exact soutA_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 i' q

/-- A point's strip of a weight for the next call. -/
theorem out0_A_10_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (r : Fin 64) (q : Fin 3072) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 r q) = x7 (ix2 r q) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  exact stripA_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 r q

/-- A point's strip of a weight for the next call. -/
theorem out0_A_11_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (r : Fin 64) (q : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 r q) = x8 (ix2 r q) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  exact stripA_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 r q

/-- What the output window holds, past the first tile of a sequence, over the carry the tile before left. -/
theorem out0_B_9_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (r d : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 (ix2 r d) = runT x0 (ix2 r d) + ∑ k : Fin 2816, actT (runT x0) x1 x2 x3 x4 (fun i q => xs2 (ix2 i q)) r k * x5 (ix2 k d) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  exact outB_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 r d

/-- What the carry holds, past the first tile of a sequence, over the carry the tile before left. -/
theorem sout0_B_2_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (i' : Fin 16) (q : Fin 5632) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 (ix2 i' q) = upT (runT x0) x1 x2 q ⟨1008 + i'.val, by omega⟩ := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  exact soutB_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 i' q

/-- A point's strip of a weight for the next call. -/
theorem out0_B_10_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (r : Fin 64) (q : Fin 3072) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 (ix2 r q) = x7 (ix2 r q) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  exact stripB_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 r q

/-- A point's strip of a weight for the next call. -/
theorem out0_B_11_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S64x3072 .f32) (harg8 : arg8.IsWhole) (arg9 : Memref sig .tc .vmem S64x1024 .f32) (harg9 : arg9.IsWhole) (arg10 : Memref sig .tc .vmem S1024x1024 .f32) (harg10 : arg10.IsWhole) (arg11 : Memref sig .tc .vmem S64x3072 .bf16) (harg11 : arg11.IsWhole) (arg12 : Memref sig .tc .vmem S64x1024 .bf16) (harg12 : arg12.IsWhole) (arg13 : Memref sig .tc .vmem S1024x1024 .bf16) (harg13 : arg13.IsWhole) (arg14 : Memref sig .tc .vmem S1024x2816 .bf16) (harg14 : arg14.IsWhole) (arg15 : Memref sig .tc .vmem S16x5632 .f32) (harg15 : arg15.IsWhole) (arg16 : Memref sig .tc .vmem S8x1088x128 .f32) (harg16 : arg16.IsWhole) (arg17 : Memref sig .tc .vmem S1024x1024 .f32) (harg17 : arg17.IsWhole) (hc0 : ¬cond0_0 i)
    (x0 : Vec Ideal S1024x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S64x3072 .f32) (x8 : Vec Ideal S64x1024 .f32) (xs2 : Vec Ideal S16x5632 .f32) (r : Fin 64) (q : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 (ix2 r q) = x8 (ix2 r q) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2)]
  exact stripB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs2 r q

section
variable (m : (ℓ : Loc nD τ sig) → Buf (Elt Ideal) ℓ)

/-- What every point leaves in the carry: the last 16 rows of the convolution's input of its tile. -/
theorem carry_at (c : Dev nD) (t : Fin cfg0.N) (i : Fin 16) (q : Fin 5632) :
    (outsAt0 m c t.val t.isLt).2.2.2 (ix2 i q)
      = upRow (rowX (m ((c : Thread nD τ).loc main_arg0)) (1024 * t.val + 1008 + i.val)) (fun d => m ((c : Thread nD τ).loc main_arg1) (ix1 d)) (m ((c : Thread nD τ).loc main_arg2)) q := by
  have key := upT_at (m ((c : Thread nD τ).loc main_arg0)) (m ((c : Thread nD τ).loc main_arg1)) (m ((c : Thread nD τ).loc main_arg2)) t.val
    (runT (iblk m c 0 t)) (iblk m c 1 t) (iblk m c 2 t) (blk0 m c t) (blk1 m c t) (blk2 m c t) q ⟨1008 + i.val, by omega⟩
  rw [show 1024 * t.val + (⟨1008 + i.val, by omega⟩ : Fin 1024).val = 1024 * t.val + 1008 + i.val from (Nat.add_assoc _ _ _).symm] at key
  refine Eq.trans ?_ key
  by_cases h0 : t.val % 4 = 0
  · rw [outsAt0_A m c t h0]
    dsimp only
    rw [sout0_A_2_apply]
  · rw [outsAt0_B m c t h0]
    dsimp only
    rw [sout0_B_2_apply]

/-- What every point leaves in its output tile. -/
theorem tile_at (c : Dev nD) (t : Fin cfg0.N) (r d : Fin 1024) :
    (outsAt0 m c t.val t.isLt).1 (ix2 r d)
      = sumPos (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (t.val / 4) (1024 * (t.val % 4) + 128 * (r.val % 8) + r.val / 8) d := by
  by_cases h0 : t.val % 4 = 0
  · rw [outsAt0_A m c t h0]
    dsimp only
    rw [out0_A_9_apply]
    exact sumT_at _ _ _ t.val _ _ _ _ _ _ _ _ _ _ (blk0 m c t) (blk1 m c t) (blk2 m c t) (blk3 m c t) (blk4 m c t) (blk5 m c t)
      (fun i q => (if_pos h0).symm) r d
  · rw [outsAt0_B m c t h0]
    dsimp only
    rw [out0_B_9_apply]
    exact sumT_at _ _ _ t.val _ _ _ _ _ _ _ _ _ _ (blk0 m c t) (blk1 m c t) (blk2 m c t) (blk3 m c t) (blk4 m c t) (blk5 m c t)
      (fun i q => by rw [if_neg h0]; exact carry_at m c ⟨t.val - 1, by have := t.isLt; omega⟩ i q) r d

/-- What every point leaves in its strip of a weight for the next call. -/
theorem strip10_at (c : Dev nD) (t : Fin cfg0.N) (r : Fin 64) (q : Fin 3072) :
    (outsAt0 m c t.val t.isLt).2.1 (ix2 r q) = m ((c : Thread nD τ).loc main_arg7) (ix2 ⟨64 * t.val + r.val, by have := ptN t; omega⟩ q) := by
  rw [← V_main_arg7 m c, ← iblk7_at]
  by_cases h0 : t.val % 4 = 0
  · rw [outsAt0_A m c t h0]
    dsimp only
    rw [out0_A_10_apply]
  · rw [outsAt0_B m c t h0]
    dsimp only
    rw [out0_B_10_apply]

/-- What every point leaves in its strip of a weight for the next call. -/
theorem strip11_at (c : Dev nD) (t : Fin cfg0.N) (r : Fin 64) (q : Fin 1024) :
    (outsAt0 m c t.val t.isLt).2.2.1 (ix2 r q) = m ((c : Thread nD τ).loc main_arg8) (ix2 ⟨64 * t.val + r.val, by have := ptN t; omega⟩ q) := by
  rw [← V_main_arg8 m c, ← iblk8_at]
  by_cases h0 : t.val % 4 = 0
  · rw [outsAt0_A m c t h0]
    dsimp only
    rw [out0_A_11_apply]
  · rw [outsAt0_B m c t h0]
    dsimp only
    rw [out0_B_11_apply]

end

end Cert.Kernel4Ideal.RefValue

end
-- ==== Proof.FirstReference.lean ====
/-
  The first ConvFFN's reference, row by row, in the run order of the layer's intermediate arrays.
-/
module

public import proofs.«01_k».proof.Proof.Gen.Reference4Ideal.Read
public import proofs.«01_k».proof.Proof.FfnReference
public import proofs.«01_k».proof.Proof.Reference

@[expose] public section

set_option maxRecDepth 16384

noncomputable section

namespace Cert.First

open Cert.Reference4Ideal Idealize.ShloMosaic Idealize.ShloMosaic.TcCoe Idealize.SL.Sem
open Idealize.ShloMosaic.Tactic

open Cert.Reference4Ideal.Read
open Cert.Mix (split_cols pos_eq)
open Cert.Ffn (sumPos)

/-- The first ConvFFN's sum with its input is the same function of its arguments as the last one's before the norm. -/
theorem v42_same (x0 : FVec Ideal S4x4096x1024 .f32) (x1 : FVec Ideal S1024 .f32) (x2 : FVec Ideal S1024x5632 .f32) (x3 : FVec Ideal S3x5632 .f32) (x4 : FVec Ideal S5632 .f32)
    (x5 : FVec Ideal S2816x1024 .f32) : val_main_v42 (F := Ideal) x0 x1 x2 x3 x4 x5 = Cert.Reference2Ideal.Read.val_main_v42 (F := Ideal) x0 x1 x2 x3 x4 x5 := rfl

/-- The reference's result at row `r`, column `d`: the block at the position the row holds. -/
theorem v45_at (x0 : FVec Ideal S4x4096x1024 .f32) (x1 : FVec Ideal S1024 .f32) (x2 : FVec Ideal S1024x5632 .f32) (x3 : FVec Ideal S3x5632 .f32) (x4 : FVec Ideal S5632 .f32)
    (x5 : FVec Ideal S2816x1024 .f32) (r : Fin 16384) (d : Fin 1024) :
    val_main_v45 (F := Ideal) x0 x1 x2 x3 x4 x5 (ix2 r d)
      = sumPos x0 x1 x2 x3 x4 x5 (r.val / 4096) (1024 * (r.val / 1024 % 4) + 128 * (r.val % 8) + r.val % 1024 / 8) d := by
  have hr := r.isLt; have hd := d.isLt
  have hs := fun X => split_cols X d.val hd
  refine Eq.trans ?_ (Cert.Ffn.v42_at x0 x1 x2 x3 x4 x5 ⟨r.val / 4096, by omega⟩ ⟨1024 * (r.val / 1024 % 4) + 128 * (r.val % 8) + r.val % 1024 / 8, by omega⟩ d)
  rw [← v42_same]
  rw [val_main_v45_apply, val_main_v44_apply, val_main_v43_apply]
  refine congrArg _ (funext fun a => Fin.ext ?_)
  match a with
  | ⟨0, _⟩ =>
    show ((((r.val * 1024 + d.val) / 1048576 * 8 + (r.val * 1024 + d.val) / 1024 % 8) * 128 + (r.val * 1024 + d.val) / 8192 % 128) * 1024 + (r.val * 1024 + d.val) % 1024) / 4194304 = r.val / 4096
    simp only [(hs _).1, (hs _).2.1, (hs _).2.2.1, (hs _).2.2.2.1, (hs _).2.2.2.2.1, (hs _).2.2.2.2.2]
    exact (pos_eq r.val hr).1
  | ⟨1, _⟩ =>
    show ((((r.val * 1024 + d.val) / 1048576 * 8 + (r.val * 1024 + d.val) / 1024 % 8) * 128 + (r.val * 1024 + d.val) / 8192 % 128) * 1024 + (r.val * 1024 + d.val) % 1024) / 1024 % 4096
      = 1024 * (r.val / 1024 % 4) + 128 * (r.val % 8) + r.val % 1024 / 8
    simp only [(hs _).1, (hs _).2.1, (hs _).2.2.1, (hs _).2.2.2.1, (hs _).2.2.2.2.1, (hs _).2.2.2.2.2]
    exact (pos_eq r.val hr).2
  | ⟨2, _⟩ =>
    show ((((r.val * 1024 + d.val) / 1048576 * 8 + (r.val * 1024 + d.val) / 1024 % 8) * 128 + (r.val * 1024 + d.val) / 8192 % 128) * 1024 + (r.val * 1024 + d.val) % 1024) % 1024 = d.val
    simp only [(hs _).1, (hs _).2.1, (hs _).2.2.1, (hs _).2.2.2.1, (hs _).2.2.2.2.1, (hs _).2.2.2.2.2]

end Cert.First

end
-- ==== Proof.FirstFinal.lean ====
/-
  The arrays of the first ConvFFN's results.
-/
module

public import proofs.«01_k».proof.Proof.First.Value
public import proofs.«01_k».proof.Proof.FirstPoints
public import proofs.«01_k».proof.Proof.FirstReference

@[expose] public section

set_option maxRecDepth 16384

noncomputable section

namespace Cert.Kernel4Ideal.RefValue

open Cert.Kernel4Ideal Cert.Kernel4Ideal.Gen Idealize.ShloMosaic Idealize.ShloMosaic.TcCoe Idealize.SL.Sem
open Idealize.ShloMosaic.Tactic

open Cert.Kernel2Ideal.RefValue (xnT upT actT chunk_apply carry_apply Chunks Chunks.cons Chunks.nil Chunks.canon_apply canon_beside act_cover carry_cover box_idx ld_at rowX rowX_rowOf upT_at convT_at)
open Cert.KernelIdeal.RefValue (rowOf_tile)
open Cert.Mix (rowOf)
open Cert.Ffn

section
variable (m : (ℓ : Loc nD τ sig) → Buf (Elt Ideal) ℓ)

/-- The array of the first result is the reference's, row by row. -/
theorem G9_eq (c : Dev nD) : Value.G9 (F := Ideal) m c
    = Cert.Reference4Ideal.Read.val_main_v45 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨r, d, rfl⟩ : ∃ (r : Fin 16384) (d : Fin 1024), i = ix2 r d := ⟨i 0, i 1, eq_ix2 i⟩
  have hr := r.isLt; have hd := d.isLt
  have hN : cfg0.N = 16 := N_0
  have hp : Value.pt9Of (ix2 r d) = r.val / 1024 := by
    show 1 * (r.val / 1024 - 0) + 1 * (d.val / 1024 - 0) = r.val / 1024; omega
  have hlt : Value.pt9Of (ix2 r d) < cfg0.N := by rw [hp, hN]; omega
  rw [Cert.First.v45_at]
  unfold Value.G9
  rw [dif_pos hlt, ← Value.outsAt0_sweep m c _ hlt]
  have hl : Value.loc9Of (ix2 r d) = ix2 (⟨r.val % 1024, by omega⟩ : Fin 1024) d := by
    funext a; apply Fin.ext
    match a with
    | ⟨0, _⟩ => rfl
    | ⟨1, _⟩ => show d.val % 1024 = d.val; omega
  rw [hl]
  refine (tile_at m c ⟨Value.pt9Of (ix2 r d), hlt⟩ _ _).trans ?_
  show sumPos _ _ _ _ _ _ (Value.pt9Of (ix2 r d) / 4) (1024 * (Value.pt9Of (ix2 r d) % 4) + 128 * (r.val % 1024 % 8) + r.val % 1024 / 8) d = _
  rw [hp, show r.val / 1024 / 4 = r.val / 4096 by omega, show r.val % 1024 % 8 = r.val % 8 by omega]

/-- The second result is the next layer's first weights. -/
theorem G10_eq (c : Dev nD) : Value.G10 (F := Ideal) m c = m ((c : Thread nD τ).loc main_arg7) := by
  funext i
  obtain ⟨r, q, rfl⟩ : ∃ (r : Fin 1024) (q : Fin 3072), i = ix2 r q := ⟨i 0, i 1, eq_ix2 i⟩
  have hr := r.isLt; have hq := q.isLt
  have hN : cfg0.N = 16 := N_0
  have hp : Value.pt10Of (ix2 r q) = r.val / 64 := by
    show 1 * (r.val / 64 - 0) + 1 * (q.val / 3072 - 0) = r.val / 64; omega
  have hlt : Value.pt10Of (ix2 r q) < cfg0.N := by rw [hp, hN]; omega
  unfold Value.G10
  rw [dif_pos hlt, ← Value.outsAt0_sweep m c _ hlt]
  have hl : Value.loc10Of (ix2 r q) = ix2 (⟨r.val % 64, by omega⟩ : Fin 64) q := by
    funext a; apply Fin.ext
    match a with
    | ⟨0, _⟩ => rfl
    | ⟨1, _⟩ => show q.val % 3072 = q.val; omega
  rw [hl]
  refine (strip10_at m c ⟨Value.pt10Of (ix2 r q), hlt⟩ _ _).trans ?_
  refine congrArg (fun i => m ((c : Thread nD τ).loc main_arg7) (ix2 i q)) (Fin.ext ?_)
  show 64 * Value.pt10Of (ix2 r q) + r.val % 64 = r.val
  rw [hp]; omega

/-- The third result is the next layer's second weights. -/
theorem G11_eq (c : Dev nD) : Value.G11 (F := Ideal) m c = m ((c : Thread nD τ).loc main_arg8) := by
  funext i
  obtain ⟨r, q, rfl⟩ : ∃ (r : Fin 1024) (q : Fin 1024), i = ix2 r q := ⟨i 0, i 1, eq_ix2 i⟩
  have hr := r.isLt; have hq := q.isLt
  have hN : cfg0.N = 16 := N_0
  have hp : Value.pt11Of (ix2 r q) = r.val / 64 := by
    show 1 * (r.val / 64 - 0) + 1 * (q.val / 1024 - 0) = r.val / 64; omega
  have hlt : Value.pt11Of (ix2 r q) < cfg0.N := by rw [hp, hN]; omega
  unfold Value.G11
  rw [dif_pos hlt, ← Value.outsAt0_sweep m c _ hlt]
  have hl : Value.loc11Of (ix2 r q) = ix2 (⟨r.val % 64, by omega⟩ : Fin 64) q := by
    funext a; apply Fin.ext
    match a with
    | ⟨0, _⟩ => rfl
    | ⟨1, _⟩ => show q.val % 1024 = q.val; omega
  rw [hl]
  refine (strip11_at m c ⟨Value.pt11Of (ix2 r q), hlt⟩ _ _).trans ?_
  refine congrArg (fun i => m ((c : Thread nD τ).loc main_arg8) (ix2 i q)) (Fin.ext ?_)
  show 64 * Value.pt11Of (ix2 r q) + r.val % 64 = r.val
  rw [hp]; omega

end

end Cert.Kernel4Ideal.RefValue

end
-- ==== Proof.lean ====
/-
  The claims about the short-conv mixer call, the two ConvFFN calls and the mLSTM call, put together from the modules under Proof/.
-/
module

public import proofs.«01_k».proof.Defs
public import proofs.«01_k».proof.Proof.FrameMix
public import proofs.«01_k».proof.Proof.FrameFfn
public import proofs.«01_k».proof.Proof.FrameMlstm
public import proofs.«01_k».proof.Proof.FrameFirst
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.FfnFinal
public import proofs.«01_k».proof.Proof.FirstFinal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4
public import proofs.«01_k».proof.Proof.First.Frame
public import proofs.«01_k».proof.Proof.First.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem frameKernelIdeal : Cert.quiescent_KernelIdeal (hKernelIdeal := Cert.KernelIdeal.Gen.facts) := fun m ρ _ => Cert.KernelIdeal.Gen.frame m ρ

theorem frameReferenceIdeal : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The kernel's three results and the reference's are equal: the mixer's array by `G9_eq`, the two casts by `G10_eq` and `G11_eq`. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.G9 m c, fun c => Cert.KernelIdeal.Value.G10 m c, fun c => Cert.KernelIdeal.Value.G11 m c,
    Cert.KernelIdeal.Value.run (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8⟩ := hagree c
    refine (Cert.ReferenceIdeal.Read.val_main_v49_eq m' c).trans ?_
    rw [a0, a1, a2, a3, a4, a5]
    exact (Cert.KernelIdeal.RefValue.G9_eq m c).symm
  · obtain ⟨a0, a1, a2, a3, a4, a5, a6, a7, a8⟩ := hagree c
    rw [a7]
    exact (Cert.KernelIdeal.RefValue.G10_eq m c).symm
  · obtain ⟨a0, a1, a2, a3, a4, a5, a6, a7, a8⟩ := hagree c
    rw [a8]
    exact (Cert.KernelIdeal.RefValue.G11_eq m c).symm

theorem frameKernel2Ideal : Cert.quiescent_Kernel2Ideal (hKernel2Ideal := Cert.Kernel2Ideal.Gen.facts) := fun m ρ _ => Cert.Kernel2Ideal.Gen.frame m ρ

theorem frameReference2Ideal : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The last ConvFFN's array and the reference's are equal, by `G7_eq`. -/
theorem algebraic2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.Value.G7 m c, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5, a6⟩ := hagree c
  refine (Cert.Reference2Ideal.Read.val_main_v56_eq m' c).trans ?_
  rw [a0, a1, a2, a3, a4, a5, a6]
  exact (Cert.Kernel2Ideal.RefValue.G7_eq m c).symm

theorem frameKernel3Ideal : Cert.quiescent_Kernel3Ideal (hKernel3Ideal := Cert.Kernel3Ideal.Gen.facts) := fun m ρ _ => Cert.Kernel3Ideal.Gen.frame m ρ

theorem frameKernel4Ideal : Cert.quiescent_Kernel4Ideal (hKernel4Ideal := Cert.Kernel4Ideal.Gen.facts) := fun m ρ _ => Cert.Kernel4Ideal.Gen.frame m ρ

theorem frameReference4Ideal : Cert.quiescent_Reference4Ideal (hReference4Ideal := Cert.Reference4Ideal.Gen.facts) := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- The first ConvFFN's three results and the reference's are equal: the block's array by `G9_eq`, the two casts by `G10_eq` and `G11_eq`. -/
theorem algebraic4 : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.Value.G9 m c, fun c => Cert.Kernel4Ideal.Value.G10 m c, fun c => Cert.Kernel4Ideal.Value.G11 m c,
    Cert.Kernel4Ideal.Value.run (F := Ideal) m ρ, ?_⟩
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  · obtain ⟨a0, a1, a2, a3, a4, a5, a6, a7, a8⟩ := hagree c
    refine (Cert.Reference4Ideal.Read.val_main_v45_eq m' c).trans ?_
    rw [a0, a1, a2, a3, a4, a5]
    exact (Cert.Kernel4Ideal.RefValue.G9_eq m c).symm
  · obtain ⟨a0, a1, a2, a3, a4, a5, a6, a7, a8⟩ := hagree c
    rw [a7]
    exact (Cert.Kernel4Ideal.RefValue.G10_eq m c).symm
  · obtain ⟨a0, a1, a2, a3, a4, a5, a6, a7, a8⟩ := hagree c
    rw [a8]
    exact (Cert.Kernel4Ideal.RefValue.G11_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Kernel4.Gen.facts, Cert.Kernel4Ideal.Gen.facts, Cert.Reference4Ideal.Gen.facts,
  frameKernel, frameKernelIdeal, frameReferenceIdeal, frameKernel2, frameKernel2Ideal, frameReference2Ideal, frameKernel3, frameKernel3Ideal,
  frameKernel4, frameKernel4Ideal, frameReference4Ideal,
  trivial, algebraic, trivial, algebraic2, trivial, trivial, algebraic4⟩

end Cert.Proof

end
